-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1))).1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1))).2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1))).1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1))).2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Gmm (m : (ℓ : Loc Cert.Gmm.nD Cert.Gmm.τ Cert.Gmm.sig) → Buf (Elt Bits) ℓ) : Prop :=
  True

def Pre_GmmIdeal (m : (ℓ : Loc Cert.GmmIdeal.nD Cert.GmmIdeal.τ Cert.GmmIdeal.sig) → Buf (Elt Ideal) ℓ) : Prop :=
  True

def Pre_GmmRefIdeal (m : (ℓ : Loc Cert.GmmRefIdeal.nD Cert.GmmRefIdeal.τ Cert.GmmRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).1 = (fun _ => 1#1)
    ∧ (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_finite [hPre_router_finite : Cert.Pre_router_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1))).1 = (fun _ => 1#1)
    ∧ (Cert.Pre_router_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Gmm [hGmm : Cert.Gmm.Facts] : Prop :=
  ∀ (m : (ℓ : Loc Cert.Gmm.nD Cert.Gmm.τ Cert.Gmm.sig) → Buf (Elt Bits) ℓ) (g : Dev Cert.Gmm.nD → PrngReg), Pre_Gmm m →
    θ_run (Cert.Gmm.defs (F := Bits)) (onTc (τ := Cert.Gmm.τ) (Cert.Gmm.main (F := Bits))) ⟨m, fun _ => 0, g⟩ (fun r => (∀ c : Dev Cert.Gmm.nD,
      r.2.mem ((c.tc : Thread Cert.Gmm.nD Cert.Gmm.τ).loc Cert.Gmm.main_arg0) = m ((c.tc : Thread Cert.Gmm.nD Cert.Gmm.τ).loc Cert.Gmm.main_arg0)
      ∧ r.2.mem ((c.tc : Thread Cert.Gmm.nD Cert.Gmm.τ).loc Cert.Gmm.main_arg1) = m ((c.tc : Thread Cert.Gmm.nD Cert.Gmm.τ).loc Cert.Gmm.main_arg1)
      ∧ r.2.mem ((c.tc : Thread Cert.Gmm.nD Cert.Gmm.τ).loc Cert.Gmm.main_arg2) = m ((c.tc : Thread Cert.Gmm.nD Cert.Gmm.τ).loc Cert.Gmm.main_arg2)
      ∧ r.2.mem ((c.tc : Thread Cert.Gmm.nD Cert.Gmm.τ).loc Cert.Gmm.main_arg3) = m ((c.tc : Thread Cert.Gmm.nD Cert.Gmm.τ).loc Cert.Gmm.main_arg3))
      ∧ r.2.sem = fun _ => 0)

def quiescent_GmmIdeal [hGmmIdeal : Cert.GmmIdeal.Facts] : Prop :=
  ∀ (m : (ℓ : Loc Cert.GmmIdeal.nD Cert.GmmIdeal.τ Cert.GmmIdeal.sig) → Buf (Elt Ideal) ℓ) (g : Dev Cert.GmmIdeal.nD → PrngReg), Pre_GmmIdeal m →
    θ_run (Cert.GmmIdeal.defs (F := Ideal)) (onTc (τ := Cert.GmmIdeal.τ) (Cert.GmmIdeal.main (F := Ideal))) ⟨m, fun _ => 0, g⟩ (fun r => (∀ c : Dev Cert.GmmIdeal.nD,
      r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
      ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
      ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
      ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3))
      ∧ r.2.sem = fun _ => 0)

def quiescent_GmmRefIdeal [hGmmRefIdeal : Cert.GmmRefIdeal.Facts] : Prop :=
  ∀ (m : (ℓ : Loc Cert.GmmRefIdeal.nD Cert.GmmRefIdeal.τ Cert.GmmRefIdeal.sig) → Buf (Elt Ideal) ℓ) (g : Dev Cert.GmmRefIdeal.nD → PrngReg), Pre_GmmRefIdeal m →
    θ_run (Cert.GmmRefIdeal.defs (F := Ideal)) (onTc (τ := Cert.GmmRefIdeal.τ) (Cert.GmmRefIdeal.main (F := Ideal))) ⟨m, fun _ => 0, g⟩ (fun r => (∀ c : Dev Cert.GmmRefIdeal.nD,
      r.2.mem ((c.tc : Thread Cert.GmmRefIdeal.nD Cert.GmmRefIdeal.τ).loc Cert.GmmRefIdeal.main_arg0) = m ((c.tc : Thread Cert.GmmRefIdeal.nD Cert.GmmRefIdeal.τ).loc Cert.GmmRefIdeal.main_arg0)
      ∧ r.2.mem ((c.tc : Thread Cert.GmmRefIdeal.nD Cert.GmmRefIdeal.τ).loc Cert.GmmRefIdeal.main_arg1) = m ((c.tc : Thread Cert.GmmRefIdeal.nD Cert.GmmRefIdeal.τ).loc Cert.GmmRefIdeal.main_arg1)
      ∧ r.2.mem ((c.tc : Thread Cert.GmmRefIdeal.nD Cert.GmmRefIdeal.τ).loc Cert.GmmRefIdeal.main_arg2) = m ((c.tc : Thread Cert.GmmRefIdeal.nD Cert.GmmRefIdeal.τ).loc Cert.GmmRefIdeal.main_arg2)
      ∧ r.2.mem ((c.tc : Thread Cert.GmmRefIdeal.nD Cert.GmmRefIdeal.τ).loc Cert.GmmRefIdeal.main_arg3) = m ((c.tc : Thread Cert.GmmRefIdeal.nD Cert.GmmRefIdeal.τ).loc Cert.GmmRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_RouterRefIdeal_pre_router_finite [hRouterRefIdeal : Cert.RouterRefIdeal.Facts] [hPre_router_finite : Cert.Pre_router_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v8)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v63) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v22)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v22) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v48) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v90)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v90) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v96) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Gmm_GmmIdeal : Prop :=
  True

def algebraic_GmmIdeal_GmmRefIdeal [hGmmIdeal : Cert.GmmIdeal.Facts] [hGmmRefIdeal : Cert.GmmRefIdeal.Facts] : Prop :=
  ∀ (m : (ℓ : Loc Cert.GmmIdeal.nD Cert.GmmIdeal.τ Cert.GmmIdeal.sig) → Buf (Elt Ideal) ℓ) (g : Dev Cert.GmmIdeal.nD → PrngReg)
    (m' : (ℓ : Loc Cert.GmmRefIdeal.nD Cert.GmmRefIdeal.τ Cert.GmmRefIdeal.sig) → Buf (Elt Ideal) ℓ) (g' : Dev Cert.GmmRefIdeal.nD → PrngReg), Pre_GmmIdeal m →
    (∀ c : Dev Cert.GmmIdeal.nD,
      m' ((c.tc : Thread Cert.GmmRefIdeal.nD Cert.GmmRefIdeal.τ).loc Cert.GmmRefIdeal.main_arg0) = m ((c.tc : Thread Cert.GmmIdeal.nD Cert.GmmIdeal.τ).loc Cert.GmmIdeal.main_arg0)
      ∧ m' ((c.tc : Thread Cert.GmmRefIdeal.nD Cert.GmmRefIdeal.τ).loc Cert.GmmRefIdeal.main_arg1) = m ((c.tc : Thread Cert.GmmIdeal.nD Cert.GmmIdeal.τ).loc Cert.GmmIdeal.main_arg1)
      ∧ m' ((c.tc : Thread Cert.GmmRefIdeal.nD Cert.GmmRefIdeal.τ).loc Cert.GmmRefIdeal.main_arg2) = m ((c.tc : Thread Cert.GmmIdeal.nD Cert.GmmIdeal.τ).loc Cert.GmmIdeal.main_arg2)
      ∧ m' ((c.tc : Thread Cert.GmmRefIdeal.nD Cert.GmmRefIdeal.τ).loc Cert.GmmRefIdeal.main_arg3) = m ((c.tc : Thread Cert.GmmIdeal.nD Cert.GmmIdeal.τ).loc Cert.GmmIdeal.main_arg3)) →
    ∃ (v0 : (c : Dev Cert.GmmIdeal.nD) → Buf (Elt Ideal) ((c.tc : Thread Cert.GmmIdeal.nD Cert.GmmIdeal.τ).loc Cert.GmmIdeal.main_v9)),
      θ_run (Cert.GmmIdeal.defs (F := Ideal)) (onTc (τ := Cert.GmmIdeal.τ) (Cert.GmmIdeal.main (F := Ideal))) ⟨m, fun _ => 0, g⟩ (fun r => ∀ c : Dev Cert.GmmIdeal.nD,
          r.2.mem ((c.tc : Thread Cert.GmmIdeal.nD Cert.GmmIdeal.τ).loc Cert.GmmIdeal.main_v9) = v0 c
          ∧ r.2.mem ((c.tc : Thread Cert.GmmIdeal.nD Cert.GmmIdeal.τ).loc Cert.GmmIdeal.main_arg0) = m ((c.tc : Thread Cert.GmmIdeal.nD Cert.GmmIdeal.τ).loc Cert.GmmIdeal.main_arg0)
          ∧ r.2.mem ((c.tc : Thread Cert.GmmIdeal.nD Cert.GmmIdeal.τ).loc Cert.GmmIdeal.main_arg1) = m ((c.tc : Thread Cert.GmmIdeal.nD Cert.GmmIdeal.τ).loc Cert.GmmIdeal.main_arg1)
          ∧ r.2.mem ((c.tc : Thread Cert.GmmIdeal.nD Cert.GmmIdeal.τ).loc Cert.GmmIdeal.main_arg2) = m ((c.tc : Thread Cert.GmmIdeal.nD Cert.GmmIdeal.τ).loc Cert.GmmIdeal.main_arg2)
          ∧ r.2.mem ((c.tc : Thread Cert.GmmIdeal.nD Cert.GmmIdeal.τ).loc Cert.GmmIdeal.main_arg3) = m ((c.tc : Thread Cert.GmmIdeal.nD Cert.GmmIdeal.τ).loc Cert.GmmIdeal.main_arg3))
      ∧ θ_run (Cert.GmmRefIdeal.defs (F := Ideal)) (onTc (τ := Cert.GmmRefIdeal.τ) (Cert.GmmRefIdeal.main (F := Ideal))) ⟨m', fun _ => 0, g'⟩ (fun r => ∀ c : Dev Cert.GmmRefIdeal.nD,
          r.2.mem ((c.tc : Thread Cert.GmmRefIdeal.nD Cert.GmmRefIdeal.τ).loc Cert.GmmRefIdeal.main_v8) = v0 c
          ∧ r.2.mem ((c.tc : Thread Cert.GmmRefIdeal.nD Cert.GmmRefIdeal.τ).loc Cert.GmmRefIdeal.main_arg0) = m' ((c.tc : Thread Cert.GmmRefIdeal.nD Cert.GmmRefIdeal.τ).loc Cert.GmmRefIdeal.main_arg0)
          ∧ r.2.mem ((c.tc : Thread Cert.GmmRefIdeal.nD Cert.GmmRefIdeal.τ).loc Cert.GmmRefIdeal.main_arg1) = m' ((c.tc : Thread Cert.GmmRefIdeal.nD Cert.GmmRefIdeal.τ).loc Cert.GmmRefIdeal.main_arg1)
          ∧ r.2.mem ((c.tc : Thread Cert.GmmRefIdeal.nD Cert.GmmRefIdeal.τ).loc Cert.GmmRefIdeal.main_arg2) = m' ((c.tc : Thread Cert.GmmRefIdeal.nD Cert.GmmRefIdeal.τ).loc Cert.GmmRefIdeal.main_arg2)
          ∧ r.2.mem ((c.tc : Thread Cert.GmmRefIdeal.nD Cert.GmmRefIdeal.τ).loc Cert.GmmRefIdeal.main_arg3) = m' ((c.tc : Thread Cert.GmmRefIdeal.nD Cert.GmmRefIdeal.τ).loc Cert.GmmRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v3) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v76) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)) (v2 : (c : Dev Cert.InprojIdeal.nD) → Buf (Elt Ideal) ((c.tc : Thread Cert.InprojIdeal.nD Cert.InprojIdeal.τ).loc Cert.InprojIdeal.main_v8_2)) (v3 : (c : Dev Cert.InprojIdeal.nD) → Buf (Elt Ideal) ((c.tc : Thread Cert.InprojIdeal.nD Cert.InprojIdeal.τ).loc Cert.InprojIdeal.main_v8_3)) (v4 : (c : Dev Cert.InprojIdeal.nD) → Buf (Elt Ideal) ((c.tc : Thread Cert.InprojIdeal.nD Cert.InprojIdeal.τ).loc Cert.InprojIdeal.main_v8_4)) (v5 : (c : Dev Cert.InprojIdeal.nD) → Buf (Elt Ideal) ((c.tc : Thread Cert.InprojIdeal.nD Cert.InprojIdeal.τ).loc Cert.InprojIdeal.main_v8_5)) (v6 : (c : Dev Cert.InprojIdeal.nD) → Buf (Elt Ideal) ((c.tc : Thread Cert.InprojIdeal.nD Cert.InprojIdeal.τ).loc Cert.InprojIdeal.main_v8_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_v8_2) = v2 c
          ∧ r.2.mem ((c.tc : Thread Cert.InprojIdeal.nD Cert.InprojIdeal.τ).loc Cert.InprojIdeal.main_v8_3) = v3 c
          ∧ r.2.mem ((c.tc : Thread Cert.InprojIdeal.nD Cert.InprojIdeal.τ).loc Cert.InprojIdeal.main_v8_4) = v4 c
          ∧ r.2.mem ((c.tc : Thread Cert.InprojIdeal.nD Cert.InprojIdeal.τ).loc Cert.InprojIdeal.main_v8_5) = v5 c
          ∧ r.2.mem ((c.tc : Thread Cert.InprojIdeal.nD Cert.InprojIdeal.τ).loc Cert.InprojIdeal.main_v8_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v9) = v0 c
          ∧ r.2.mem ((c.tc : Thread Cert.InprojRefIdeal.nD Cert.InprojRefIdeal.τ).loc Cert.InprojRefIdeal.main_v10) = v1 c
          ∧ r.2.mem ((c.tc : Thread Cert.InprojRefIdeal.nD Cert.InprojRefIdeal.τ).loc Cert.InprojRefIdeal.main_v4) = v2 c
          ∧ r.2.mem ((c.tc : Thread Cert.InprojRefIdeal.nD Cert.InprojRefIdeal.τ).loc Cert.InprojRefIdeal.main_v11) = v3 c
          ∧ r.2.mem ((c.tc : Thread Cert.InprojRefIdeal.nD Cert.InprojRefIdeal.τ).loc Cert.InprojRefIdeal.main_v6) = v4 c
          ∧ r.2.mem ((c.tc : Thread Cert.InprojRefIdeal.nD Cert.InprojRefIdeal.τ).loc Cert.InprojRefIdeal.main_v12) = v5 c
          ∧ r.2.mem ((c.tc : Thread Cert.InprojRefIdeal.nD Cert.InprojRefIdeal.τ).loc Cert.InprojRefIdeal.main_v13) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_v32) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Router_RouterIdeal : Prop :=
  True

def algebraic_RouterIdeal_RouterRefIdeal_pre_router_finite [hRouterIdeal : Cert.RouterIdeal.Facts] [hRouterRefIdeal : Cert.RouterRefIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v16) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14_0) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v93) = v0 c
          ∧ r.2.mem ((c.tc : Thread Cert.MergeRefIdeal.nD Cert.MergeRefIdeal.τ).loc Cert.MergeRefIdeal.main_v94) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hPrep : Cert.Prep.Facts) (hPrepIdeal : Cert.PrepIdeal.Facts) (hPrepRefIdeal : Cert.PrepRefIdeal.Facts) (hPool : Cert.Pool.Facts) (hPoolIdeal : Cert.PoolIdeal.Facts) (hPoolRefIdeal : Cert.PoolRefIdeal.Facts) (hAttn : Cert.Attn.Facts) (hAttnIdeal : Cert.AttnIdeal.Facts) (hAttnRefIdeal : Cert.AttnRefIdeal.Facts) (hGmm : Cert.Gmm.Facts) (hGmmIdeal : Cert.GmmIdeal.Facts) (hGmmRefIdeal : Cert.GmmRefIdeal.Facts) (hCombine : Cert.Combine.Facts) (hCombineIdeal : Cert.CombineIdeal.Facts) (hCombineRefIdeal : Cert.CombineRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hRouter : Cert.Router.Facts) (hRouterIdeal : Cert.RouterIdeal.Facts) (hRouterRefIdeal : Cert.RouterRefIdeal.Facts) (hMerge : Cert.Merge.Facts) (hMergeIdeal : Cert.MergeIdeal.Facts) (hMergeRefIdeal : Cert.MergeRefIdeal.Facts) (hPre_prep_finite : Cert.Pre_prep_finite.Facts) (hPre_attn_finite : Cert.Pre_attn_finite.Facts) (hPre_router_finite : Cert.Pre_router_finite.Facts) (hPre_merge_finite : Cert.Pre_merge_finite.Facts),
    quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Pool (hPool := hPool)
    ∧ quiescent_PoolIdeal (hPoolIdeal := hPoolIdeal)
    ∧ quiescent_PoolRefIdeal (hPoolRefIdeal := hPoolRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gmm (hGmm := hGmm)
    ∧ quiescent_GmmIdeal (hGmmIdeal := hGmmIdeal)
    ∧ quiescent_GmmRefIdeal (hGmmRefIdeal := hGmmRefIdeal)
    ∧ quiescent_Combine (hCombine := hCombine)
    ∧ quiescent_CombineIdeal (hCombineIdeal := hCombineIdeal)
    ∧ quiescent_CombineRefIdeal (hCombineRefIdeal := hCombineRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterRefIdeal (hRouterRefIdeal := hRouterRefIdeal)
    ∧ quiescent_RouterRefIdeal_pre_router_finite (hRouterRefIdeal := hRouterRefIdeal) (hPre_router_finite := hPre_router_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Pool_PoolIdeal
    ∧ algebraic_PoolIdeal_PoolRefIdeal (hPoolIdeal := hPoolIdeal) (hPoolRefIdeal := hPoolRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gmm_GmmIdeal
    ∧ algebraic_GmmIdeal_GmmRefIdeal (hGmmIdeal := hGmmIdeal) (hGmmRefIdeal := hGmmRefIdeal)
    ∧ preserves_Combine_CombineIdeal
    ∧ algebraic_CombineIdeal_CombineRefIdeal (hCombineIdeal := hCombineIdeal) (hCombineRefIdeal := hCombineRefIdeal)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Router_RouterIdeal
    ∧ algebraic_RouterIdeal_RouterRefIdeal_pre_router_finite (hRouterIdeal := hRouterIdeal) (hRouterRefIdeal := hRouterRefIdeal) (hPre_router_finite := hPre_router_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
-- ==== Pre_attn_finite.lean ====
abbrev S16x2048x512 : Shape := ⟨3, ![16, 2048, 512]⟩
abbrev S16x2048x256 : Shape := ⟨3, ![16, 2048, 256]⟩
abbrev S32x8 : Shape := ⟨2, ![32, 8]⟩
abbrev S8 : Shape := ⟨1, ![8]⟩
abbrev S16x2048x128 : Shape := ⟨3, ![16, 2048, 128]⟩
abbrev S_ : Shape := ⟨0, ![]⟩

class Facts : Prop where
  slices_S16x2048x256_S16x2048x128_0_0_0 : S16x2048x256.Slices ![0, 0, 0] S16x2048x128
  bitsLt_bf16_f32 : FTy.bits .bf16 < FTy.bits .f32
  bcast_S_S16x2048x512 : S_.BroadcastsInDim S16x2048x512 (![] : Fin 0 → Fin S16x2048x512.rank)
  bcast_S_S16x2048x128 : S_.BroadcastsInDim S16x2048x128 (![] : Fin 0 → Fin S16x2048x128.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S16x2048x512 .bf16) (main_arg1 : FVec F S16x2048x256 .bf16) (main_arg2 : FVec F S32x8 .f32) (main_arg3 : FVec F S8 .f32) : IVec S16x2048x512 1 × IVec S16x2048x128 1 × IVec S32x8 1 × IVec S8 1 :=
  let main_v0 : FVec F S16x2048x128 .bf16 := (extractStridedSlice S16x2048x128 ![0, 0, 0] · slices_S16x2048x256_S16x2048x128_0_0_0) main_arg1
  let main_v1 : FVec F S16x2048x512 .f32 := (extf .f32 · bitsLt_bf16_f32) main_arg0
  let main_v2 : FVec F S16x2048x512 .f32 := Host.absf main_v1
  let main_cst : FVec F S_ .f32 := constant S_ .f32 0x7F800000#32
  let main_v3 : FVec F S16x2048x512 .f32 := broadcastInDim S16x2048x512 ![] bcast_S_S16x2048x512 main_cst
  let main_v4 : IVec S16x2048x512 1 := cmpf .olt main_v2 main_v3
  let main_v5 : FVec F S16x2048x128 .f32 := (extf .f32 · bitsLt_bf16_f32) main_v0
  let main_v6 : FVec F S16x2048x128 .f32 := Host.absf main_v5
  let main_cst_0 : FVec F S_ .f32 := constant S_ .f32 0x7F800000#32
  let main_v7 : FVec F S16x2048x128 .f32 := broadcastInDim S16x2048x128 ![] bcast_S_S16x2048x128 main_cst_0
  let main_v8 : IVec S16x2048x128 1 := cmpf .olt main_v6 main_v7
  let main_v9 : FVec F S32x8 .f32 := Host.absf main_arg2
  let main_cst_1 : FVec F S_ .f32 := constant S_ .f32 0x7F800000#32
  let main_v10 : FVec F S32x8 .f32 := broadcastInDim S32x8 ![] bcast_S_S32x8 main_cst_1
  let main_v11 : IVec S32x8 1 := cmpf .olt main_v9 main_v10
  let main_cst_2 : FVec F S_ .f32 := constant S_ .f32 0x7F800000#32
  let main_v12 : FVec F S8 .f32 := broadcastInDim S8 ![] bcast_S_S8 main_cst_2
  let main_v13 : IVec S8 1 := cmpf .olt main_arg3 main_v12
  (main_v4, main_v8, main_v11, main_v13)
-- ==== Pre_merge_finite.lean ====
abbrev S32768x512 : Shape := ⟨2, ![32768, 512]⟩
abbrev S2x32768x512 : Shape := ⟨3, ![2, 32768, 512]⟩
abbrev S32768x3072 : Shape := ⟨2, ![32768, 3072]⟩
abbrev S32768x1024 : Shape := ⟨2, ![32768, 1024]⟩
abbrev S64 : Shape := ⟨1, ![64]⟩
abbrev S3x512x1024 : Shape := ⟨3, ![3, 512, 1024]⟩
abbrev S1024x1024 : Shape := ⟨2, ![1024, 1024]⟩
abbrev S1024 : Shape := ⟨1, ![1024]⟩
abbrev S_ : Shape := ⟨0, ![]⟩

class Facts : Prop where
  bcast_S_S2x32768x512 : S_.BroadcastsInDim S2x32768x512 (![] : Fin 0 → Fin S2x32768x512.rank)

variable [Facts]

def fn {F : FTy → Type} [FloatOps F] (main_arg0 : FVec F S32768x512 .bf16) (main_arg1 : FVec F S2x32768x512 .f32) (main_arg2 : FVec F S32768x512 .bf16) (main_arg3 : FVec F S32768x512 .bf16) (main_arg4 : FVec F S32768x3072 .bf16) (main_arg5 : FVec F S32768x1024 .f32) (main_arg6 : FVec F S64 .f32) (main_arg7 : FVec F S3x512x1024 .f32) (main_arg8 : FVec F S1024x1024 .f32) (main_arg9 : FVec F S1024 .f32) (main_arg10 : FVec F S1024 .f32) : IVec S2x32768x512 1 :=
  let main_v0 : FVec F S2x32768x512 .f32 := Host.absf main_arg1
  let main_cst : FVec F S_ .f32 := constant S_ .f32 0x7F800000#32
  let main_v1 : FVec F S2x32768x512 .f32 := broadcastInDim S2x32768x512 ![] bcast_S_S2x32768x512 main_cst
  let main_v2 : IVec S2x32768x512 1 := cmpf .olt main_v0 main_v1
  main_v2
-- ==== Pre_prep_finite.lean ====
abbrev S16x2048x1536 : Shape := ⟨3, ![16, 2048, 1536]⟩
abbrev S5x1536 : Shape := ⟨2, ![5, 1536]⟩
abbrev S16x2048x1024 : Shape := ⟨3, ![16, 2048, 1024]⟩
abbrev S_ : Shape := ⟨0, ![]⟩
abbrev S5x1024 : Shape := ⟨2, ![5, 1024]⟩

class Facts : Prop where
  slices_S16x2048x1536_S16x2048x1024_0_0_0 : S16x2048x1536.Slices ![0, 0, 0] S16x2048x1024
  bcast_S_S16x2048x1024 : S_.BroadcastsInDim S16x2048x1024 (![] : Fin 0 → Fin S16x2048x1024.rank)
  slices_S5x1536_S5x1024_0_0 : S5x1536.Slices ![0, 0] S5x1024
  bcast_S_S5x1024 : S_.BroadcastsInDim S5x1024 (![] : Fin 0 → Fin S5x1024.rank)

variable [Facts]

def fn {F : FTy → Type} [FloatOps F] (main_arg0 : FVec F S16x2048x1536 .f32) (main_arg1 : FVec F S5x1536 .f32) : IVec S16x2048x1024 1 × IVec S5x1024 1 :=
  let main_v0 : FVec F S16x2048x1024 .f32 := (extractStridedSlice S16x2048x1024 ![0, 0, 0] · slices_S16x2048x1536_S16x2048x1024_0_0_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S5x1024 .f32 := (extractStridedSlice S5x1024 ![0, 0] · slices_S5x1536_S5x1024_0_0) main_arg1
  let main_v5 : FVec F S5x1024 .f32 := Host.absf main_v4
  let main_cst_0 : FVec F S_ .f32 := constant S_ .f32 0x7F800000#32
  let main_v6 : FVec F S5x1024 .f32 := broadcastInDim S5x1024 ![] bcast_S_S5x1024 main_cst_0
  let main_v7 : IVec S5x1024 1 := cmpf .olt main_v5 main_v6
  (main_v3, main_v7)
-- ==== Pre_router_finite.lean ====
abbrev S32768x1024 : Shape := ⟨2, ![32768, 1024]⟩
abbrev S1024x8 : Shape := ⟨2, ![1024, 8]⟩
abbrev S_ : Shape := ⟨0, ![]⟩

class Facts : Prop where
  bcast_S_S32768x1024 : S_.BroadcastsInDim S32768x1024 (![] : Fin 0 → Fin S32768x1024.rank)
  bcast_S_S1024x8 : S_.BroadcastsInDim S1024x8 (![] : Fin 0 → Fin S1024x8.rank)

variable [Facts]

def fn {F : FTy → Type} [FloatOps F] (main_arg0 : FVec F S32768x1024 .f32) (main_arg1 : FVec F S1024x8 .f32) : IVec S32768x1024 1 × IVec S1024x8 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Prep.lean ====
abbrev S16x2048x1536 : Shape := ⟨3, ![16, 2048, 1536]⟩
abbrev S5x1536 : Shape := ⟨2, ![5, 1536]⟩
abbrev S512 : Shape := ⟨1, ![512]⟩
abbrev S5x3x512 : Shape := ⟨3, ![5, 3, 512]⟩
abbrev S3x5x512 : Shape := ⟨3, ![3, 5, 512]⟩
abbrev S512x1 : Shape := ⟨2, ![512, 1]⟩
abbrev S1x512 : Shape := ⟨2, ![1, 512]⟩
abbrev S512x512 : Shape := ⟨2, ![512, 512]⟩
abbrev S1x2048x512 : Shape := ⟨3, ![1, 2048, 512]⟩
abbrev S1x5x512 : Shape := ⟨3, ![1, 5, 512]⟩
abbrev S2064x512 : Shape := ⟨2, ![2064, 512]⟩
abbrev S8x512 : Shape := ⟨2, ![8, 512]⟩
abbrev S2048x512 : Shape := ⟨2, ![2048, 512]⟩
abbrev S1x1x512 : Shape := ⟨3, ![1, 1, 512]⟩

abbrev nBuf : Space → Nat
  | .hbm => 12
  | .vmem => 8
  | .smem => 0
  | _ => 0

abbrev bufTy : (tb : Table) → Fin (tcTables nBuf tb) → BufTy
  | .hbm, ⟨0, _⟩ => ⟨S16x2048x1536, .f32⟩
  | .hbm, ⟨1, _⟩ => ⟨S5x1536, .f32⟩
  | .hbm, ⟨2, _⟩ => ⟨S512, .i32⟩
  | .hbm, ⟨3, _⟩ => ⟨S5x3x512, .f32⟩
  | .hbm, ⟨4, _⟩ => ⟨S3x5x512, .f32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .bf16⟩
  | .hbm, ⟨11, _⟩ => ⟨S16x2048x1536, .f32⟩
  | .local _ .vmem, ⟨0, _⟩ => ⟨S1x2048x512, .f32⟩
  | .local _ .vmem, ⟨1, _⟩ => ⟨S1x2048x512, .f32⟩
  | .local _ .vmem, ⟨2, _⟩ => ⟨S1x5x512, .f32⟩
  | .local _ .vmem, ⟨3, _⟩ => ⟨S1x5x512, .f32⟩
  | .local _ .vmem, ⟨4, _⟩ => ⟨S512x512, .bf16⟩
  | .local _ .vmem, ⟨5, _⟩ => ⟨S1x2048x512, .f32⟩
  | .local _ .vmem, ⟨6, _⟩ => ⟨S1x2048x512, .f32⟩
  | .local _ .vmem, ⟨7, _⟩ => ⟨S2064x512, .f32⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c2_i32 : BitVec 32 := 2#32
  let v49 : BitVec 1 := Scalar.cmpi .slt arg1 c2_i32
  let v50 : BitVec 32 := Scalar.extui v49
  let c0_i32 : BitVec 32 := 0#32
  let v51 : BitVec 1 := Scalar.cmpi .ne v50 c0_i32
  v51

def k0_cond2 (i : grid0.Coords) : BitVec 1 :=
  let arg1 : BitVec 32 := BitVec.ofNat 32 (i 1).val
  let c2_i32_26 : BitVec 32 := 2#32
  let v52 : BitVec 1 := Scalar.cmpi .eq arg1 c2_i32_26
  let v53 : BitVec 32 := Scalar.extui v52
  let c0_i32_27 : BitVec 32 := 0#32
  let v54 : BitVec 1 := Scalar.cmpi .ne v53 c0_i32_27
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PrepRefIdeal.lean ====
abbrev S16x2048x1536 : Shape := ⟨3, ![16, 2048, 1536]⟩
abbrev S5x1536 : Shape := ⟨2, ![5, 1536]⟩
abbrev S_ : Shape := ⟨0, ![]⟩
abbrev S16x2052x1536 : Shape := ⟨3, ![16, 2052, 1536]⟩
abbrev S1x1536 : Shape := ⟨2, ![1, 1536]⟩
abbrev S1536 : Shape := ⟨1, ![1536]⟩
abbrev S1x1x1536 : Shape := ⟨3, ![1, 1, 1536]⟩
abbrev S16x2048x512 : Shape := ⟨3, ![16, 2048, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1536, .f32⟩
  | .hbm, ⟨1, _⟩ => ⟨S5x1536, .f32⟩
  | .hbm, ⟨2, _⟩ => ⟨S_, .i32⟩
  | .hbm, ⟨3, _⟩ => ⟨S_, .f32⟩
  | .hbm, ⟨4, _⟩ => ⟨S16x2052x1536, .f32⟩
  | .hbm, ⟨5, _⟩ => ⟨S16x2048x1536, .f32⟩
  | .hbm, ⟨6, _⟩ => ⟨S1x1536, .f32⟩
  | .hbm, ⟨7, _⟩ => ⟨S1536, .f32⟩
  | .hbm, ⟨8, _⟩ => ⟨S1x1x1536, .f32⟩
  | .hbm, ⟨9, _⟩ => ⟨S16x2048x1536, .f32⟩
  | .hbm, ⟨10, _⟩ => ⟨S16x2048x1536, .f32⟩
  | .hbm, ⟨11, _⟩ => ⟨S16x2048x1536, .f32⟩
  | .hbm, ⟨12, _⟩ => ⟨S1x1536, .f32⟩
  | .hbm, ⟨13, _⟩ => ⟨S1536, .f32⟩
  | .hbm, ⟨14, _⟩ => ⟨S1x1x1536, .f32⟩
  | .hbm, ⟨15, _⟩ => ⟨S16x2048x1536, .f32⟩
  | .hbm, ⟨16, _⟩ => ⟨S16x2048x1536, .f32⟩
  | .hbm, ⟨17, _⟩ => ⟨S16x2048x1536, .f32⟩
  | .hbm, ⟨18, _⟩ => ⟨S16x2048x1536, .f32⟩
  | .hbm, ⟨19, _⟩ => ⟨S1x1536, .f32⟩
  | .hbm, ⟨20, _⟩ => ⟨S1536, .f32⟩
  | .hbm, ⟨21, _⟩ => ⟨S1x1x1536, .f32⟩
  | .hbm, ⟨22, _⟩ => ⟨S16x2048x1536, .f32⟩
  | .hbm, ⟨23, _⟩ => ⟨S16x2048x1536, .f32⟩
  | .hbm, ⟨24, _⟩ => ⟨S16x2048x1536, .f32⟩
  | .hbm, ⟨25, _⟩ => ⟨S16x2048x1536, .f32⟩
  | .hbm, ⟨26, _⟩ => ⟨S1x1536, .f32⟩
  | .hbm, ⟨27, _⟩ => ⟨S1536, .f32⟩
  | .hbm, ⟨28, _⟩ => ⟨S1x1x1536, .f32⟩
  | .hbm, ⟨29, _⟩ => ⟨S16x2048x1536, .f32⟩
  | .hbm, ⟨30, _⟩ => ⟨S16x2048x1536, .f32⟩
  | .hbm, ⟨31, _⟩ => ⟨S16x2048x1536, .f32⟩
  | .hbm, ⟨32, _⟩ => ⟨S16x2048x1536, .f32⟩
  | .hbm, ⟨33, _⟩ => ⟨S1x1536, .f32⟩
  | .hbm, ⟨34, _⟩ => ⟨S1536, .f32⟩
  | .hbm, ⟨35, _⟩ => ⟨S1x1x1536, .f32⟩
  | .hbm, ⟨36, _⟩ => ⟨S16x2048x1536, .f32⟩
  | .hbm, ⟨37, _⟩ => ⟨S16x2048x1536, .f32⟩
  | .hbm, ⟨38, _⟩ => ⟨S16x2048x1536, .f32⟩
  | .hbm, ⟨39, _⟩ => ⟨S16x2048x1536, .f32⟩
  | .hbm, ⟨40, _⟩ => ⟨S16x2048x1536, .f32⟩
  | .hbm, ⟨41, _⟩ => ⟨S_, .f32⟩
  | .hbm, ⟨42, _⟩ => ⟨S16x2048x1536, .f32⟩
  | .hbm, ⟨43, _⟩ => ⟨S16x2048x1536, .f32⟩
  | .hbm, ⟨44, _⟩ => ⟨S_, .f32⟩
  | .hbm, ⟨45, _⟩ => ⟨S16x2048x1536, .f32⟩
  | .hbm, ⟨46, _⟩ => ⟨S16x2048x1536, .f32⟩
  | .hbm, ⟨47, _⟩ => ⟨S16x2048x1536, .f32⟩
  | .hbm, ⟨48, _⟩ => ⟨S16x2048x512, .f32⟩
  | .hbm, ⟨49, _⟩ => ⟨S16x2048x8x64, .f32⟩
  | .hbm, ⟨50, _⟩ => ⟨S16x2048x8x64, .f32⟩
  | .hbm, ⟨51, _⟩ => ⟨S_, .f32⟩
  | .hbm, ⟨52, _⟩ => ⟨S16x2048x8, .f32⟩
  | .hbm, ⟨53, _⟩ => ⟨S16x2048x8x1, .f32⟩
  | .hbm, ⟨54, _⟩ => ⟨S_, .f32⟩
  | .hbm, ⟨55, _⟩ => ⟨S16x2048x8x1, .f32⟩
  | .hbm, ⟨56, _⟩ => ⟨S16x2048x8x1, .f32⟩
  | .hbm, ⟨57, _⟩ => ⟨S16x2048x8x1, .f32⟩
  | .hbm, ⟨58, _⟩ => ⟨S16x2048x8x64, .f32⟩
  | .hbm, ⟨59, _⟩ => ⟨S16x2048x8x64, .f32⟩
  | .hbm, ⟨60, _⟩ => ⟨S_, .f32⟩
  | .hbm, ⟨61, _⟩ => ⟨S16x2048x8x64, .f32⟩
  | .hbm, ⟨62, _⟩ => ⟨S16x2048x8x64, .f32⟩
  | .hbm, ⟨63, _⟩ => ⟨S16x2048x512, .f32⟩
  | .hbm, ⟨64, _⟩ => ⟨S16x2048x8x64, .f32⟩
  | .hbm, ⟨65, _⟩ => ⟨S16x2048x8x64, .f32⟩
  | .hbm, ⟨66, _⟩ => ⟨S_, .f32⟩
  | .hbm, ⟨67, _⟩ => ⟨S16x2048x8, .f32⟩
  | .hbm, ⟨68, _⟩ => ⟨S16x2048x8x1, .f32⟩
  | .hbm, ⟨69, _⟩ => ⟨S_, .f32⟩
  | .hbm, ⟨70, _⟩ => ⟨S16x2048x8x1, .f32⟩
  | .hbm, ⟨71, _⟩ => ⟨S16x2048x8x1, .f32⟩
  | .hbm, ⟨72, _⟩ => ⟨S16x2048x8x1, .f32⟩
  | .hbm, ⟨73, _⟩ => ⟨S16x2048x8x64, .f32⟩
  | .hbm, ⟨74, _⟩ => ⟨S16x2048x8x64, .f32⟩
  | .hbm, ⟨75, _⟩ => ⟨S16x2048x512, .f32⟩
  | .hbm, ⟨76, _⟩ => ⟨S16x2048x8x64, .f32⟩
  | .hbm, ⟨77, _⟩ => ⟨S16x2048x512, .f32⟩
  | .hbm, ⟨78, _⟩ => ⟨S16x2048x512, .f32⟩
  | .hbm, ⟨79, _⟩ => ⟨S16x2048x512, .f32⟩
  | .hbm, ⟨80, _⟩ => ⟨S16x2048x1536, .f32⟩
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_v40 : Ref sig .tc := ⟨.hbm, 53, rfl⟩
abbrev main_cst_0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_2 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Pool.lean ====
abbrev S16x2048x512 : Shape := ⟨3, ![16, 2048, 512]⟩
abbrev S4x128x128 : Shape := ⟨3, ![4, 128, 128]⟩
abbrev S512 : Shape := ⟨1, ![512]⟩
abbrev S3 : Shape := ⟨1, ![3]⟩
abbrev S4 : Shape := ⟨1, ![4]⟩
abbrev S256 : Shape := ⟨1, ![256]⟩
abbrev S256x1 : Shape := ⟨2, ![256, 1]⟩
abbrev S1x512 : Shape := ⟨2, ![1, 512]⟩
abbrev S3x1x1x1 : Shape := ⟨4, ![3, 1, 1, 1]⟩
abbrev S4x1x1 : Shape := ⟨3, ![4, 1, 1]⟩
abbrev S1x1x1x512 : Shape := ⟨4, ![1, 1, 1, 512]⟩
abbrev S3x1x1x512 : Shape := ⟨4, ![3, 1, 1, 512]⟩
abbrev S1x1x256x1 : Shape := ⟨4, ![1, 1, 256, 1]⟩
abbrev S3x1x256x512 : Shape := ⟨4, ![3, 1, 256, 512]⟩
abbrev S1x4x1x1 : Shape := ⟨4, ![1, 4, 1, 1]⟩
abbrev S3x4x256x512 : Shape := ⟨4, ![3, 4, 256, 512]⟩
abbrev S1x2048x512 : Shape := ⟨3, ![1, 2048, 512]⟩
abbrev S1x4x256x512 : Shape := ⟨4, ![1, 4, 256, 512]⟩
abbrev S1x256x512 : Shape := ⟨3, ![1, 256, 512]⟩
abbrev S1x512x512 : Shape := ⟨3, ![1, 512, 512]⟩
abbrev S512x512 : Shape := ⟨2, ![512, 512]⟩
abbrev S256x512 : Shape := ⟨2, ![256, 512]⟩
abbrev S256x128 : Shape := ⟨2, ![256, 128]⟩
abbrev S1x1x256x512 : Shape := ⟨4, ![1, 1, 256, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 28
  | .vmem => 8
  | .smem => 0
  | _ => 0

abbrev bufTy : (tb : Table) → Fin (tcTables nBuf tb) → BufTy
  | .hbm, ⟨0, _⟩ => ⟨S16x2048x512, .bf16⟩
  | .hbm, ⟨1, _⟩ => ⟨S4x128x128, .f32⟩
  | .hbm, ⟨2, _⟩ => ⟨S512, .f32⟩
  | .hbm, ⟨3, _⟩ => ⟨S3, .i32⟩
  | .hbm, ⟨4, _⟩ => ⟨S4, .i32⟩
  | .hbm, ⟨5, _⟩ => ⟨S256, .i32⟩
  | .hbm, ⟨6, _⟩ => ⟨S256x1, .i32⟩
  | .hbm, ⟨7, _⟩ => ⟨S512, .i32⟩
  | .hbm, ⟨8, _⟩ => ⟨S1x512, .i32⟩
  | .hbm, ⟨9, _⟩ => ⟨S3x1x1x1, .i32⟩
  | .hbm, ⟨10, _⟩ => ⟨S4x1x1, .i32⟩
  | .hbm, ⟨11, _⟩ => ⟨S1x1x1x512, .i32⟩
  | .hbm, ⟨12, _⟩ => ⟨S3x1x1x512, .i32⟩
  | .hbm, ⟨13, _⟩ => ⟨S3x1x1x512, .i32⟩
  | .hbm, ⟨14, _⟩ => ⟨S3x1x1x512, .i32⟩
  | .hbm, ⟨15, _⟩ => ⟨S1x1x256x1, .i32⟩
  | .hbm, ⟨16, _⟩ => ⟨S3x1x256x512, .i32⟩
  | .hbm, ⟨17, _⟩ => ⟨S3x1x256x512, .i32⟩
  | .hbm, ⟨18, _⟩ => ⟨S3x1x256x512, .i32⟩
  | .hbm, ⟨19, _⟩ => ⟨S3x1x256x512, .i32⟩
  | .hbm, ⟨20, _⟩ => ⟨S1x4x1x1, .i32⟩
  | .hbm, ⟨21, _⟩ => ⟨S3x4x256x512, .i32⟩
  | .hbm, ⟨22, _⟩ => ⟨S3x4x256x512, .i32⟩
  | .hbm, ⟨23, _⟩ => ⟨S3x4x256x512, .i1⟩
  | .hbm, ⟨24, _⟩ => ⟨S3x4x256x512, .bf16⟩
  | .hbm, ⟨25, _⟩ => ⟨S4x128x128, .bf16⟩
  | .hbm, ⟨26, _⟩ => ⟨S1x512, .f32⟩
  | .hbm, ⟨27, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x4x256x512, .bf16⟩
  | .local _ .vmem, ⟨3, _⟩ => ⟨S1x4x256x512, .bf16⟩
  | .local _ .vmem, ⟨4, _⟩ => ⟨S4x128x128, .bf16⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 (i : grid0.Coords) : BitVec 32 :=
  let c1536_i32 : BitVec 32 := 1536#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v2 : BitVec 32 := Scalar.subi v1 c128_i32
  let v3 : BitVec 32 := Scalar.maxsi c0_i32 v2
  let v4 : BitVec 32 := Scalar.minsi c1536_i32 v3
  v4
def k0_off1 (i : grid0.Coords) : Fin 3 → Nat :=
  let c0 : Index := 0#32
  let c1536_i32 : BitVec 32 := 1536#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := v0
  let c128_i32 : BitVec 32 := 128#32
  let v2 : BitVec 32 := Scalar.subi v1 c128_i32
  let v3 : BitVec 32 := Scalar.maxsi c0_i32 v2
  let v4 : BitVec 32 := Scalar.minsi c1536_i32 v3
  let v5 : BitVec 32 := v4
  let v6 : Index := Scalar.indexCast v5
  let c0_0 : Index := 0#32
  ![0, v6.toNat, 0]
def k0_off2 (i : grid0.Coords) : Fin 3 → Nat :=
  let c0_1 : Index := 0#32
  let arg1 : BitVec 32 := BitVec.ofNat 32 (i 1).val
  let c256_i32 : BitVec 32 := 256#32
  let v0 : BitVec 32 := Scalar.muli arg1 c256_i32
  let v1 : BitVec 32 := v0
  let v9 : Index := Scalar.indexCast v1
  let c0_2 : Index := 0#32
  ![0, v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S16x2048x512 : Shape := ⟨3, ![16, 2048, 512]⟩
abbrev S4x128x128 : Shape := ⟨3, ![4, 128, 128]⟩
abbrev S512 : Shape := ⟨1, ![512]⟩
abbrev S16x2048x4x128 : Shape := ⟨4, ![16, 2048, 4, 128]⟩
abbrev S4 : Shape := ⟨1, ![4]⟩
abbrev S_ : Shape := ⟨0, ![]⟩
abbrev S2048 : Shape := ⟨1, ![2048]⟩
abbrev S2048x1 : Shape := ⟨2, ![2048, 1]⟩
abbrev S1x2048x1 : Shape := ⟨3, ![1, 2048, 1]⟩
abbrev S2048x1x1 : Shape := ⟨3, ![2048, 1, 1]⟩
abbrev S2048x2048x1 : Shape := ⟨3, ![2048, 2048, 1]⟩
abbrev S1x1x4 : Shape := ⟨3, ![1, 1, 4]⟩
abbrev S2048x2048x4 : Shape := ⟨3, ![2048, 2048, 4]⟩
abbrev S1x2048x2048x4x1 : Shape := ⟨5, ![1, 2048, 2048, 4, 1]⟩
abbrev S16x1x2048x4x128 : Shape := ⟨5, ![16, 1, 2048, 4, 128]⟩
abbrev S16x2048x2048x4x128 : Shape := ⟨5, ![16, 2048, 2048, 4, 128]⟩
abbrev S1x4 : Shape := ⟨2, ![1, 4]⟩
abbrev S2048x4 : Shape := ⟨2, ![2048, 4]⟩
abbrev S1x2048x4x1 : Shape := ⟨4, ![1, 2048, 4, 1]⟩
abbrev S4x128x16x2048 : Shape := ⟨4, ![4, 128, 16, 2048]⟩
abbrev S1x1x512 : Shape := ⟨3, ![1, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S4x128x128, .f32⟩
  | .hbm, ⟨2, _⟩ => ⟨S512, .f32⟩
  | .hbm, ⟨3, _⟩ => ⟨S16x2048x512, .f32⟩
  | .hbm, ⟨4, _⟩ => ⟨S16x2048x4x128, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S1x2048x1, .i32⟩
  | .hbm, ⟨13, _⟩ => ⟨S2048x1x1, .i32⟩
  | .hbm, ⟨14, _⟩ => ⟨S2048x2048x1, .i32⟩
  | .hbm, ⟨15, _⟩ => ⟨S2048x2048x1, .i32⟩
  | .hbm, ⟨16, _⟩ => ⟨S2048x2048x1, .i32⟩
  | .hbm, ⟨17, _⟩ => ⟨S2048x2048x1, .i32⟩
  | .hbm, ⟨18, _⟩ => ⟨S1x1x4, .i32⟩
  | .hbm, ⟨19, _⟩ => ⟨S2048x2048x4, .i32⟩
  | .hbm, ⟨20, _⟩ => ⟨S2048x2048x4, .i32⟩
  | .hbm, ⟨21, _⟩ => ⟨S2048x2048x4, .i1⟩
  | .hbm, ⟨22, _⟩ => ⟨S1x2048x2048x4x1, .i1⟩
  | .hbm, ⟨23, _⟩ => ⟨S16x1x2048x4x128, .f32⟩
  | .hbm, ⟨24, _⟩ => ⟨S_, .f32⟩
  | .hbm, ⟨25, _⟩ => ⟨S_, .f32⟩
  | .hbm, ⟨26, _⟩ => ⟨S16x2048x2048x4x128, .i1⟩
  | .hbm, ⟨27, _⟩ => ⟨S16x2048x2048x4x128, .f32⟩
  | .hbm, ⟨28, _⟩ => ⟨S16x2048x2048x4x128, .f32⟩
  | .hbm, ⟨29, _⟩ => ⟨S16x2048x2048x4x128, .f32⟩
  | .hbm, ⟨30, _⟩ => ⟨S_, .f32⟩
  | .hbm, ⟨31, _⟩ => ⟨S16x2048x4x128, .f32⟩
  | .hbm, ⟨32, _⟩ => ⟨S1x4, .i32⟩
  | .hbm, ⟨33, _⟩ => ⟨S2048x4, .i32⟩
  | .hbm, ⟨34, _⟩ => ⟨S2048x4, .i32⟩
  | .hbm, ⟨35, _⟩ => ⟨S2048x4, .i32⟩
  | .hbm, ⟨36, _⟩ => ⟨S_, .i32⟩
  | .hbm, ⟨37, _⟩ => ⟨S2048x4, .i32⟩
  | .hbm, ⟨38, _⟩ => ⟨S2048x4, .i32⟩
  | .hbm, ⟨39, _⟩ => ⟨S1x4, .i32⟩
  | .hbm, ⟨40, _⟩ => ⟨S2048x4, .i32⟩
  | .hbm, ⟨41, _⟩ => ⟨S2048x4, .i32⟩
  | .hbm, ⟨42, _⟩ => ⟨S2048x4, .i32⟩
  | .hbm, ⟨43, _⟩ => ⟨S_, .i32⟩
  | .hbm, ⟨44, _⟩ => ⟨S2048x4, .i32⟩
  | .hbm, ⟨45, _⟩ => ⟨S2048x4, .i32⟩
  | .hbm, ⟨46, _⟩ => ⟨S2048x4, .i32⟩
  | .hbm, ⟨47, _⟩ => ⟨S_, .i32⟩
  | .hbm, ⟨48, _⟩ => ⟨S2048x4, .i32⟩
  | .hbm, ⟨49, _⟩ => ⟨S2048x4, .i32⟩
  | .hbm, ⟨50, _⟩ => ⟨S2048x4, .f32⟩
  | .hbm, ⟨51, _⟩ => ⟨S1x2048x4x1, .f32⟩
  | .hbm, ⟨52, _⟩ => ⟨S16x2048x4x128, .f32⟩
  | .hbm, ⟨53, _⟩ => ⟨S16x2048x4x128, .f32⟩
  | .hbm, ⟨54, _⟩ => ⟨S16x2048x4x128, .f32⟩
  | .hbm, ⟨55, _⟩ => ⟨S4x128x16x2048, .f32⟩
  | .hbm, ⟨56, _⟩ => ⟨S16x2048x4x128, .f32⟩
  | .hbm, ⟨57, _⟩ => ⟨S16x2048x512, .f32⟩
  | .hbm, ⟨58, _⟩ => ⟨S1x1x512, .f32⟩
  | .hbm, ⟨59, _⟩ => ⟨S16x2048x512, .f32⟩
  | .hbm, ⟨60, _⟩ => ⟨S16x2048x512, .f32⟩
  | .hbm, ⟨61, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Attn.lean ====
abbrev S16x2048x512 : Shape := ⟨3, ![16, 2048, 512]⟩
abbrev S16x2048x256 : Shape := ⟨3, ![16, 2048, 256]⟩
abbrev S32x8 : Shape := ⟨2, ![32, 8]⟩
abbrev S8 : Shape := ⟨1, ![8]⟩
abbrev S767 : Shape := ⟨1, ![767]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S1x8x128x384 : Shape := ⟨4, ![1, 8, 128, 384]⟩
abbrev S3x8x128x384 : Shape := ⟨4, ![3, 8, 128, 384]⟩
abbrev S1x8 : Shape := ⟨2, ![1, 8]⟩
abbrev S1x128x512 : Shape := ⟨3, ![1, 128, 512]⟩
abbrev S1x2048x256 : Shape := ⟨3, ![1, 2048, 256]⟩
abbrev S1x384x256 : Shape := ⟨3, ![1, 384, 256]⟩
abbrev S384x256 : Shape := ⟨2, ![384, 256]⟩
abbrev S128x512 : Shape := ⟨2, ![128, 512]⟩
abbrev S128x64 : Shape := ⟨2, ![128, 64]⟩
abbrev S384x64 : Shape := ⟨2, ![384, 64]⟩
abbrev S1x1x128x384 : Shape := ⟨4, ![1, 1, 128, 384]⟩
abbrev S1x1 : Shape := ⟨2, ![1, 1]⟩

abbrev nBuf : Space → Nat
  | .hbm => 129
  | .vmem => 9
  | .smem => 0
  | _ => 0

abbrev hbmTy0_0 (i : Nat) : BufTy := match i % 128 with
  | 0 => ⟨S16x2048x512, .bf16⟩
  | 1 => ⟨S16x2048x256, .bf16⟩
  | 2 => ⟨S32x8, .f32⟩
  | 3 => ⟨S8, .f32⟩
  | 4 => ⟨S767, .i32⟩
  | 5 => ⟨S128, .i32⟩
  | 6 => ⟨S128x1, .i32⟩
  | 7 => ⟨S384, .i32⟩
  | 8 => ⟨S1x384, .i32⟩
  | 9 => ⟨S_, .i32⟩
  | 10 => ⟨S1x384, .i32⟩
  | 11 => ⟨S1x384, .i32⟩
  | 12 => ⟨S128x384, .i32⟩
  | 13 => ⟨S128x384, .i32⟩
  | 14 => ⟨S128x384, .i32⟩
  | 15 => ⟨S_, .i32⟩
  | 16 => ⟨S128x384, .i32⟩
  | 17 => ⟨S128x384, .i32⟩
  | 18 => ⟨S_, .i32⟩
  | 19 => ⟨S128x384, .i32⟩
  | 20 => ⟨S128x384, .i1⟩
  | 21 => ⟨S_, .i32⟩
  | 22 => ⟨S128x384, .i32⟩
  | 23 => ⟨S128x384, .i32⟩
  | 24 => ⟨S128x384, .i32⟩
  | 25 => ⟨S128x384x1, .i32⟩
  | 26 => ⟨S128x384, .i32⟩
  | 27 => ⟨S_, .i32⟩
  | 28 => ⟨S128x384, .i32⟩
  | 29 => ⟨S128x384, .i1⟩
  | 30 => ⟨S_, .i32⟩
  | 31 => ⟨S128x384, .i32⟩
  | 32 => ⟨S128x384, .i32⟩
  | 33 => ⟨S128x384, .i32⟩
  | 34 => ⟨S128x384x1, .i32⟩
  | 35 => ⟨S128x384x8, .f32⟩
  | 36 => ⟨S8x128x384, .f32⟩
  | 37 => ⟨S128x384, .i32⟩
  | 38 => ⟨S_, .i32⟩
  | 39 => ⟨S128x384, .i32⟩
  | 40 => ⟨S128x384, .i1⟩
  | 41 => ⟨S1x128x384, .i1⟩
  | 42 => ⟨S_, .f32⟩
  | 43 => ⟨S_, .f32⟩
  | 44 => ⟨S8x128x384, .i1⟩
  | 45 => ⟨S8x128x384, .f32⟩
  | 46 => ⟨S8x128x384, .f32⟩
  | 47 => ⟨S_, .i32⟩
  | 48 => ⟨S1x384, .i32⟩
  | 49 => ⟨S1x384, .i32⟩
  | 50 => ⟨S128x384, .i32⟩
  | 51 => ⟨S128x384, .i32⟩
  | 52 => ⟨S128x384, .i32⟩
  | 53 => ⟨S_, .i32⟩
  | 54 => ⟨S128x384, .i32⟩
  | 55 => ⟨S128x384, .i32⟩
  | 56 => ⟨S_, .i32⟩
  | 57 => ⟨S128x384, .i32⟩
  | 58 => ⟨S128x384, .i1⟩
  | 59 => ⟨S_, .i32⟩
  | 60 => ⟨S128x384, .i32⟩
  | 61 => ⟨S128x384, .i32⟩
  | 62 => ⟨S128x384, .i32⟩
  | 63 => ⟨S128x384x1, .i32⟩
  | 64 => ⟨S128x384, .i32⟩
  | 65 => ⟨S_, .i32⟩
  | 66 => ⟨S128x384, .i32⟩
  | 67 => ⟨S128x384, .i1⟩
  | 68 => ⟨S_, .i32⟩
  | 69 => ⟨S128x384, .i32⟩
  | 70 => ⟨S128x384, .i32⟩
  | 71 => ⟨S128x384, .i32⟩
  | 72 => ⟨S128x384x1, .i32⟩
  | 73 => ⟨S128x384x8, .f32⟩
  | 74 => ⟨S8x128x384, .f32⟩
  | 75 => ⟨S128x384, .i32⟩
  | 76 => ⟨S_, .i32⟩
  | 77 => ⟨S128x384, .i32⟩
  | 78 => ⟨S128x384, .i1⟩
  | 79 => ⟨S1x128x384, .i1⟩
  | 80 => ⟨S_, .f32⟩
  | 81 => ⟨S_, .f32⟩
  | 82 => ⟨S8x128x384, .i1⟩
  | 83 => ⟨S8x128x384, .f32⟩
  | 84 => ⟨S8x128x384, .f32⟩
  | 85 => ⟨S_, .i32⟩
  | 86 => ⟨S1x384, .i32⟩
  | 87 => ⟨S1x384, .i32⟩
  | 88 => ⟨S128x384, .i32⟩
  | 89 => ⟨S128x384, .i32⟩
  | 90 => ⟨S128x384, .i32⟩
  | 91 => ⟨S_, .i32⟩
  | 92 => ⟨S128x384, .i32⟩
  | 93 => ⟨S128x384, .i32⟩
  | 94 => ⟨S_, .i32⟩
  | 95 => ⟨S128x384, .i32⟩
  | 96 => ⟨S128x384, .i1⟩
  | 97 => ⟨S_, .i32⟩
  | 98 => ⟨S128x384, .i32⟩
  | 99 => ⟨S128x384, .i32⟩
  | 100 => ⟨S128x384, .i32⟩
  | 101 => ⟨S128x384x1, .i32⟩
  | 102 => ⟨S128x384, .i32⟩
  | 103 => ⟨S_, .i32⟩
  | 104 => ⟨S128x384, .i32⟩
  | 105 => ⟨S128x384, .i1⟩
  | 106 => ⟨S_, .i32⟩
  | 107 => ⟨S128x384, .i32⟩
  | 108 => ⟨S128x384, .i32⟩
  | 109 => ⟨S128x384, .i32⟩
  | 110 => ⟨S128x384x1, .i32⟩
  | 111 => ⟨S128x384x8, .f32⟩
  | 112 => ⟨S8x128x384, .f32⟩
  | 113 => ⟨S128x384, .i32⟩
  | 114 => ⟨S_, .i32⟩
  | 115 => ⟨S128x384, .i32⟩
  | 116 => ⟨S128x384, .i1⟩
  | 117 => ⟨S1x128x384, .i1⟩
  | 118 => ⟨S_, .f32⟩
  | 119 => ⟨S_, .f32⟩
  | 120 => ⟨S8x128x384, .i1⟩
  | 121 => ⟨S8x128x384, .f32⟩
  | 122 => ⟨S8x128x384, .f32⟩
  | 123 => ⟨S1x8x128x384, .f32⟩
  | 124 => ⟨S1x8x128x384, .f32⟩
  | 125 => ⟨S1x8x128x384, .f32⟩
  | 126 => ⟨S3x8x128x384, .f32⟩
  | 127 => ⟨S1x8, .f32⟩
  | _ => ⟨S16x2048x512, .bf16⟩

abbrev hbmTy0_1 (i : Nat) : BufTy := match i % 128 with
  | 0 => ⟨S16x2048x512, .bf16⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x8x128x384, .f32⟩
  | .local _ .vmem, ⟨5, _⟩ => ⟨S1x8x128x384, .f32⟩
  | .local _ .vmem, ⟨6, _⟩ => ⟨S1x8, .f32⟩
  | .local _ .vmem, ⟨7, _⟩ => ⟨S1x128x512, .bf16⟩
  | .local _ .vmem, ⟨8, _⟩ => ⟨S1x128x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_c_17 : Ref sig .tc := ⟨.hbm, 94, rfl⟩
abbrev main_v65 : Ref sig .tc := ⟨.hbm, 95, rfl⟩
abbrev main_v66 : Ref sig .tc := ⟨.hbm, 96, rfl⟩
abbrev main_c_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_19 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_22 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 3 → Nat :=
  let c0 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S16x2048x512 : Shape := ⟨3, ![16, 2048, 512]⟩
abbrev S16x2048x256 : Shape := ⟨3, ![16, 2048, 256]⟩
abbrev S32x8 : Shape := ⟨2, ![32, 8]⟩
abbrev S8 : Shape := ⟨1, ![8]⟩
abbrev S16x2048x2x4x64 : Shape := ⟨5, ![16, 2048, 2, 4, 64]⟩
abbrev S16x2048x128 : Shape := ⟨3, ![16, 2048, 128]⟩
abbrev S16x2048x2x64 : Shape := ⟨4, ![16, 2048, 2, 64]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S2x4x2048x2048 : Shape := ⟨4, ![2, 4, 2048, 2048]⟩
abbrev S2x4x1x1 : Shape := ⟨4, ![2, 4, 1, 1]⟩
abbrev S16x2x2048x2048x4 : Shape := ⟨5, ![16, 2, 2048, 2048, 4]⟩
abbrev S16x2x4x2048x2048 : Shape := ⟨5, ![16, 2, 4, 2048, 2048]⟩
abbrev S1x2x4x2048x2048 : Shape := ⟨5, ![1, 2, 4, 2048, 2048]⟩
abbrev S16x2x4x2048 : Shape := ⟨4, ![16, 2, 4, 2048]⟩
abbrev S16x2x4x2048x1 : Shape := ⟨5, ![16, 2, 4, 2048, 1]⟩
abbrev S1x2x4x1x1 : Shape := ⟨5, ![1, 2, 4, 1, 1]⟩
abbrev S16x2x64x4x2048 : Shape := ⟨5, ![16, 2, 64, 4, 2048]⟩

abbrev nBuf : Space → Nat
  | .hbm => 125
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x256, .bf16⟩
  | .hbm, ⟨2, _⟩ => ⟨S32x8, .f32⟩
  | .hbm, ⟨3, _⟩ => ⟨S8, .f32⟩
  | .hbm, ⟨4, _⟩ => ⟨S16x2048x512, .f32⟩
  | .hbm, ⟨5, _⟩ => ⟨S16x2048x2x4x64, .f32⟩
  | .hbm, ⟨6, _⟩ => ⟨S16x2048x128, .bf16⟩
  | .hbm, ⟨7, _⟩ => ⟨S16x2048x128, .f32⟩
  | .hbm, ⟨8, _⟩ => ⟨S16x2048x2x64, .f32⟩
  | .hbm, ⟨9, _⟩ => ⟨S16x2048x128, .bf16⟩
  | .hbm, ⟨10, _⟩ => ⟨S16x2048x128, .f32⟩
  | .hbm, ⟨11, _⟩ => ⟨S16x2048x2x64, .f32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i1⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i1⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S_, .i32⟩
  | .hbm, ⟨41, _⟩ => ⟨S2048x2048, .i32⟩
  | .hbm, ⟨42, _⟩ => ⟨S2048x2048, .i1⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i1⟩
  | .hbm, ⟨49, _⟩ => ⟨S2048x2048, .i32⟩
  | .hbm, ⟨50, _⟩ => ⟨S2048x2048, .i32⟩
  | .hbm, ⟨51, _⟩ => ⟨S2048x2048, .i32⟩
  | .hbm, ⟨52, _⟩ => ⟨S_, .i32⟩
  | .hbm, ⟨53, _⟩ => ⟨S2048x2048, .i32⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S2048x2048, .i32⟩
  | .hbm, ⟨60, _⟩ => ⟨S2048x2048, .i1⟩
  | .hbm, ⟨61, _⟩ => ⟨S2048x2048, .i32⟩
  | .hbm, ⟨62, _⟩ => ⟨S2048x2048, .i32⟩
  | .hbm, ⟨63, _⟩ => ⟨S_, .i32⟩
  | .hbm, ⟨64, _⟩ => ⟨S2048x2048, .i32⟩
  | .hbm, ⟨65, _⟩ => ⟨S2048x2048, .i1⟩
  | .hbm, ⟨66, _⟩ => ⟨S_, .i32⟩
  | .hbm, ⟨67, _⟩ => ⟨S_, .i32⟩
  | .hbm, ⟨68, _⟩ => ⟨S2048x2048, .i32⟩
  | .hbm, ⟨69, _⟩ => ⟨S2048x2048, .i32⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i1⟩
  | .hbm, ⟨74, _⟩ => ⟨S2048x2048, .i32⟩
  | .hbm, ⟨75, _⟩ => ⟨S2048x2048, .i32⟩
  | .hbm, ⟨76, _⟩ => ⟨S2048x2048, .i32⟩
  | .hbm, ⟨77, _⟩ => ⟨S_, .i32⟩
  | .hbm, ⟨78, _⟩ => ⟨S2048x2048, .i32⟩
  | .hbm, ⟨79, _⟩ => ⟨S2048x2048, .i1⟩
  | .hbm, ⟨80, _⟩ => ⟨S_, .i32⟩
  | .hbm, ⟨81, _⟩ => ⟨S2048x2048, .i32⟩
  | .hbm, ⟨82, _⟩ => ⟨S2048x2048, .i32⟩
  | .hbm, ⟨83, _⟩ => ⟨S2048x2048, .i32⟩
  | .hbm, ⟨84, _⟩ => ⟨S2048x2048x1, .i32⟩
  | .hbm, ⟨85, _⟩ => ⟨S2048x2048x8, .f32⟩
  | .hbm, ⟨86, _⟩ => ⟨S8x2048x2048, .f32⟩
  | .hbm, ⟨87, _⟩ => ⟨S2x4x2048x2048, .f32⟩
  | .hbm, ⟨88, _⟩ => ⟨S2x4x1x1, .f32⟩
  | .hbm, ⟨89, _⟩ => ⟨S16x2x2048x2048x4, .f32⟩
  | .hbm, ⟨90, _⟩ => ⟨S16x2x4x2048x2048, .f32⟩
  | .hbm, ⟨91, _⟩ => ⟨S_, .f32⟩
  | .hbm, ⟨92, _⟩ => ⟨S16x2x4x2048x2048, .f32⟩
  | .hbm, ⟨93, _⟩ => ⟨S16x2x4x2048x2048, .f32⟩
  | .hbm, ⟨94, _⟩ => ⟨S1x2x4x2048x2048, .f32⟩
  | .hbm, ⟨95, _⟩ => ⟨S16x2x4x2048x2048, .f32⟩
  | .hbm, ⟨96, _⟩ => ⟨S16x2x4x2048x2048, .f32⟩
  | .hbm, ⟨97, _⟩ => ⟨S_, .f32⟩
  | .hbm, ⟨98, _⟩ => ⟨S_, .f32⟩
  | .hbm, ⟨99, _⟩ => ⟨S16x2x4x2048x2048, .i1⟩
  | .hbm, ⟨100, _⟩ => ⟨S16x2x4x2048x2048, .f32⟩
  | .hbm, ⟨101, _⟩ => ⟨S16x2x4x2048x2048, .f32⟩
  | .hbm, ⟨102, _⟩ => ⟨S_, .f32⟩
  | .hbm, ⟨103, _⟩ => ⟨S16x2x4x2048, .f32⟩
  | .hbm, ⟨104, _⟩ => ⟨S16x2x4x2048x1, .f32⟩
  | .hbm, ⟨105, _⟩ => ⟨S1x2x4x1x1, .f32⟩
  | .hbm, ⟨106, _⟩ => ⟨S16x2x4x2048x1, .f32⟩
  | .hbm, ⟨107, _⟩ => ⟨S16x2x4x2048x1, .f32⟩
  | .hbm, ⟨108, _⟩ => ⟨S16x2x4x2048x2048, .f32⟩
  | .hbm, ⟨109, _⟩ => ⟨S16x2x4x2048x2048, .f32⟩
  | .hbm, ⟨110, _⟩ => ⟨S16x2x4x2048x2048, .f32⟩
  | .hbm, ⟨111, _⟩ => ⟨S_, .f32⟩
  | .hbm, ⟨112, _⟩ => ⟨S16x2x4x2048, .f32⟩
  | .hbm, ⟨113, _⟩ => ⟨S16x2x4x2048x1, .f32⟩
  | .hbm, ⟨114, _⟩ => ⟨S1x2x4x1x1, .f32⟩
  | .hbm, ⟨115, _⟩ => ⟨S16x2x4x2048x1, .f32⟩
  | .hbm, ⟨116, _⟩ => ⟨S16x2x4x2048x1, .f32⟩
  | .hbm, ⟨117, _⟩ => ⟨S16x2x4x2048x1, .f32⟩
  | .hbm, ⟨118, _⟩ => ⟨S16x2x4x2048x1, .f32⟩
  | .hbm, ⟨119, _⟩ => ⟨S16x2x4x2048x2048, .f32⟩
  | .hbm, ⟨120, _⟩ => ⟨S16x2x4x2048x2048, .f32⟩
  | .hbm, ⟨121, _⟩ => ⟨S16x2x64x4x2048, .f32⟩
  | .hbm, ⟨122, _⟩ => ⟨S16x2048x2x4x64, .f32⟩
  | .hbm, ⟨123, _⟩ => ⟨S16x2048x512, .f32⟩
  | .hbm, ⟨124, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_8 : Ref sig .tc := ⟨.hbm, 63, rfl⟩
abbrev main_v50 : Ref sig .tc := ⟨.hbm, 64, rfl⟩
abbrev main_v51 : Ref sig .tc := ⟨.hbm, 65, rfl⟩
abbrev main_c_9 : Ref sig .tc := ⟨.hbm, 66, rfl⟩
abbrev main_c_10 : Ref sig .tc := ⟨.hbm, 67, rfl⟩
abbrev main_call0_v0 : Ref sig .tc := ⟨.hbm, 68, rfl⟩
abbrev main_call0_v1 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== Gmm.lean ====
abbrev S32768x1024 : Shape := ⟨2, ![32768, 1024]⟩
abbrev S8x1024x3584 : Shape := ⟨3, ![8, 1024, 3584]⟩
abbrev S8x3584x1024 : Shape := ⟨3, ![8, 3584, 1024]⟩
abbrev S1x32768x1x1024 : Shape := ⟨4, ![1, 32768, 1, 1024]⟩
abbrev S8x32768x1x1024 : Shape := ⟨4, ![8, 32768, 1, 1024]⟩
abbrev S262144x1024 : Shape := ⟨2, ![262144, 1024]⟩
abbrev S8 : Shape := ⟨1, ![8]⟩
abbrev S8x32 : Shape := ⟨2, ![8, 32]⟩
abbrev S256 : Shape := ⟨1, ![256]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 13
  | .vmem => 11
  | .smem => 1
  | _ => 0

abbrev bufTy : (tb : Table) → Fin (tcTables nBuf tb) → BufTy
  | .hbm, ⟨0, _⟩ => ⟨S32768x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S1x32768x1x1024, .bf16⟩
  | .hbm, ⟨5, _⟩ => ⟨S8x32768x1x1024, .bf16⟩
  | .hbm, ⟨6, _⟩ => ⟨S262144x1024, .bf16⟩
  | .hbm, ⟨7, _⟩ => ⟨S8, .i32⟩
  | .hbm, ⟨8, _⟩ => ⟨S8x32, .i32⟩
  | .hbm, ⟨9, _⟩ => ⟨S8x1024x3584, .bf16⟩
  | .hbm, ⟨10, _⟩ => ⟨S8x1024x3584, .bf16⟩
  | .hbm, ⟨11, _⟩ => ⟨S8x3584x1024, .bf16⟩
  | .hbm, ⟨12, _⟩ => ⟨S262144x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S256, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![256, 7], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GmmRefIdeal.lean ====
abbrev S32768x1024 : Shape := ⟨2, ![32768, 1024]⟩
abbrev S8x1024x3584 : Shape := ⟨3, ![8, 1024, 3584]⟩
abbrev S8x3584x1024 : Shape := ⟨3, ![8, 3584, 1024]⟩
abbrev S8x3584x32768 : Shape := ⟨3, ![8, 3584, 32768]⟩
abbrev S8x32768x3584 : Shape := ⟨3, ![8, 32768, 3584]⟩
abbrev S_ : Shape := ⟨0, ![]⟩
abbrev S8x32768x1024 : Shape := ⟨3, ![8, 32768, 1024]⟩
abbrev S262144x1024 : Shape := ⟨2, ![262144, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S32768x1024, .f32⟩
  | .hbm, ⟨5, _⟩ => ⟨S8x3584x32768, .f32⟩
  | .hbm, ⟨6, _⟩ => ⟨S8x32768x3584, .f32⟩
  | .hbm, ⟨7, _⟩ => ⟨S8x3584x32768, .f32⟩
  | .hbm, ⟨8, _⟩ => ⟨S8x32768x3584, .f32⟩
  | .hbm, ⟨9, _⟩ => ⟨S8x32768x3584, .f32⟩
  | .hbm, ⟨10, _⟩ => ⟨S8x32768x3584, .f32⟩
  | .hbm, ⟨11, _⟩ => ⟨S_, .f32⟩
  | .hbm, ⟨12, _⟩ => ⟨S8x32768x3584, .f32⟩
  | .hbm, ⟨13, _⟩ => ⟨S8x32768x3584, .f32⟩
  | .hbm, ⟨14, _⟩ => ⟨S_, .f32⟩
  | .hbm, ⟨15, _⟩ => ⟨S8x32768x3584, .f32⟩
  | .hbm, ⟨16, _⟩ => ⟨S8x32768x3584, .f32⟩
  | .hbm, ⟨17, _⟩ => ⟨S8x32768x3584, .f32⟩
  | .hbm, ⟨18, _⟩ => ⟨S8x32768x3584, .f32⟩
  | .hbm, ⟨19, _⟩ => ⟨S8x32768x1024, .f32⟩
  | .hbm, ⟨20, _⟩ => ⟨S262144x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Combine.lean ====
abbrev S262144x1024 : Shape := ⟨2, ![262144, 1024]⟩
abbrev S32768x8 : Shape := ⟨2, ![32768, 8]⟩
abbrev S32768x1024 : Shape := ⟨2, ![32768, 1024]⟩
abbrev S1024 : Shape := ⟨1, ![1024]⟩
abbrev S8x32768x1024 : Shape := ⟨3, ![8, 32768, 1024]⟩
abbrev S1x1024 : Shape := ⟨2, ![1, 1024]⟩
abbrev S1x512x1024 : Shape := ⟨3, ![1, 512, 1024]⟩
abbrev S512x8 : Shape := ⟨2, ![512, 8]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S262144x1024, .f32⟩
  | .hbm, ⟨1, _⟩ => ⟨S32768x8, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S8x32768x1024, .f32⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x8, .f32⟩
  | .local _ .vmem, ⟨3, _⟩ => ⟨S512x8, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CombineRefIdeal.lean ====
abbrev S262144x1024 : Shape := ⟨2, ![262144, 1024]⟩
abbrev S32768x8 : Shape := ⟨2, ![32768, 8]⟩
abbrev S32768x1024 : Shape := ⟨2, ![32768, 1024]⟩
abbrev S1024 : Shape := ⟨1, ![1024]⟩
abbrev S8x32768x1024 : Shape := ⟨3, ![8, 32768, 1024]⟩
abbrev S_ : Shape := ⟨0, ![]⟩
abbrev S32768x1 : Shape := ⟨2, ![32768, 1]⟩
abbrev S1x32768x1024 : Shape := ⟨3, ![1, 32768, 1024]⟩
abbrev S32768 : Shape := ⟨1, ![32768]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S32768x8, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S8x32768x1024, .f32⟩
  | .hbm, ⟨6, _⟩ => ⟨S_, .f32⟩
  | .hbm, ⟨7, _⟩ => ⟨S32768x1024, .f32⟩
  | .hbm, ⟨8, _⟩ => ⟨S32768x1, .f32⟩
  | .hbm, ⟨9, _⟩ => ⟨S1x32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1, .f32⟩
  | .hbm, ⟨15, _⟩ => ⟨S1x32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1, .f32⟩
  | .hbm, ⟨21, _⟩ => ⟨S1x32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1, .f32⟩
  | .hbm, ⟨27, _⟩ => ⟨S1x32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1, .f32⟩
  | .hbm, ⟨33, _⟩ => ⟨S1x32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1, .f32⟩
  | .hbm, ⟨39, _⟩ => ⟨S1x32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1, .f32⟩
  | .hbm, ⟨45, _⟩ => ⟨S1x32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1, .f32⟩
  | .hbm, ⟨51, _⟩ => ⟨S1x32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S1x1024, .f32⟩
  | .hbm, ⟨84, _⟩ => ⟨S32768x1024, .f32⟩
  | .hbm, ⟨85, _⟩ => ⟨S32768x1024, .f32⟩
  | .hbm, ⟨86, _⟩ => ⟨S1x1024, .f32⟩
  | .hbm, ⟨87, _⟩ => ⟨S32768x1024, .f32⟩
  | .hbm, ⟨88, _⟩ => ⟨S32768x1024, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_0 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_1 : Ref sig .tc := ⟨.hbm, 60, rfl⟩
abbrev main_v53 : Ref sig .tc := ⟨.hbm, 61, rfl⟩
abbrev main_v54 : Ref sig .tc := ⟨.hbm, 62, rfl⟩
abbrev main_cst_2 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_3 : Ref sig .tc := ⟨.hbm, 69, rfl⟩
abbrev main_v60 : Ref sig .tc := ⟨.hbm, 70, rfl⟩
abbrev main_v61 : Ref sig .tc := ⟨.hbm, 71, rfl⟩
abbrev main_cst_4 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_5 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩

abbrev nD : Nat := 1
abbrev τ : Topo := Topo.v7x

variable {F : FTy → Type} [FloatOps F]
-- ==== Inproj.lean ====
abbrev S32768x1024 : Shape := ⟨2, ![32768, 1024]⟩
abbrev S1024x6432 : Shape := ⟨2, ![1024, 6432]⟩
abbrev S1024x512 : Shape := ⟨2, ![1024, 512]⟩
abbrev S1024x256 : Shape := ⟨2, ![1024, 256]⟩
abbrev S1024x1536 : Shape := ⟨2, ![1024, 1536]⟩
abbrev S1024x32 : Shape := ⟨2, ![1024, 32]⟩
abbrev S1024x3072 : Shape := ⟨2, ![1024, 3072]⟩
abbrev S32768x512 : Shape := ⟨2, ![32768, 512]⟩
abbrev S32768x256 : Shape := ⟨2, ![32768, 256]⟩
abbrev S32768x1536 : Shape := ⟨2, ![32768, 1536]⟩
abbrev S32768x32 : Shape := ⟨2, ![32768, 32]⟩
abbrev S32768x3072 : Shape := ⟨2, ![32768, 3072]⟩
abbrev S256x1024 : Shape := ⟨2, ![256, 1024]⟩
abbrev S256x512 : Shape := ⟨2, ![256, 512]⟩
abbrev S256x256 : Shape := ⟨2, ![256, 256]⟩
abbrev S256x1536 : Shape := ⟨2, ![256, 1536]⟩
abbrev S256x32 : Shape := ⟨2, ![256, 32]⟩
abbrev S256x3072 : Shape := ⟨2, ![256, 3072]⟩

abbrev nBuf : Space → Nat
  | .hbm => 17
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S1024x6432, .f32⟩
  | .hbm, ⟨2, _⟩ => ⟨S1024x6432, .bf16⟩
  | .hbm, ⟨3, _⟩ => ⟨S1024x512, .bf16⟩
  | .hbm, ⟨4, _⟩ => ⟨S1024x256, .bf16⟩
  | .hbm, ⟨5, _⟩ => ⟨S1024x1536, .bf16⟩
  | .hbm, ⟨6, _⟩ => ⟨S1024x512, .bf16⟩
  | .hbm, ⟨7, _⟩ => ⟨S1024x32, .bf16⟩
  | .hbm, ⟨8, _⟩ => ⟨S1024x512, .bf16⟩
  | .hbm, ⟨9, _⟩ => ⟨S1024x3072, .bf16⟩
  | .hbm, ⟨10, _⟩ => ⟨S32768x512, .bf16⟩
  | .hbm, ⟨11, _⟩ => ⟨S32768x256, .bf16⟩
  | .hbm, ⟨12, _⟩ => ⟨S32768x1536, .f32⟩
  | .hbm, ⟨13, _⟩ => ⟨S32768x512, .bf16⟩
  | .hbm, ⟨14, _⟩ => ⟨S32768x32, .f32⟩
  | .hbm, ⟨15, _⟩ => ⟨S32768x512, .bf16⟩
  | .hbm, ⟨16, _⟩ => ⟨S32768x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x512, .bf16⟩
  | .local _ .vmem, ⟨3, _⟩ => ⟨S1024x256, .bf16⟩
  | .local _ .vmem, ⟨4, _⟩ => ⟨S1024x1536, .bf16⟩
  | .local _ .vmem, ⟨5, _⟩ => ⟨S1024x512, .bf16⟩
  | .local _ .vmem, ⟨6, _⟩ => ⟨S1024x32, .bf16⟩
  | .local _ .vmem, ⟨7, _⟩ => ⟨S1024x512, .bf16⟩
  | .local _ .vmem, ⟨8, _⟩ => ⟨S1024x3072, .bf16⟩
  | .local _ .vmem, ⟨9, _⟩ => ⟨S256x512, .bf16⟩
  | .local _ .vmem, ⟨10, _⟩ => ⟨S256x512, .bf16⟩
  | .local _ .vmem, ⟨11, _⟩ => ⟨S256x256, .bf16⟩
  | .local _ .vmem, ⟨12, _⟩ => ⟨S256x256, .bf16⟩
  | .local _ .vmem, ⟨13, _⟩ => ⟨S256x1536, .f32⟩
  | .local _ .vmem, ⟨14, _⟩ => ⟨S256x1536, .f32⟩
  | .local _ .vmem, ⟨15, _⟩ => ⟨S256x512, .bf16⟩
  | .local _ .vmem, ⟨16, _⟩ => ⟨S256x512, .bf16⟩
  | .local _ .vmem, ⟨17, _⟩ => ⟨S256x32, .f32⟩
  | .local _ .vmem, ⟨18, _⟩ => ⟨S256x32, .f32⟩
  | .local _ .vmem, ⟨19, _⟩ => ⟨S256x512, .bf16⟩
  | .local _ .vmem, ⟨20, _⟩ => ⟨S256x512, .bf16⟩
  | .local _ .vmem, ⟨21, _⟩ => ⟨S256x3072, .bf16⟩
  | .local _ .vmem, ⟨22, _⟩ => ⟨S256x3072, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v8_2 : Ref sig .tc := ⟨.hbm, 12, rfl⟩
abbrev main_v8_3 : Ref sig .tc := ⟨.hbm, 13, rfl⟩
abbrev main_v8_4 : Ref sig .tc := ⟨.hbm, 14, rfl⟩
abbrev main_v8_5 : Ref sig .tc := ⟨.hbm, 15, rfl⟩
abbrev main_v8_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojRefIdeal.lean ====
abbrev S32768x1024 : Shape := ⟨2, ![32768, 1024]⟩
abbrev S1024x6432 : Shape := ⟨2, ![1024, 6432]⟩
abbrev S32768x6432 : Shape := ⟨2, ![32768, 6432]⟩
abbrev S32768x512 : Shape := ⟨2, ![32768, 512]⟩
abbrev S32768x256 : Shape := ⟨2, ![32768, 256]⟩
abbrev S32768x1536 : Shape := ⟨2, ![32768, 1536]⟩
abbrev S32768x32 : Shape := ⟨2, ![32768, 32]⟩
abbrev S32768x3072 : Shape := ⟨2, ![32768, 3072]⟩

abbrev nBuf : Space → Nat
  | .hbm => 16
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x6432, .f32⟩
  | .hbm, ⟨2, _⟩ => ⟨S32768x1024, .f32⟩
  | .hbm, ⟨3, _⟩ => ⟨S32768x6432, .f32⟩
  | .hbm, ⟨4, _⟩ => ⟨S32768x512, .f32⟩
  | .hbm, ⟨5, _⟩ => ⟨S32768x256, .f32⟩
  | .hbm, ⟨6, _⟩ => ⟨S32768x1536, .f32⟩
  | .hbm, ⟨7, _⟩ => ⟨S32768x512, .f32⟩
  | .hbm, ⟨8, _⟩ => ⟨S32768x32, .f32⟩
  | .hbm, ⟨9, _⟩ => ⟨S32768x512, .f32⟩
  | .hbm, ⟨10, _⟩ => ⟨S32768x3072, .f32⟩
  | .hbm, ⟨11, _⟩ => ⟨S32768x512, .bf16⟩
  | .hbm, ⟨12, _⟩ => ⟨S32768x256, .bf16⟩
  | .hbm, ⟨13, _⟩ => ⟨S32768x512, .bf16⟩
  | .hbm, ⟨14, _⟩ => ⟨S32768x512, .bf16⟩
  | .hbm, ⟨15, _⟩ => ⟨S32768x3072, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 17
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S1024x2816, .bf16⟩
  | .hbm, ⟨8, _⟩ => ⟨S1x1024x2816, .bf16⟩
  | .hbm, ⟨9, _⟩ => ⟨S1024x2816, .bf16⟩
  | .hbm, ⟨10, _⟩ => ⟨S1x1024x2816, .bf16⟩
  | .hbm, ⟨11, _⟩ => ⟨S2816x1024, .bf16⟩
  | .hbm, ⟨12, _⟩ => ⟨S1x2816x1024, .bf16⟩
  | .hbm, ⟨13, _⟩ => ⟨S1x1024, .f32⟩
  | .hbm, ⟨14, _⟩ => ⟨S1x1024, .f32⟩
  | .hbm, ⟨15, _⟩ => ⟨S32768x1024, .f32⟩
  | .hbm, ⟨16, _⟩ => ⟨S32768x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Router.lean ====
abbrev S32768x1024 : Shape := ⟨2, ![32768, 1024]⟩
abbrev S1024x8 : Shape := ⟨2, ![1024, 8]⟩
abbrev S32768x8 : Shape := ⟨2, ![32768, 8]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S512x8, .f32⟩
  | .local _ .vmem, ⟨4, _⟩ => ⟨S512x8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouterRefIdeal.lean ====
abbrev S32768x1024 : Shape := ⟨2, ![32768, 1024]⟩
abbrev S1024x8 : Shape := ⟨2, ![1024, 8]⟩
abbrev S32768x8 : Shape := ⟨2, ![32768, 8]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S32768x2x1 : Shape := ⟨3, ![32768, 2, 1]⟩
abbrev S1x1x8 : Shape := ⟨3, ![1, 1, 8]⟩
abbrev S32768x2x8 : Shape := ⟨3, ![32768, 2, 8]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S32768x8, .f32⟩
  | .hbm, ⟨3, _⟩ => ⟨S32768x2, .f32⟩
  | .hbm, ⟨4, _⟩ => ⟨S32768x2, .i32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x2, .f32⟩
  | .hbm, ⟨12, _⟩ => ⟨S32768x2, .f32⟩
  | .hbm, ⟨13, _⟩ => ⟨S32768x2, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x2, .f32⟩
  | .hbm, ⟨18, _⟩ => ⟨S32768x2, .f32⟩
  | .hbm, ⟨19, _⟩ => ⟨S32768x2x1, .i32⟩
  | .hbm, ⟨20, _⟩ => ⟨S1x1x8, .i32⟩
  | .hbm, ⟨21, _⟩ => ⟨S32768x2x8, .i32⟩
  | .hbm, ⟨22, _⟩ => ⟨S32768x2x8, .i32⟩
  | .hbm, ⟨23, _⟩ => ⟨S32768x2x8, .i1⟩
  | .hbm, ⟨24, _⟩ => ⟨S32768x2x8, .f32⟩
  | .hbm, ⟨25, _⟩ => ⟨S32768x2x1, .f32⟩
  | .hbm, ⟨26, _⟩ => ⟨S32768x2x8, .f32⟩
  | .hbm, ⟨27, _⟩ => ⟨S32768x2x8, .f32⟩
  | .hbm, ⟨28, _⟩ => ⟨S_, .f32⟩
  | .hbm, ⟨29, _⟩ => ⟨S32768x8, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Merge.lean ====
abbrev S32768x512 : Shape := ⟨2, ![32768, 512]⟩
abbrev S2x32768x512 : Shape := ⟨3, ![2, 32768, 512]⟩
abbrev S32768x3072 : Shape := ⟨2, ![32768, 3072]⟩
abbrev S32768x1024 : Shape := ⟨2, ![32768, 1024]⟩
abbrev S64 : Shape := ⟨1, ![64]⟩
abbrev S3x512x1024 : Shape := ⟨3, ![3, 512, 1024]⟩
abbrev S1024x1024 : Shape := ⟨2, ![1024, 1024]⟩
abbrev S1024 : Shape := ⟨1, ![1024]⟩
abbrev S512 : Shape := ⟨1, ![512]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S256x512 : Shape := ⟨2, ![256, 512]⟩
abbrev S2x256x512 : Shape := ⟨3, ![2, 256, 512]⟩
abbrev S256x3072 : Shape := ⟨2, ![256, 3072]⟩
abbrev S256x1024 : Shape := ⟨2, ![256, 1024]⟩
abbrev S1x256x512 : Shape := ⟨3, ![1, 256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 28
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S2x32768x512, .f32⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S32768x1024, .f32⟩
  | .hbm, ⟨6, _⟩ => ⟨S64, .f32⟩
  | .hbm, ⟨7, _⟩ => ⟨S3x512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512, .i32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S512x1, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .bf16⟩
  | .hbm, ⟨22, _⟩ => ⟨S3x512x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S32768x1024, .f32⟩
  | .hbm, ⟨27, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S2x256x512, .f32⟩
  | .local _ .vmem, ⟨3, _⟩ => ⟨S2x256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S256x1024, .f32⟩
  | .local _ .vmem, ⟨11, _⟩ => ⟨S256x1024, .f32⟩
  | .local _ .vmem, ⟨12, _⟩ => ⟨S512x512, .bf16⟩
  | .local _ .vmem, ⟨13, _⟩ => ⟨S1x512, .f32⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32768x512 : Shape := ⟨2, ![32768, 512]⟩
abbrev S2x32768x512 : Shape := ⟨3, ![2, 32768, 512]⟩
abbrev S32768x3072 : Shape := ⟨2, ![32768, 3072]⟩
abbrev S32768x1024 : Shape := ⟨2, ![32768, 1024]⟩
abbrev S64 : Shape := ⟨1, ![64]⟩
abbrev S3x512x1024 : Shape := ⟨3, ![3, 512, 1024]⟩
abbrev S1024x1024 : Shape := ⟨2, ![1024, 1024]⟩
abbrev S1024 : Shape := ⟨1, ![1024]⟩
abbrev S1x32768x512 : Shape := ⟨3, ![1, 32768, 512]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S1x1x64 : Shape := ⟨3, ![1, 1, 64]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 130
  | .vmem => 0
  | .smem => 0
  | _ => 0

abbrev hbmTy0_0 (i : Nat) : BufTy := match i % 128 with
  | 0 => ⟨S32768x512, .bf16⟩
  | 1 => ⟨S2x32768x512, .f32⟩
  | 2 => ⟨S32768x512, .bf16⟩
  | 3 => ⟨S32768x512, .bf16⟩
  | 4 => ⟨S32768x3072, .bf16⟩
  | 5 => ⟨S32768x1024, .f32⟩
  | 6 => ⟨S64, .f32⟩
  | 7 => ⟨S3x512x1024, .f32⟩
  | 8 => ⟨S1024x1024, .f32⟩
  | 9 => ⟨S1024, .f32⟩
  | 10 => ⟨S1024, .f32⟩
  | 11 => ⟨S1x32768x512, .f32⟩
  | 12 => ⟨S32768x512, .f32⟩
  | 13 => ⟨S1x32768x512, .f32⟩
  | 14 => ⟨S32768x512, .f32⟩
  | 15 => ⟨S32768x512, .f32⟩
  | 16 => ⟨S32768x8x64, .f32⟩
  | 17 => ⟨S32768x512, .f32⟩
  | 18 => ⟨S32768x8x64, .f32⟩
  | 19 => ⟨S32768x8x64, .f32⟩
  | 20 => ⟨S_, .f32⟩
  | 21 => ⟨S32768x8, .f32⟩
  | 22 => ⟨S32768x8x1, .f32⟩
  | 23 => ⟨S_, .f32⟩
  | 24 => ⟨S32768x8x1, .f32⟩
  | 25 => ⟨S32768x8x1, .f32⟩
  | 26 => ⟨S_, .f32⟩
  | 27 => ⟨S32768x8x1, .f32⟩
  | 28 => ⟨S32768x8x1, .f32⟩
  | 29 => ⟨S32768x8x1, .f32⟩
  | 30 => ⟨S32768x8x64, .f32⟩
  | 31 => ⟨S32768x8x64, .f32⟩
  | 32 => ⟨S1x1x64, .f32⟩
  | 33 => ⟨S32768x8x64, .f32⟩
  | 34 => ⟨S32768x8x64, .f32⟩
  | 35 => ⟨S32768x8x64, .f32⟩
  | 36 => ⟨S32768x8x64, .f32⟩
  | 37 => ⟨S_, .f32⟩
  | 38 => ⟨S32768x8x64, .f32⟩
  | 39 => ⟨S32768x8x64, .f32⟩
  | 40 => ⟨S_, .f32⟩
  | 41 => ⟨S32768x8x64, .f32⟩
  | 42 => ⟨S32768x8x64, .f32⟩
  | 43 => ⟨S32768x8x64, .f32⟩
  | 44 => ⟨S32768x8x64, .f32⟩
  | 45 => ⟨S32768x512, .f32⟩
  | 46 => ⟨S32768x512, .f32⟩
  | 47 => ⟨S32768x512, .f32⟩
  | 48 => ⟨S_, .f32⟩
  | 49 => ⟨S32768x1024, .f32⟩
  | 50 => ⟨S32768x1024, .bf16⟩
  | 51 => ⟨S32768x1024, .f32⟩
  | 52 => ⟨S32768x1024, .f32⟩
  | 53 => ⟨S32768x1024, .f32⟩
  | 54 => ⟨S_, .f32⟩
  | 55 => ⟨S32768x1024, .f32⟩
  | 56 => ⟨S32768x1024, .f32⟩
  | 57 => ⟨S_, .f32⟩
  | 58 => ⟨S32768x1024, .f32⟩
  | 59 => ⟨S32768x1024, .f32⟩
  | 60 => ⟨S1x512x1024, .f32⟩
  | 61 => ⟨S512x1024, .f32⟩
  | 62 => ⟨S32768x1024, .f32⟩
  | 63 => ⟨S32768x1024, .f32⟩
  | 64 => ⟨S32768x1024, .f32⟩
  | 65 => ⟨S32768x1024, .bf16⟩
  | 66 => ⟨S32768x1024, .f32⟩
  | 67 => ⟨S32768x1024, .f32⟩
  | 68 => ⟨S32768x1024, .f32⟩
  | 69 => ⟨S_, .f32⟩
  | 70 => ⟨S32768x1024, .f32⟩
  | 71 => ⟨S32768x1024, .f32⟩
  | 72 => ⟨S_, .f32⟩
  | 73 => ⟨S32768x1024, .f32⟩
  | 74 => ⟨S32768x1024, .f32⟩
  | 75 => ⟨S1x512x1024, .f32⟩
  | 76 => ⟨S512x1024, .f32⟩
  | 77 => ⟨S32768x1024, .f32⟩
  | 78 => ⟨S32768x1024, .f32⟩
  | 79 => ⟨S32768x1024, .f32⟩
  | 80 => ⟨S32768x1024, .bf16⟩
  | 81 => ⟨S32768x1024, .f32⟩
  | 82 => ⟨S32768x1024, .f32⟩
  | 83 => ⟨S32768x1024, .f32⟩
  | 84 => ⟨S_, .f32⟩
  | 85 => ⟨S32768x1024, .f32⟩
  | 86 => ⟨S32768x1024, .f32⟩
  | 87 => ⟨S_, .f32⟩
  | 88 => ⟨S32768x1024, .f32⟩
  | 89 => ⟨S32768x1024, .f32⟩
  | 90 => ⟨S1x512x1024, .f32⟩
  | 91 => ⟨S512x1024, .f32⟩
  | 92 => ⟨S32768x1024, .f32⟩
  | 93 => ⟨S32768x1024, .f32⟩
  | 94 => ⟨S32768x1024, .f32⟩
  | 95 => ⟨S_, .f32⟩
  | 96 => ⟨S32768x1024, .f32⟩
  | 97 => ⟨S32768x1024, .f32⟩
  | 98 => ⟨S32768x1024, .f32⟩
  | 99 => ⟨S32768x1024, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S32768x1024, .f32⟩
  | 107 => ⟨S32768x1024, .f32⟩
  | 108 => ⟨S32768x1024, .f32⟩
  | 109 => ⟨S_, .f32⟩
  | 110 => ⟨S32768, .f32⟩
  | 111 => ⟨S32768x1, .f32⟩
  | 112 => ⟨S_, .f32⟩
  | 113 => ⟨S32768x1, .f32⟩
  | 114 => ⟨S32768x1, .f32⟩
  | 115 => ⟨S32768x1024, .f32⟩
  | 116 => ⟨S32768x1024, .f32⟩
  | 117 => ⟨S_, .f32⟩
  | 118 => ⟨S32768x1, .f32⟩
  | 119 => ⟨S32768x1, .f32⟩
  | 120 => ⟨S32768x1, .f32⟩
  | 121 => ⟨S32768x1024, .f32⟩
  | 122 => ⟨S32768x1024, .f32⟩
  | 123 => ⟨S1x1024, .f32⟩
  | 124 => ⟨S32768x1024, .f32⟩
  | 125 => ⟨S32768x1024, .f32⟩
  | 126 => ⟨S1x1024, .f32⟩
  | 127 => ⟨S32768x1024, .f32⟩
  | _ => ⟨S32768x512, .bf16⟩

abbrev hbmTy0_1 (i : Nat) : BufTy := match i % 128 with
  | 0 => ⟨S32768x1024, .f32⟩
  | 1 => ⟨S32768x1024, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_10 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== Proof.Norm.lean ====
/- The layer norm of a row, as both sides of a claim spell it over the extended reals. -/
module

public import Idealize.ShloMosaic.Lib.Pipeline.ValueKit

@[expose] public section

noncomputable section

namespace Cert.NormVal

open Idealize.ShloMosaic

/-- The mean of a row of 1024. -/
def mean (x : Fin 1024 → EReal) : EReal := Ideal.div (∑ k, x k) (Ideal.ofBits .f32 0x44800000#32)

/-- A row's layer norm at one entry, with the gain `g` and the shift `b` of its column. -/
def norm (x : Fin 1024 → EReal) (g b : EReal) (n : Fin 1024) : EReal :=
  (x n - mean x) * Ideal.rsqrt (mean (fun k => (x k - mean x) * (x k - mean x)) + Ideal.ofBits .f32 0x3727C5AC#32) * g + b

/-- The residual sum: the layer's scale times the stream, plus the branch. -/
def resid (h s : EReal) : EReal := Ideal.ofBits .f32 0x3FB504F3#32 * h + s

end Cert.NormVal
end
-- ==== Proof.Finite.lean ====
/- Finite extended reals: a comparison `|x| < ∞` read as finiteness, and finite sums of finite products. -/
module

public import Idealize.ShloMosaic.PureOps
public import Idealize.ShloMosaic.PureOps.Ideal.Laws

@[expose] public section

noncomputable section

namespace Cert.FiniteVal

open Idealize.ShloMosaic

/-- An extended real that is a real number. -/
def IsReal (x : EReal) : Prop := ∃ r : ℝ, x = (r : EReal)

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem of_ne {x : EReal} (ht : x ≠ ⊤) (hb : x ≠ ⊥) : IsReal x := ⟨x.toReal, (EReal.coe_toReal ht hb).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `max x (−x)` below `+∞`: `x` is finite. -/
theorem of_abs_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h' : max x (-x) < ⊤ := by
    by_contra hc
    simp [Ideal.cmp, hc] at h
  refine of_ne (fun e => ?_) (fun e => ?_)
  · rw [e] at h'; simp at h'
  · rw [e] at h'; simp at h'

end Cert.FiniteVal
end
-- ==== Proof.Merge.Row.lean ====
/- One row of the merge of the three branches, as both sides of its claim spell it over the extended reals. -/
module

public import proofs.«01_k».proof.Proof.Norm
public import proofs.«01_k».proof.Proof.Finite
public import Idealize.ShloMosaic.Lib.Pipeline.ValueKit

@[expose] public section

noncomputable section

namespace Cert.MergeVal

open Idealize.ShloMosaic

/-- The logistic function of a gate. -/
def gate (g : EReal) : EReal := Ideal.div 1 (1 + Ideal.exp (0 - g))

/-- Lane `d` of the head that lane `k` belongs to. -/
def headLane (k : Fin 512) (d : Fin 64) : Fin 512 := ⟨k.val / 64 * 64 + d.val, by have := k.isLt; omega⟩

/-- A lane's position within its head. -/
def pos (k : Fin 512) : Fin 64 := ⟨k.val % 64, by omega⟩

/-- The sum of a row's squares over the head of lane `k`. -/
def headSum (o : Fin 512 → EReal) (k : Fin 512) : EReal := ∑ d : Fin 64, o (headLane k d) * o (headLane k d)

/-- The delta branch after its norm and its gate. -/
def delta (o z : Fin 512 → EReal) (w : Fin 64 → EReal) (k : Fin 512) : EReal :=
  o k * Ideal.rsqrt (Ideal.div (headSum o k) (Ideal.ofBits .f32 0x42800000#32) + Ideal.ofBits .f32 0x358637BD#32) * w (pos k)
    * (z k * gate (z k))

/-- The gated sum of the three branches' projections to one column. -/
def merged (A D P : Fin 512 → EReal) (G : Fin 3 → EReal) (W : Fin 3 → Fin 512 → EReal) : EReal :=
  gate (G 0) * (∑ k, A k * W 0 k) + gate (G 1) * (∑ k, D k * W 1 k) + gate (G 2) * (∑ k, P k * W 2 k)

/-- The column of the gates that branch `b` and column `c` read. -/
def gcol (b : Fin 3) (c : Fin 1024) : Fin 3072 := ⟨b.val * 1024 + c.val, by have := b.isLt; have := c.isLt; omega⟩

end Cert.MergeVal
end
-- ==== Proof.Merge.Point.lean ====
/- One grid step of the merge at one entry. -/
module

public import proofs.«01_k».proof.Proof.Gen.MergeIdeal.Skeleton
public import proofs.«01_k».proof.Proof.Merge.Row
public import Idealize.ShloMosaic.Lib.ValueIdxCore

@[expose] public section

set_option maxRecDepth 16384

noncomputable section

namespace Cert.MergeVal

open Cert.MergeIdeal Cert.MergeIdeal.Gen Idealize.ShloMosaic Idealize.ShloMosaic.TcCoe Idealize.SL.Sem Cert.FiniteVal

/-- The mean's division is the product with its reciprocal. -/
theorem div64 (x : EReal) : x * Ideal.ofBits .f32 0x3C800000#32 = Ideal.div x (Ideal.ofBits .f32 0x42800000#32) := by
  have h : Ideal.ofBits .f32 0x42800000#32 = ((64 : ℝ) : EReal) := by
    simp [Ideal.ofBits, Ideal.ieee]
    rw [← EReal.coe_mul]
    exact congrArg _ (by norm_num)
  have h' : Ideal.ofBits .f32 0x3C800000#32 = ((1 / 64 : ℝ) : EReal) := by
    simp [Ideal.ofBits, Ideal.ieee]
    rw [← EReal.coe_mul]
    exact congrArg _ (by norm_num)
  rw [h, h', Ideal.div_coe (by norm_num)]

/-- A product with the block diagonal of ones is the sum over the head. -/
theorem sum_head (f : Fin 512 → EReal) (k : Fin 512) :
    ∑ q : Fin 512, f q * (if q.val / 64 = k.val / 64 then (1 : EReal) else 0) = ∑ d : Fin 64, f (headLane k d) := by
  simp only [mul_ite, mul_one, mul_zero]
  rw [← Finset.sum_filter]
  refine Finset.sum_nbij' pos (headLane k) (fun _ _ => Finset.mem_univ _) (fun d _ => ?_) (fun q hq => ?_) (fun d _ => ?_) (fun q hq => ?_)
  · rw [Finset.mem_filter]
    refine ⟨Finset.mem_univ _, ?_⟩
    show (k.val / 64 * 64 + d.val) / 64 = k.val / 64
    omega
  · have := (Finset.mem_filter.mp hq).2
    refine Fin.ext ?_
    show k.val / 64 * 64 + q.val % 64 = q.val
    omega
  · refine Fin.ext ?_
    show (k.val / 64 * 64 + d.val) % 64 = d.val
    omega
  · have := (Finset.mem_filter.mp hq).2
    congr 1
    refine Fin.ext ?_
    show q.val = k.val / 64 * 64 + q.val % 64
    omega

theorem sub_self_of_real {x : EReal} (h : IsReal x) : x - x = 0 := by
  obtain ⟨r, rfl⟩ := h
  rw [← EReal.coe_sub, sub_self, EReal.coe_zero]

theorem pay3 (v0 v2 : Vec Ideal S1x256x512 .f32) (v6 : Vec Ideal S512x512 .bf16) (v25 : Vec Ideal S1x512 .f32) (o : Fin 512 → EReal)
    (r : Fin 256) (k : Fin 512) (ho : ∀ q, (v0 (ValueIdx.ix3 0 r q) + v2 (ValueIdx.ix3 0 r q) : EReal) = o q)
    (h6 : ∀ q, v6 (ValueIdx.ix2 q k) = (if q.val / 64 = k.val / 64 then (1 : EReal) else 0)) (hr : ∀ q, IsReal (o q)) :
    k0_pay3 v0 v2 v6 v25 (ValueIdx.ix2 r k)
      = o k * Ideal.rsqrt (Ideal.div (headSum o k) (Ideal.ofBits .f32 0x42800000#32) + Ideal.ofBits .f32 0x358637BD#32)
        * v25 (ValueIdx.ix2 0 k) := by
  have hz : ∀ q, o q * o q - o q * o q = 0 := fun q => sub_self_of_real ((hr q).mul (hr q))
  unfold k0_pay3
  pointwise
  show (v0 (ValueIdx.ix3 0 r k) + v2 (ValueIdx.ix3 0 r k) : EReal) * Ideal.rsqrt ((∑ x : Fin 512, ((v0 (ValueIdx.ix3 0 r x) + v2 (ValueIdx.ix3 0 r x)) * (v0 (ValueIdx.ix3 0 r x) + v2 (ValueIdx.ix3 0 r x))) * v6 (ValueIdx.ix2 x k) + ∑ x : Fin 512, (((v0 (ValueIdx.ix3 0 r x) + v2 (ValueIdx.ix3 0 r x)) * (v0 (ValueIdx.ix3 0 r x) + v2 (ValueIdx.ix3 0 r x))) - ((v0 (ValueIdx.ix3 0 r x) + v2 (ValueIdx.ix3 0 r x)) * (v0 (ValueIdx.ix3 0 r x) + v2 (ValueIdx.ix3 0 r x)))) * v6 (ValueIdx.ix2 x k) + ∑ x : Fin 512, (((v0 (ValueIdx.ix3 0 r x) + v2 (ValueIdx.ix3 0 r x)) * (v0 (ValueIdx.ix3 0 r x) + v2 (ValueIdx.ix3 0 r x))) - ((v0 (ValueIdx.ix3 0 r x) + v2 (ValueIdx.ix3 0 r x)) * (v0 (ValueIdx.ix3 0 r x) + v2 (ValueIdx.ix3 0 r x))) - (((v0 (ValueIdx.ix3 0 r x) + v2 (ValueIdx.ix3 0 r x)) * (v0 (ValueIdx.ix3 0 r x) + v2 (ValueIdx.ix3 0 r x))) - ((v0 (ValueIdx.ix3 0 r x) + v2 (ValueIdx.ix3 0 r x)) * (v0 (ValueIdx.ix3 0 r x) + v2 (ValueIdx.ix3 0 r x))))) * v6 (ValueIdx.ix2 x k)) * _ + _) * v25 (ValueIdx.ix2 0 k) = _
  simp only [ho, h6, hz, zero_mul, sub_zero, Finset.sum_const_zero, add_zero, sum_head (fun q => o q * o q), div64, headSum]

theorem pay4 (v30 : Vec Ideal S256x512 .bf16) (r : Fin 256) (k : Fin 512) : k0_pay4 v30 (ValueIdx.ix2 r k)
    = (v30 (ValueIdx.ix2 r k) : EReal) := by
  unfold k0_pay4
  pointwise

theorem pay5 (v30 : Vec Ideal S256x512 .bf16) (r : Fin 256) (k : Fin 512) : k0_pay5 v30 (ValueIdx.ix2 r k)
    = (gate (v30 (ValueIdx.ix2 r k)) : EReal) := by
  unfold k0_pay5 k0_pay4
  pointwise
  rfl

theorem pay6 (v29 v31 v38 : Vec Ideal S256x512 .f32) (v41 : Vec Ideal S256x512 .bf16) (v44 : Vec Ideal S1x512x1024 .bf16) (v47 : Vec Ideal S256x1024 .bf16)
    (v57 : Vec Ideal S1x512x1024 .bf16) (v60 : Vec Ideal S256x1024 .bf16) (r : Fin 256) (c : Fin 1024) :
    k0_pay6 v29 v31 v38 v41 v44 v47 v57 v60 (ValueIdx.ix2 r c)
      = (gate (v47 (ValueIdx.ix2 r c)) * (∑ k : Fin 512, v41 (ValueIdx.ix2 r k) * v44 (ValueIdx.ix3 0 k c))
        + gate (v60 (ValueIdx.ix2 r c)) * (∑ k : Fin 512, v29 (ValueIdx.ix2 r k) * (v31 (ValueIdx.ix2 r k) * v38 (ValueIdx.ix2 r k)) * v57 (ValueIdx.ix3 0 k c)) : EReal) := by
  unfold k0_pay6
  pointwise
  rfl

/-- The last step: the gated sum through the output weights, the residual and the layer norm. -/
theorem pay1 (v43 : Vec Ideal S256x512 .bf16) (v70 : FVec Ideal S256x1024 .f32) (v71 : Vec Ideal S1x512x1024 .bf16) (v74 : Vec Ideal S256x1024 .bf16)
    (v86 : Vec Ideal S1024x1024 .bf16) (v89 : Vec Ideal S256x1024 .f32) (v93 v95 : Vec Ideal S1x1024 .f32) (r : Fin 256) (n : Fin 1024) :
    k0_pay1 (k0_pay8 v93) (k0_pay9 v95) (k0_pay10 v43 v70 (k0_pay7 v71) (constant S256x1024 .f32 0x00000000#32) v74 v86 v89) (ValueIdx.ix2 r n)
      = NormVal.norm (fun j => NormVal.resid (v89 (ValueIdx.ix2 r j))
          (∑ c : Fin 1024, (v70 (ValueIdx.ix2 r c) + gate (v74 (ValueIdx.ix2 r c)) * (∑ k : Fin 512, v43 (ValueIdx.ix2 r k) * v71 (ValueIdx.ix3 0 k c)) : EReal)
            * v86 (ValueIdx.ix2 c j)))
        (v93 (ValueIdx.ix2 0 n)) (v95 (ValueIdx.ix2 0 n)) n := by
  unfold k0_pay1 k0_pay7 k0_pay8 k0_pay9 k0_pay10
  pointwise
  rfl

/-- The rounded result is the same number. -/
theorem pay2 (v94 v96 : FVec Ideal S1x1024 .f32) (v112 : FVec Ideal S256x1024 .f32) (j : S256x1024.Idx) :
    k0_pay2 (F := Ideal) v94 v96 v112 j = (k0_pay1 (F := Ideal) v94 v96 v112 j : EReal) := by
  unfold k0_pay2
  pointwise

end Cert.MergeVal
end
-- ==== Proof.Prep.Row.lean ====
/- One row of the delta rule's preparation, as both sides of its claim spell it over the extended reals. -/
module

public import proofs.«01_k».proof.Proof.Merge.Row

@[expose] public section

noncomputable section

namespace Cert.PrepVal

open Idealize.ShloMosaic Cert.FiniteVal
open Cert.MergeVal (gate headLane pos headSum)

/-- Position `n` of a sequence with two zeros set before it and two after it. -/
def padded (x : Fin 2048 → EReal) (n : ℕ) : EReal := if h : 2 ≤ n ∧ n < 2050 then x ⟨n - 2, by omega⟩ else 0

/-- The convolution with five taps, at position `r`. -/
def conv (x : Fin 2048 → EReal) (w : Fin 5 → EReal) (r : Fin 2048) : EReal :=
  padded x r.val * w 0 + padded x (r.val + 1) * w 1 + padded x (r.val + 2) * w 2 + padded x (r.val + 3) * w 3
    + padded x (r.val + 4) * w 4

/-- The convolution's activation. -/
def act (y : EReal) : EReal := y * gate y

/-- Lane `k` over the length of its head. -/
def unit (y : Fin 512 → EReal) (k : Fin 512) : EReal := y k * Ideal.rsqrt (headSum y k + Ideal.ofBits .f32 0x358637BD#32)

/-- Lane `k` of section `s`: the queries scaled, the keys not, the values as they are. -/
def lanes (s : Fin 3) (y : Fin 512 → EReal) (k : Fin 512) : EReal :=
  match s with
  | 0 => unit y k * Ideal.ofBits .f32 0x3E000000#32
  | 1 => unit y k
  | 2 => y k

/-- The column of the whole row that lane `k` of section `s` is. -/
def col (s : Fin 3) (k : Fin 512) : Fin 1536 := ⟨512 * s.val + k.val, by have := s.isLt; have := k.isLt; omega⟩

theorem zero_bits : Ideal.ofBits .f32 0x00000000#32 = 0 := by simp [Ideal.ofBits, Ideal.ieee]

theorem one_bits : Ideal.ofBits .f32 0x3F800000#32 = 1 := by simp [Ideal.ofBits, Ideal.ieee, -EReal.coe_mul]; norm_num

theorem real_zero : IsReal 0 := ⟨0, rfl⟩

theorem real_padded (x : Fin 2048 → EReal) (h : ∀ i, IsReal (x i)) (n : ℕ) : IsReal (padded x n) := by
  unfold padded
  split_ifs with hn
  · exact h _
  · exact real_zero

theorem real_conv (x : Fin 2048 → EReal) (w : Fin 5 → EReal) (hx : ∀ i, IsReal (x i)) (hw : ∀ i, IsReal (w i)) (r : Fin 2048) :
    IsReal (conv x w r) :=
  (((((real_padded x hx _).mul (hw _)).add ((real_padded x hx _).mul (hw _))).add ((real_padded x hx _).mul (hw _))).add
    ((real_padded x hx _).mul (hw _))).add ((real_padded x hx _).mul (hw _))

theorem real_act {y : EReal} (h : IsReal y) : IsReal (act y) := by
  obtain ⟨r, rfl⟩ := h
  have e : gate (r : EReal) = (((1 / (1 + Real.exp (0 - r))) : ℝ) : EReal) := by
    have hpos : (1 + Real.exp (0 - r)) ≠ 0 := (by positivity : (0 : ℝ) < 1 + Real.exp (0 - r)).ne'
    unfold gate
    rw [← EReal.coe_zero, ← EReal.coe_sub, Ideal.exp_coe, ← EReal.coe_one, ← EReal.coe_add, Ideal.div_coe hpos, ← EReal.coe_mul, one_mul]
  unfold act
  rw [e, ← EReal.coe_mul]
  exact ⟨_, rfl⟩

end Cert.PrepVal
end
-- ==== Proof.Prep.Point.lean ====
/- One grid step of the preparation at one entry. -/
module

public import proofs.«01_k».proof.Proof.Gen.PrepIdeal.Skeleton
public import proofs.«01_k».proof.Proof.Merge.Point
public import proofs.«01_k».proof.Proof.Prep.Row
public import Idealize.ShloMosaic.Lib.ValueIdxCore

@[expose] public section

set_option maxRecDepth 16384

noncomputable section

namespace Cert.PrepVal

open Cert.PrepIdeal Cert.PrepIdeal.Gen Idealize.ShloMosaic Idealize.ShloMosaic.TcCoe Idealize.SL.Sem Cert.FiniteVal
open Cert.MergeVal (gate headLane pos headSum sum_head sub_self_of_real)

/-- The sum of the first three taps. -/
theorem pay8 (v12 v17 v23 : Vec Ideal S2048x512 .f32) (v13 v18 v24 : Vec Ideal S1x1x512 .f32) (r : Fin 2048) (k : Fin 512) :
    k0_pay8 v12 v13 v17 v18 v23 v24 (ValueIdx.ix2 r k)
      = (v12 (ValueIdx.ix2 r k) * v13 (ValueIdx.ix3 0 0 k) + v17 (ValueIdx.ix2 r k) * v18 (ValueIdx.ix3 0 0 k)
        + v23 (ValueIdx.ix2 r k) * v24 (ValueIdx.ix3 0 0 k) : EReal) := by
  unfold k0_pay8
  pointwise
  rfl

/-- The convolution's activation from its taps. -/
theorem pay1 (v28 : FVec Ideal S2048x512 .f32) (v29 v35 : Vec Ideal S2048x512 .f32) (v30 v36 : Vec Ideal S1x1x512 .f32) (r : Fin 2048) (k : Fin 512) :
    k0_pay1 v28 v29 v30 v35 v36 (ValueIdx.ix2 r k)
      = act (v28 (ValueIdx.ix2 r k) + v29 (ValueIdx.ix2 r k) * v30 (ValueIdx.ix3 0 0 k) + v35 (ValueIdx.ix2 r k) * v36 (ValueIdx.ix3 0 0 k) : EReal) := by
  unfold k0_pay1
  pointwise
  rfl

theorem pay3 (v28 : FVec Ideal S2048x512 .f32) (v29 v35 : Vec Ideal S2048x512 .f32) (v30 v36 : Vec Ideal S1x1x512 .f32) (r : Fin 2048) (k : Fin 512) :
    k0_pay3 v28 v29 v30 v35 v36 (ValueIdx.ix3 0 r k) = k0_pay1 v28 v29 v30 v35 v36 (ValueIdx.ix2 r k) := by
  unfold k0_pay3
  pointwise
  rfl

/-- A lane over the length of its head, times the section's scale. -/
theorem pay2 (s : BitVec 32) (v28 : FVec Ideal S2048x512 .f32) (v29 v35 : Vec Ideal S2048x512 .f32) (v30 v36 : Vec Ideal S1x1x512 .f32)
    (v56 : Vec Ideal S512x512 .bf16) (y : Fin 512 → EReal) (r : Fin 2048) (k : Fin 512)
    (hy : ∀ q, k0_pay1 v28 v29 v30 v35 v36 (ValueIdx.ix2 r q) = y q)
    (h6 : ∀ q, v56 (ValueIdx.ix2 q k) = (if q.val / 64 = k.val / 64 then (1 : EReal) else 0)) (hr : ∀ q, IsReal (y q)) :
    k0_pay2 s v28 v29 v30 v35 v36 v56 (ValueIdx.ix3 0 r k)
      = unit y k * Scalar.select (Scalar.cmpi .eq s 0#32) (Ideal.ofBits .f32 0x3E000000#32) (Ideal.ofBits .f32 0x3F800000#32) := by
  have hz : ∀ q, y q * y q - y q * y q = 0 := fun q => sub_self_of_real ((hr q).mul (hr q))
  unfold k0_pay2
  generalize k0_pay1 v28 v29 v30 v35 v36 = Y at hy ⊢
  pointwise
  show Y (ValueIdx.ix2 r k) * Ideal.rsqrt ((∑ x : Fin 512, (Y (ValueIdx.ix2 r x) * Y (ValueIdx.ix2 r x)) * v56 (ValueIdx.ix2 x k)) + (∑ x : Fin 512, (Y (ValueIdx.ix2 r x) * Y (ValueIdx.ix2 r x) - Y (ValueIdx.ix2 r x) * Y (ValueIdx.ix2 r x)) * v56 (ValueIdx.ix2 x k))
    + (∑ x : Fin 512, (Y (ValueIdx.ix2 r x) * Y (ValueIdx.ix2 r x) - Y (ValueIdx.ix2 r x) * Y (ValueIdx.ix2 r x) - (Y (ValueIdx.ix2 r x) * Y (ValueIdx.ix2 r x) - Y (ValueIdx.ix2 r x) * Y (ValueIdx.ix2 r x))) * v56 (ValueIdx.ix2 x k))
      + Ideal.ofBits .f32 0x358637BD#32) * _ = _
  simp only [hy, h6, hz, zero_mul, sub_zero, Finset.sum_const_zero, add_zero, sum_head (fun q => y q * y q), unit, headSum]

end Cert.PrepVal
end
-- ==== Proof.Prep.Scratch.lean ====
/- The scratch holds a column of the block with eight rows of zeros on either side: a read that starts at row `o` of it
   sees the block shifted by `o - 8` rows. -/
module

public import proofs.«01_k».proof.Proof.Gen.PrepIdeal.Skeleton
public import proofs.«01_k».proof.Proof.Prep.Row
public import Idealize.ShloMosaic.Lib.Pipeline.FrameBody
public import Idealize.ShloMosaic.Lib.ValueIdxCore

@[expose] public section

set_option maxRecDepth 16384

noncomputable section

namespace Cert.PrepVal

open Cert.PrepIdeal Cert.PrepIdeal.Gen Idealize.ShloMosaic Idealize.ShloMosaic.TcCoe Idealize.SL.Sem

theorem pay5 (r : Fin 8) (k : Fin 512) : k0_pay5 (F := Ideal) (ValueIdx.ix2 r k) = (0 : EReal) := by
  unfold k0_pay5 k0_pay4
  pointwise

theorem pay6 (r : Fin 8) (k : Fin 512) : k0_pay6 (F := Ideal) (ValueIdx.ix2 r k) = (0 : EReal) := by
  unfold k0_pay6 k0_pay4
  pointwise

theorem pay7 (x : Vec Ideal S1x2048x512 .f32) (r : Fin 2048) (k : Fin 512) : k0_pay7 x (ValueIdx.ix2 r k) = (x (ValueIdx.ix3 0 r k) : EReal) := by
  unfold k0_pay7
  pointwise
  rfl

/-- The three stores that fill the scratch, the last one first. -/
abbrev stores (x : Vec Ideal S1x2048x512 .f32) : List (View.Piece (Elt Ideal) S2064x512 .f32) :=
  [⟨Rect.unit ![8, 0] S2048x512.size inb_S2064x512_S2048x512_8_0, k0_pay7 x⟩,
    ⟨Rect.unit ![2056, 0] S8x512.size inb_S2064x512_S8x512_2056_0, k0_pay6 (F := Ideal)⟩,
    ⟨Rect.unit ![0, 0] S8x512.size inb_S2064x512_S8x512_0_0, k0_pay5 (F := Ideal)⟩]

/-- Row `p` of the filled scratch is row `p - 6` of the column between two zeros on either side, where that has one. -/
theorem filled (x : Vec Ideal S1x2048x512 .f32) (p : Fin 2064) (k : Fin 512) (n : ℕ) (hp : p.val = n + 6) :
    View.canon (stores x) (ValueIdx.ix2 p k) = padded (fun i => x (ValueIdx.ix3 0 i k)) n := by
  unfold padded
  split_ifs with h
  · have e : (ValueIdx.ix2 p k : S2064x512.Idx)
        = (Rect.unit (s := S2064x512) ![8, 0] S2048x512.size inb_S2064x512_S2048x512_8_0).emb (ValueIdx.ix2 (⟨n - 2, by omega⟩ : Fin 2048) k) := by
      funext a; refine Fin.ext ?_
      match a with
      | ⟨0, _⟩ => show p.val = 8 + 1 * (n - 2); omega
      | ⟨1, _⟩ => show k.val = 0 + 1 * k.val; omega
    rw [e, View.canon_cons_emb]
    exact pay7 x _ k
  · have h8 : (ValueIdx.ix2 p k : S2064x512.Idx)
        ∉ (Rect.unit (s := S2064x512) ![8, 0] S2048x512.size inb_S2064x512_S2048x512_8_0).set := fun hm => by
      have h0 := Rect.mem_set_unit.mp hm (0 : Fin 2)
      have h1 : 8 ≤ p.val ∧ p.val < 8 + 2048 := h0
      omega
    have d8 : View.canon (stores x) (ValueIdx.ix2 p k) = View.canon (stores x).tail (ValueIdx.ix2 p k) :=
      View.canon_cons_of_not_mem (⟨Rect.unit (s := S2064x512) ![8, 0] S2048x512.size inb_S2064x512_S2048x512_8_0, k0_pay7 x⟩ : View.Piece (Elt Ideal) S2064x512 .f32) (stores x).tail h8
    rw [d8, List.tail_cons]
    by_cases hb : n < 2
    · have h9 : (ValueIdx.ix2 p k : S2064x512.Idx)
          ∉ (Rect.unit (s := S2064x512) ![2056, 0] S8x512.size inb_S2064x512_S8x512_2056_0).set := fun hm => by
        have h0 := Rect.mem_set_unit.mp hm (0 : Fin 2)
        have h1 : 2056 ≤ p.val ∧ p.val < 2056 + 8 := h0
        omega
      have e : (ValueIdx.ix2 p k : S2064x512.Idx)
          = (Rect.unit (s := S2064x512) ![0, 0] S8x512.size inb_S2064x512_S8x512_0_0).emb (ValueIdx.ix2 (⟨p.val, by omega⟩ : Fin 8) k) := by
        funext a; refine Fin.ext ?_
        match a with
        | ⟨0, _⟩ => show p.val = 0 + 1 * p.val; omega
        | ⟨1, _⟩ => show k.val = 0 + 1 * k.val; omega
      have d9 : View.canon (stores x).tail (ValueIdx.ix2 p k) = View.canon (stores x).tail.tail (ValueIdx.ix2 p k) :=
        View.canon_cons_of_not_mem (⟨Rect.unit (s := S2064x512) ![2056, 0] S8x512.size inb_S2064x512_S8x512_2056_0, k0_pay6 (F := Ideal)⟩ : View.Piece (Elt Ideal) S2064x512 .f32) (stores x).tail.tail h9
      rw [List.tail_cons, List.tail_cons] at d9
      rw [d9, e, View.canon_cons_emb]
      exact pay5 _ k
    · have e : (ValueIdx.ix2 p k : S2064x512.Idx)
          = (Rect.unit (s := S2064x512) ![2056, 0] S8x512.size inb_S2064x512_S8x512_2056_0).emb (ValueIdx.ix2 (⟨p.val - 2056, by omega⟩ : Fin 8) k) := by
        funext a; refine Fin.ext ?_
        match a with
        | ⟨0, _⟩ => show p.val = 2056 + 1 * (p.val - 2056); omega
        | ⟨1, _⟩ => show k.val = 0 + 1 * k.val; omega
      rw [e, View.canon_cons_emb]
      exact pay6 _ k

/-- A read of 2048 rows from row `o` of the filled scratch. -/
theorem shifted (x : Vec Ideal S1x2048x512 .f32) (o : ℕ) (inb : ∀ a, (![o, 0] : Fin 2 → ℕ) a + S2048x512.size a ≤ S2064x512.size a)
    (r : Fin 2048) (k : Fin 512) (n : ℕ) (hn : o + r.val = n + 6) :
    View.readCov (Val := Elt Ideal) (View.whole cc0_scratch0) (stores x) (Rect.unit (s := S2064x512) ![o, 0] S2048x512.size inb).toLoadRect (ValueIdx.ix2 r k)
      = (padded (fun i => x (ValueIdx.ix3 0 i k)) n : EReal) := by
  have ho : o + 2048 ≤ 2064 := inb (0 : Fin 2)
  rw [View.readCov_eq_canon']
  refine Eq.trans (congrArg (View.canon (stores x)) (funext fun a => Fin.ext ?_)) (filled x ⟨o + r.val, by omega⟩ k n hn)
  match a with
  | ⟨0, _⟩ => show o + 1 * r.val = o + r.val; omega
  | ⟨1, _⟩ => show 0 + 1 * k.val = k.val; omega

end Cert.PrepVal
end
-- ==== Proof.Prep.Table.lean ====
/- The table of the head that each of the 512 lanes belongs to. -/
module

public import proofs.«01_k».proof.PrepIdeal

@[expose] public section

set_option maxRecDepth 65536
set_option maxHeartbeats 4000000

noncomputable section

namespace Cert.PrepVal

open Cert.PrepIdeal

/-- Lane `k` belongs to head `k / 64`. -/
theorem head_of (k : Fin 512) : lit0 k = BitVec.ofNat 32 (k.val / 64) := by
  have h : ∀ j : Fin 512, lit0 j = BitVec.ofNat 32 (j.val / 64) := by decide +kernel
  exact h k

/-- Two lanes carry the same entry when they are of one head. -/
theorem same_head (q k : Fin 512) : lit0 q = lit0 k ↔ q.val / 64 = k.val / 64 := by
  rw [head_of, head_of]
  refine ⟨fun h => ?_, fun h => by rw [h]⟩
  have := congrArg BitVec.toNat h
  simp only [BitVec.toNat_ofNat] at this
  omega

end Cert.PrepVal
-- ==== Proof.Prep.Block.lean ====
/- The blocks that one grid step of the preparation reads. -/
module

public import proofs.«01_k».proof.Proof.Gen.PrepIdeal.Value
public import proofs.«01_k».proof.Proof.Prep.Row
public import proofs.«01_k».proof.Proof.Prep.Table
public import Idealize.ShloMosaic.Lib.Pipeline.Covers
public import Idealize.ShloMosaic.Lib.IdealHost
public import Idealize.ShloMosaic.Lib.ValueIdxCore

@[expose] public section

set_option maxRecDepth 16384

noncomputable section

namespace Cert.PrepVal

open Cert.PrepIdeal Cert.PrepIdeal.Gen Idealize.ShloMosaic Idealize.ShloMosaic.TcCoe Idealize.SL.Sem

variable (m : (ℓ : Loc nD τ sig) → Buf (Elt Ideal) ℓ) (c : Dev nD)

/-- The grid's first coordinate is the sequence, its second the section. -/
theorem idx : ∀ t : Fin cfg0.N, win0_0.index t = ![(grid0.coords t 0).val, 0, (grid0.coords t 1).val]
    ∧ win0_1.index t = ![(grid0.coords t 1).val, 0, 0]
    ∧ win0_2.index t = ![0, 0]
    ∧ win0_3.index t = ![(grid0.coords t 0).val, 0, (grid0.coords t 1).val] := by decide +kernel

theorem section_of : ∀ t : Fin cfg0.N, (grid0.coords t 1).val = t.val % 3 := by decide +kernel

/-- The sequence and the section of a grid point. -/
def bat (t : Fin cfg0.N) : Fin 16 := grid0.coords t 0
def sec (t : Fin cfg0.N) : Fin 3 := grid0.coords t 1

theorem Vones (q k : Fin 512) : V m c main_v7 (ValueIdx.ix2 q k) = (if q.val / 64 = k.val / 64 then (1 : EReal) else 0) := by
  have hq : ∀ f : Fin 512, S512.rowMajor (ValueIdx.ix1 f) = f := fun f => Fin.ext (Shape.rowMajor_val_one _)
  entry_read
  pointwise
  show FloatOps.uitofp (F := Ideal) FTy.bf16
    (BitVec.ofBool (lit0 (S512.rowMajor (ValueIdx.ix1 q)) == lit0 (S512.rowMajor (ValueIdx.ix1 k)))) = _
  rw [hq, hq]
  by_cases h : q.val / 64 = k.val / 64
  · rw [if_pos h, (same_head q k).mpr h, beq_self_eq_true]
    show (((1 : ℕ) : ℝ) : EReal) = 1
    norm_num
  · rw [if_neg h, beq_eq_false_iff_ne.mpr fun e => h ((same_head q k).mp e)]
    show (((0 : ℕ) : ℝ) : EReal) = 0
    norm_num

theorem Vw (s : Fin 3) (j : Fin 5) (k : Fin 512) : V m c main_v1 (ValueIdx.ix3 s j k) = (m ((c : Thread nD τ).loc main_arg1) (ValueIdx.ix2 j (col s k)) : EReal) := by
  have := s.isLt
  have := j.isLt
  have := k.isLt
  entry_read
  pointwise
  refine congrArg (m ((c : Thread nD τ).loc main_arg1)) (funext fun a => Fin.ext ?_)
  match a with
  | ⟨0, _⟩ => rfl
  | ⟨1, _⟩ => show s.val * 512 + k.val = 512 * s.val + k.val; omega

theorem blk0 (t : Fin cfg0.N) (r : Fin 2048) (k : Fin 512) : iblk m c 0 t (ValueIdx.ix3 0 r k)
    = (m ((c : Thread nD τ).loc main_arg0) (ValueIdx.ix3 (bat t) r (col (sec t) k)) : EReal) := by
  obtain ⟨hi, -, -, -⟩ := idx t
  refine congrArg (m ((c : Thread nD τ).loc main_arg0)) (funext fun a => Fin.ext ?_)
  match a with
  | ⟨0, _⟩ =>
    show win0_0.index t 0 * 1 + 1 * 0 = (grid0.coords t 0).val
    rw [hi]; show (grid0.coords t 0).val * 1 + 1 * 0 = (grid0.coords t 0).val; omega
  | ⟨1, _⟩ =>
    show win0_0.index t 1 * 2048 + 1 * r.val = r.val
    rw [hi]; show 0 * 2048 + 1 * r.val = r.val; omega
  | ⟨2, _⟩ =>
    show win0_0.index t 2 * 512 + 1 * k.val = 512 * (grid0.coords t 1).val + k.val
    rw [hi]; show (grid0.coords t 1).val * 512 + 1 * k.val = 512 * (grid0.coords t 1).val + k.val; omega

/-- Tap `j` of the weights. -/
theorem blk1 (t : Fin cfg0.N) (j : Fin 5) (inb : ∀ a, (![0, j.val, 0] : Fin 3 → ℕ) a + S1x1x512.size a ≤ S1x5x512.size a) (k : Fin 512) :
    View.ld (iblk m c 1 t) (Rect.unit (s := S1x5x512) ![0, j.val, 0] S1x1x512.size inb) (ValueIdx.ix3 0 0 k)
      = (m ((c : Thread nD τ).loc main_arg1) (ValueIdx.ix2 j (col (sec t) k)) : EReal) := by
  obtain ⟨-, hi, -, -⟩ := idx t
  refine Eq.trans (congrArg (V m c main_v1) (funext fun a => Fin.ext ?_)) (Vw m c (sec t) j k)
  match a with
  | ⟨0, _⟩ =>
    show win0_1.index t 0 * 1 + 1 * (0 + 1 * 0) = (grid0.coords t 1).val
    rw [hi]; show (grid0.coords t 1).val * 1 + 1 * (0 + 1 * 0) = (grid0.coords t 1).val; omega
  | ⟨1, _⟩ =>
    show win0_1.index t 1 * 5 + 1 * (j.val + 1 * 0) = j.val
    rw [hi]; show 0 * 5 + 1 * (j.val + 1 * 0) = j.val; omega
  | ⟨2, _⟩ =>
    show win0_1.index t 2 * 512 + 1 * (0 + 1 * k.val) = k.val
    rw [hi]; show 0 * 512 + 1 * (0 + 1 * k.val) = k.val; omega

theorem blk2 (t : Fin cfg0.N) (q k : Fin 512) : iblk m c 2 t (ValueIdx.ix2 q k) = (if q.val / 64 = k.val / 64 then (1 : EReal) else 0) := by
  obtain ⟨-, -, hi, -⟩ := idx t
  refine Eq.trans (congrArg (V m c main_v7) (funext fun a => Fin.ext ?_)) (Vones m c q k)
  match a with
  | ⟨0, _⟩ =>
    show win0_2.index t 0 * 512 + 1 * q.val = q.val
    rw [hi]; show 0 * 512 + 1 * q.val = q.val; omega
  | ⟨1, _⟩ =>
    show win0_2.index t 1 * 512 + 1 * k.val = k.val
    rw [hi]; show 0 * 512 + 1 * k.val = k.val; omega

end Cert.PrepVal
end
-- ==== Proof.Prep.Ref.lean ====
/- The reference's preparation at one entry. -/
module

public import proofs.«01_k».proof.Proof.Gen.PrepRefIdeal.Read
public import proofs.«01_k».proof.Proof.Prep.Row
public import Idealize.ShloMosaic.Lib.Pipeline.Value
public import Idealize.ShloMosaic.Lib.KernelVsHost
public import Idealize.ShloMosaic.Lib.ValueIdxCore

@[expose] public section

set_option maxRecDepth 16384

noncomputable section

namespace Cert.PrepVal

open Cert.PrepRefIdeal Cert.PrepRefIdeal.Gen Idealize.ShloMosaic Idealize.ShloMosaic.TcCoe Idealize.SL.Sem
open Cert.PrepRefIdeal.Read
open Cert.MergeVal (gate headLane pos headSum)

variable (x0 : (⟨S16x2048x1536, .f32⟩ : BufTy).Contents (Elt Ideal)) (x1 : (⟨S5x1536, .f32⟩ : BufTy).Contents (Elt Ideal))

/-- Column `n` of row `r` after the convolution and its activation. -/
def actAt (b : Fin 16) (r : Fin 2048) (n : Fin 1536) : EReal :=
  act (conv (fun i => x0 (ValueIdx.ix3 b i n)) (fun j => x1 (ValueIdx.ix2 j n)) r)

theorem v0 (b : Fin 16) (p : Fin 2052) (n : Fin 1536) : val_main_v0 (F := Ideal) x0 (ValueIdx.ix3 b p n)
    = padded (fun i => x0 (ValueIdx.ix3 b i n)) p.val := by
  unfold val_main_v0 padded
  split_ifs with h
  · refine pad_apply_of_inside _ _ _ _ _ _ _ _ (ValueIdx.ix3 b (⟨p.val - 2, by omega⟩ : Fin 2048) n) fun a => ?_
    match a with
    | ⟨0, _⟩ => show b.val = 0 + b.val * 1; omega
    | ⟨1, _⟩ => show p.val = 2 + (p.val - 2) * 1; omega
    | ⟨2, _⟩ => show n.val = 0 + n.val * 1; omega
  · refine (pad_apply_of_not_inside _ _ _ _ _ _ _ _ (1 : Fin 3) fun hn => h ?_).trans ?_
    · obtain ⟨h1, -, h3⟩ := hn
      have h1' : 2 ≤ p.val := h1
      have h3' : (p.val - 2) / 1 < 2048 := h3
      omega
    · show (((0#32 : BitVec 32).toInt : ℝ) : EReal) = 0
      simp

theorem v35 (b : Fin 16) (r : Fin 2048) (n : Fin 1536) : val_main_v35 (F := Ideal) x0 x1 (ValueIdx.ix3 b r n) = actAt x0 x1 b r n := by
  have p0 : idx_main_v1 (ValueIdx.ix3 b r n) = ValueIdx.ix3 b (⟨r.val, by omega⟩ : Fin 2052) n := by
    funext a; refine Fin.ext ?_
    match a with | ⟨0, _⟩ => rfl | ⟨1, _⟩ => rfl | ⟨2, _⟩ => rfl
  have p1 : idx_main_v7 (ValueIdx.ix3 b r n) = ValueIdx.ix3 b (⟨r.val + 1, by omega⟩ : Fin 2052) n := by
    funext a; refine Fin.ext ?_
    match a with | ⟨0, _⟩ => rfl | ⟨1, _⟩ => show 1 + r.val = r.val + 1; omega | ⟨2, _⟩ => rfl
  have p2 : idx_main_v14 (ValueIdx.ix3 b r n) = ValueIdx.ix3 b (⟨r.val + 2, by omega⟩ : Fin 2052) n := by
    funext a; refine Fin.ext ?_
    match a with | ⟨0, _⟩ => rfl | ⟨1, _⟩ => show 2 + r.val = r.val + 2; omega | ⟨2, _⟩ => rfl
  have p3 : idx_main_v21 (ValueIdx.ix3 b r n) = ValueIdx.ix3 b (⟨r.val + 3, by omega⟩ : Fin 2052) n := by
    funext a; refine Fin.ext ?_
    match a with | ⟨0, _⟩ => rfl | ⟨1, _⟩ => show 3 + r.val = r.val + 3; omega | ⟨2, _⟩ => rfl
  have p4 : idx_main_v28 (ValueIdx.ix3 b r n) = ValueIdx.ix3 b (⟨r.val + 4, by omega⟩ : Fin 2052) n := by
    funext a; refine Fin.ext ?_
    match a with | ⟨0, _⟩ => rfl | ⟨1, _⟩ => show 4 + r.val = r.val + 4; omega | ⟨2, _⟩ => rfl
  have w0 : idx_main_v2 (idx_main_v3 (idx_main_v4 (idx_main_v5 (ValueIdx.ix3 b r n)))) = ValueIdx.ix2 0 n := by
    funext a; refine Fin.ext ?_
    match a with | ⟨0, _⟩ => rfl | ⟨1, _⟩ => show n.val % 1536 = n.val; omega
  have w1 : idx_main_v8 (idx_main_v9 (idx_main_v10 (idx_main_v11 (ValueIdx.ix3 b r n)))) = ValueIdx.ix2 1 n := by
    funext a; refine Fin.ext ?_
    match a with | ⟨0, _⟩ => rfl | ⟨1, _⟩ => show n.val % 1536 = n.val; omega
  have w2 : idx_main_v15 (idx_main_v16 (idx_main_v17 (idx_main_v18 (ValueIdx.ix3 b r n)))) = ValueIdx.ix2 2 n := by
    funext a; refine Fin.ext ?_
    match a with | ⟨0, _⟩ => rfl | ⟨1, _⟩ => show n.val % 1536 = n.val; omega
  have w3 : idx_main_v22 (idx_main_v23 (idx_main_v24 (idx_main_v25 (ValueIdx.ix3 b r n)))) = ValueIdx.ix2 3 n := by
    funext a; refine Fin.ext ?_
    match a with | ⟨0, _⟩ => rfl | ⟨1, _⟩ => show n.val % 1536 = n.val; omega
  have w4 : idx_main_v29 (idx_main_v30 (idx_main_v31 (idx_main_v32 (ValueIdx.ix3 b r n)))) = ValueIdx.ix2 4 n := by
    funext a; refine Fin.ext ?_
    match a with | ⟨0, _⟩ => rfl | ⟨1, _⟩ => show n.val % 1536 = n.val; omega
  have hc : val_main_v34 (F := Ideal) x0 x1 (ValueIdx.ix3 b r n)
      = conv (fun i => x0 (ValueIdx.ix3 b i n)) (fun j => x1 (ValueIdx.ix2 j n)) r := by
    simp only [val_main_v34_apply, val_main_v33_apply, val_main_v32_apply, val_main_v31_apply, val_main_v30_apply, val_main_v29_apply,
      val_main_v28_apply, val_main_v27_apply, val_main_v26_apply, val_main_v25_apply, val_main_v24_apply, val_main_v23_apply,
      val_main_v22_apply, val_main_v21_apply, val_main_v20_apply, val_main_v19_apply, val_main_v18_apply, val_main_v17_apply,
      val_main_v16_apply, val_main_v15_apply, val_main_v14_apply, val_main_v13_apply, val_main_v12_apply, val_main_v11_apply,
      val_main_v10_apply, val_main_v9_apply, val_main_v8_apply, val_main_v7_apply, val_main_v6_apply, val_main_v5_apply,
      val_main_v4_apply, val_main_v3_apply, val_main_v2_apply, val_main_v1_apply, p0, p1, p2, p3, p4, w0, w1, w2, w3, w4, v0]
    rfl
  simp only [val_main_v35_apply, val_main_call1_v5_apply, val_main_call1_v4_apply, val_main_call1_cst_0_apply, val_main_call1_v3_apply,
    val_main_call1_v2_apply, val_main_call1_cst_apply, val_main_call1_v1_apply, val_main_call1_v0_apply, hc]
  pointwise
  simp only [actAt, act, gate, zero_sub]

/-- The head and the position within it that a lane is. -/
theorem lane_split (b : Fin 16) (r : Fin 2048) (k : Fin 512) :
    idx_main_v60 (ValueIdx.ix3 b r k) = ValueIdx.ix4 b r (⟨k.val / 64, by omega⟩ : Fin 8) (pos k) := by
  funext a; refine Fin.ext ?_
  match a with
  | ⟨0, _⟩ => show ((b.val * 2048 + r.val) * 512 + k.val) / 1048576 = b.val; omega
  | ⟨1, _⟩ => show ((b.val * 2048 + r.val) * 512 + k.val) / 512 % 2048 = r.val; omega
  | ⟨2, _⟩ => show ((b.val * 2048 + r.val) * 512 + k.val) / 64 % 8 = k.val / 64; omega
  | ⟨3, _⟩ => show ((b.val * 2048 + r.val) * 512 + k.val) % 64 = k.val % 64; omega

theorem lane_join (b : Fin 16) (r : Fin 2048) (k : Fin 512) (d : Fin 64) :
    idx_main_v37 (ValueIdx.ix4 b r (⟨k.val / 64, by omega⟩ : Fin 8) d) = ValueIdx.ix3 b r (headLane k d) := by
  have := k.isLt
  have := d.isLt
  funext a; refine Fin.ext ?_
  match a with
  | ⟨0, _⟩ => show (((b.val * 2048 + r.val) * 8 + k.val / 64) * 64 + d.val) / 1048576 = b.val; omega
  | ⟨1, _⟩ => show (((b.val * 2048 + r.val) * 8 + k.val / 64) * 64 + d.val) / 512 % 2048 = r.val; omega
  | ⟨2, _⟩ => show (((b.val * 2048 + r.val) * 8 + k.val / 64) * 64 + d.val) % 512 = k.val / 64 * 64 + d.val; omega

theorem head_pos (k : Fin 512) : headLane k (pos k) = k := Fin.ext (by show k.val / 64 * 64 + k.val % 64 = k.val; omega)

theorem v37 (b : Fin 16) (r : Fin 2048) (k : Fin 512) (d : Fin 64) :
    val_main_v37 (F := Ideal) x0 x1 (ValueIdx.ix4 b r (⟨k.val / 64, by omega⟩ : Fin 8) d) = actAt x0 x1 b r (col 0 (headLane k d)) := by
  rw [val_main_v37_apply, lane_join, val_main_v36_apply]
  refine Eq.trans (congrArg _ (funext fun a => Fin.ext ?_)) (v35 x0 x1 b r _)
  match a with
  | ⟨0, _⟩ => rfl
  | ⟨1, _⟩ => rfl
  | ⟨2, _⟩ => show (headLane k d).val = 512 * 0 + (headLane k d).val; omega

theorem v49 (b : Fin 16) (r : Fin 2048) (k : Fin 512) (d : Fin 64) :
    val_main_v49 (F := Ideal) x0 x1 (ValueIdx.ix4 b r (⟨k.val / 64, by omega⟩ : Fin 8) d) = actAt x0 x1 b r (col 1 (headLane k d)) := by
  rw [val_main_v49_apply, val_main_v48_apply]
  refine Eq.trans (congrArg _ (Eq.trans (congrArg idx_main_v48 (lane_join b r k d)) (funext fun a => Fin.ext ?_))) (v35 x0 x1 b r _)
  match a with
  | ⟨0, _⟩ => rfl
  | ⟨1, _⟩ => rfl
  | ⟨2, _⟩ => show 512 + (headLane k d).val = 512 * 1 + (headLane k d).val; omega

theorem v59 (b : Fin 16) (r : Fin 2048) (k : Fin 512) (d : Fin 64) :
    val_main_v59 (F := Ideal) x0 x1 (ValueIdx.ix4 b r (⟨k.val / 64, by omega⟩ : Fin 8) d) = actAt x0 x1 b r (col 2 (headLane k d)) := by
  rw [val_main_v59_apply, val_main_v58_apply]
  refine Eq.trans (congrArg _ (Eq.trans (congrArg idx_main_v58 (lane_join b r k d)) (funext fun a => Fin.ext ?_))) (v35 x0 x1 b r _)
  match a with
  | ⟨0, _⟩ => rfl
  | ⟨1, _⟩ => rfl
  | ⟨2, _⟩ => show 1024 + (headLane k d).val = 512 * 2 + (headLane k d).val; omega

theorem v60 (b : Fin 16) (r : Fin 2048) (k : Fin 512) : val_main_v60 (F := Ideal) x0 x1 (ValueIdx.ix3 b r k)
    = lanes 0 (fun q => actAt x0 x1 b r (col 0 q)) k := by
  have h39 : ∀ d, idx_main_v39 (idx_main_v40 (idx_main_v44 (ValueIdx.ix4 b r (⟨k.val / 64, by omega⟩ : Fin 8) (pos k)))) d
      = ValueIdx.ix4 b r (⟨k.val / 64, by omega⟩ : Fin 8) d := by
    intro d; funext a; match a with | ⟨0, _⟩ => rfl | ⟨1, _⟩ => rfl | ⟨2, _⟩ => rfl | ⟨3, _⟩ => rfl
  rw [val_main_v60_apply, lane_split]
  simp only [val_main_v47_apply, val_main_v46_apply, val_main_cst_1_apply, val_main_v45_apply, val_main_v44_apply, val_main_v43_apply,
    val_main_v42_apply, val_main_v41_apply, val_main_cst_0_apply, val_main_v40_apply, val_main_v39_apply, val_main_cst_apply,
    val_main_v38_apply, h39, v37, head_pos]
  pointwise
  simp only [lanes, unit, headSum]

theorem v61 (b : Fin 16) (r : Fin 2048) (k : Fin 512) : val_main_v61 (F := Ideal) x0 x1 (ValueIdx.ix3 b r k)
    = lanes 1 (fun q => actAt x0 x1 b r (col 1 q)) k := by
  have h51 : ∀ d, idx_main_v51 (idx_main_v52 (idx_main_v56 (ValueIdx.ix4 b r (⟨k.val / 64, by omega⟩ : Fin 8) (pos k)))) d
      = ValueIdx.ix4 b r (⟨k.val / 64, by omega⟩ : Fin 8) d := by
    intro d; funext a; match a with | ⟨0, _⟩ => rfl | ⟨1, _⟩ => rfl | ⟨2, _⟩ => rfl | ⟨3, _⟩ => rfl
  have hs : idx_main_v61 (ValueIdx.ix3 b r k) = ValueIdx.ix4 b r (⟨k.val / 64, by omega⟩ : Fin 8) (pos k) := lane_split b r k
  rw [val_main_v61_apply, hs]
  simp only [val_main_v57_apply, val_main_v56_apply, val_main_v55_apply,
    val_main_v54_apply, val_main_v53_apply, val_main_cst_3_apply, val_main_v52_apply, val_main_v51_apply, val_main_cst_2_apply,
    val_main_v50_apply, h51, v49, head_pos]
  pointwise
  simp only [lanes, unit, headSum]

theorem v62 (b : Fin 16) (r : Fin 2048) (k : Fin 512) : val_main_v62 (F := Ideal) x0 x1 (ValueIdx.ix3 b r k)
    = lanes 2 (fun q => actAt x0 x1 b r (col 2 q)) k := by
  have hs : idx_main_v62 (ValueIdx.ix3 b r k) = ValueIdx.ix4 b r (⟨k.val / 64, by omega⟩ : Fin 8) (pos k) := lane_split b r k
  rw [val_main_v62_apply, hs, v59, head_pos]
  rfl

end Cert.PrepVal
end
-- ==== Proof.Prep.Join.lean ====
/- The reference's three parts side by side. -/
module

public import proofs.«01_k».proof.Proof.Gen.PrepRefIdeal.Read
public import proofs.«01_k».proof.Proof.Prep.Ref
public import Idealize.ShloMosaic.Lib.Pipeline.Value
public import Idealize.ShloMosaic.Lib.KernelVsHost
public import Idealize.ShloMosaic.Lib.ValueIdxCore

@[expose] public section

set_option maxRecDepth 16384

noncomputable section

namespace Cert.PrepVal

open Cert.PrepRefIdeal Cert.PrepRefIdeal.Gen Idealize.ShloMosaic Idealize.ShloMosaic.TcCoe Idealize.SL.Sem
open Cert.PrepRefIdeal.Read
open Cert.MergeVal (gate headLane pos headSum)

variable (x0 : (⟨S16x2048x1536, .f32⟩ : BufTy).Contents (Elt Ideal)) (x1 : (⟨S5x1536, .f32⟩ : BufTy).Contents (Elt Ideal))

/-- The reference's entry. -/
theorem ref (b : Fin 16) (r : Fin 2048) (s : Fin 3) (k : Fin 512) : val_main_v63 (F := Ideal) x0 x1 (ValueIdx.ix3 b r (col s k))
    = lanes s (fun q => actAt x0 x1 b r (col s q)) k := by
  unfold val_main_v63
  match s with
  | 0 =>
    rw [concatenate_apply_piece (2 : Fin 3) _ _ (ValueIdx.ix3 b r (col 0 k)) 0 (by simp only [List.length_cons, List.length_nil]; omega) S16x2048x512 (val_main_v60 (F := Ideal) x0 x1) rfl rfl 0 rfl (ValueIdx.ix3 b r k)
      (fun a ha => by
        match a with
        | ⟨0, _⟩ => rfl
        | ⟨1, _⟩ => rfl
        | ⟨2, _⟩ => exact absurd rfl ha)
      (by show 0 + k.val = 512 * 0 + k.val; omega)]
    exact v60 x0 x1 b r k
  | 1 =>
    rw [concatenate_apply_piece (2 : Fin 3) _ _ (ValueIdx.ix3 b r (col 1 k)) 1 (by simp only [List.length_cons, List.length_nil]; omega) S16x2048x512 (val_main_v61 (F := Ideal) x0 x1) rfl rfl 512 rfl (ValueIdx.ix3 b r k)
      (fun a ha => by
        match a with
        | ⟨0, _⟩ => rfl
        | ⟨1, _⟩ => rfl
        | ⟨2, _⟩ => exact absurd rfl ha)
      (by show 512 + k.val = 512 * 1 + k.val; omega)]
    exact v61 x0 x1 b r k
  | 2 =>
    rw [concatenate_apply_piece (2 : Fin 3) _ _ (ValueIdx.ix3 b r (col 2 k)) 2 (by simp only [List.length_cons, List.length_nil]; omega) S16x2048x512 (val_main_v62 (F := Ideal) x0 x1) rfl rfl 1024 rfl (ValueIdx.ix3 b r k)
      (fun a ha => by
        match a with
        | ⟨0, _⟩ => rfl
        | ⟨1, _⟩ => rfl
        | ⟨2, _⟩ => exact absurd rfl ha)
      (by show 1024 + k.val = 512 * 2 + k.val; omega)]
    exact v62 x0 x1 b r k

end Cert.PrepVal
end
-- ==== Proof.Prep.Value.lean ====
/- The array that the preparation's launch leaves is the reference's, on finite inputs. -/
module

public import proofs.«01_k».proof.Proof.Gen.PrepIdeal.Value
public import proofs.«01_k».proof.Proof.Prep.Point
public import proofs.«01_k».proof.Proof.Prep.Scratch
public import proofs.«01_k».proof.Proof.Prep.Block
public import proofs.«01_k».proof.Proof.Prep.Join
public import Idealize.ShloMosaic.Lib.Pipeline.Covers
public import Idealize.ShloMosaic.Lib.Pipeline.ValueKit

@[expose] public section

set_option maxRecDepth 16384

noncomputable section

namespace Cert.PrepVal

open Cert.PrepIdeal Cert.PrepIdeal.Gen Idealize.ShloMosaic Idealize.ShloMosaic.TcCoe Idealize.SL.Sem
open Cert.PrepRefIdeal.Read Cert.FiniteVal

variable (m : (ℓ : Loc nD τ sig) → Buf (Elt Ideal) ℓ) (c : Dev nD)

/-- Every entry of both arguments in the columns of the queries and the keys is a real number. -/
def Finite : Prop :=
  (∀ b r (n : Fin 1536), n.val < 1024 → IsReal (m ((c : Thread nD τ).loc main_arg0) (ValueIdx.ix3 b r n)))
    ∧ ∀ j (n : Fin 1536), n.val < 1024 → IsReal (m ((c : Thread nD τ).loc main_arg1) (ValueIdx.ix2 j n))

/-- The 2048 rows that tap `o - 6` reads, and its weights. -/
abbrev tap (t : Fin cfg0.N) (o : ℕ) (inb : ∀ a, (![o, 0] : Fin 2 → ℕ) a + S2048x512.size a ≤ S2064x512.size a) : Vec Ideal S2048x512 .f32 :=
  View.readCov (Val := Elt Ideal) (View.whole cc0_scratch0) (stores (iblk m c 0 t)) (Rect.unit (s := S2064x512) ![o, 0] S2048x512.size inb).toLoadRect

abbrev wt (t : Fin cfg0.N) (j : ℕ) (inb : ∀ a, (![0, j, 0] : Fin 3 → ℕ) a + S1x1x512.size a ≤ S1x5x512.size a) : Vec Ideal S1x1x512 .f32 :=
  View.ld (iblk m c 1 t) (Rect.unit (s := S1x5x512) ![0, j, 0] S1x1x512.size inb)

/-- The activated convolution at one entry of a grid point. -/
theorem conv_point (t : Fin cfg0.N) (r : Fin 2048) (k : Fin 512) :
    k0_pay1 (k0_pay8 (tap m c t 6 inb_S2064x512_S2048x512_6_0) (wt m c t 0 inb_S1x5x512_S1x1x512_0_0_0) (tap m c t 7 inb_S2064x512_S2048x512_7_0) (wt m c t 1 inb_S1x5x512_S1x1x512_0_1_0)
        (tap m c t 8 inb_S2064x512_S2048x512_8_0) (wt m c t 2 inb_S1x5x512_S1x1x512_0_2_0))
      (tap m c t 9 inb_S2064x512_S2048x512_9_0) (wt m c t 3 inb_S1x5x512_S1x1x512_0_3_0) (tap m c t 10 inb_S2064x512_S2048x512_10_0) (wt m c t 4 inb_S1x5x512_S1x1x512_0_4_0) (ValueIdx.ix2 r k)
      = actAt (m ((c : Thread nD τ).loc main_arg0)) (m ((c : Thread nD τ).loc main_arg1)) (bat t) r (col (sec t) k) := by
  have hx : (fun i => iblk m c 0 t (ValueIdx.ix3 0 i k) : Fin 2048 → EReal) = fun i => m ((c : Thread nD τ).loc main_arg0) (ValueIdx.ix3 (bat t) i (col (sec t) k)) :=
    funext fun i => blk0 m c t i k
  have t0 : tap m c t 6 inb_S2064x512_S2048x512_6_0 (ValueIdx.ix2 r k) = (padded (fun i => m ((c : Thread nD τ).loc main_arg0) (ValueIdx.ix3 (bat t) i (col (sec t) k))) r.val : EReal) :=
    (shifted (iblk m c 0 t) 6 _ r k r.val (by omega)).trans (congrArg (fun x => padded x r.val) hx)
  have w0 : wt m c t 0 inb_S1x5x512_S1x1x512_0_0_0 (ValueIdx.ix3 0 0 k) = (m ((c : Thread nD τ).loc main_arg1) (ValueIdx.ix2 0 (col (sec t) k)) : EReal) :=
    blk1 m c t 0 inb_S1x5x512_S1x1x512_0_0_0 k
  have t1 : tap m c t 7 inb_S2064x512_S2048x512_7_0 (ValueIdx.ix2 r k) = (padded (fun i => m ((c : Thread nD τ).loc main_arg0) (ValueIdx.ix3 (bat t) i (col (sec t) k))) (r.val + 1) : EReal) :=
    (shifted (iblk m c 0 t) 7 _ r k (r.val + 1) (by omega)).trans (congrArg (fun x => padded x (r.val + 1)) hx)
  have w1 : wt m c t 1 inb_S1x5x512_S1x1x512_0_1_0 (ValueIdx.ix3 0 0 k) = (m ((c : Thread nD τ).loc main_arg1) (ValueIdx.ix2 1 (col (sec t) k)) : EReal) :=
    blk1 m c t 1 inb_S1x5x512_S1x1x512_0_1_0 k
  have t2 : tap m c t 8 inb_S2064x512_S2048x512_8_0 (ValueIdx.ix2 r k) = (padded (fun i => m ((c : Thread nD τ).loc main_arg0) (ValueIdx.ix3 (bat t) i (col (sec t) k))) (r.val + 2) : EReal) :=
    (shifted (iblk m c 0 t) 8 _ r k (r.val + 2) (by omega)).trans (congrArg (fun x => padded x (r.val + 2)) hx)
  have w2 : wt m c t 2 inb_S1x5x512_S1x1x512_0_2_0 (ValueIdx.ix3 0 0 k) = (m ((c : Thread nD τ).loc main_arg1) (ValueIdx.ix2 2 (col (sec t) k)) : EReal) :=
    blk1 m c t 2 inb_S1x5x512_S1x1x512_0_2_0 k
  have t3 : tap m c t 9 inb_S2064x512_S2048x512_9_0 (ValueIdx.ix2 r k) = (padded (fun i => m ((c : Thread nD τ).loc main_arg0) (ValueIdx.ix3 (bat t) i (col (sec t) k))) (r.val + 3) : EReal) :=
    (shifted (iblk m c 0 t) 9 _ r k (r.val + 3) (by omega)).trans (congrArg (fun x => padded x (r.val + 3)) hx)
  have w3 : wt m c t 3 inb_S1x5x512_S1x1x512_0_3_0 (ValueIdx.ix3 0 0 k) = (m ((c : Thread nD τ).loc main_arg1) (ValueIdx.ix2 3 (col (sec t) k)) : EReal) :=
    blk1 m c t 3 inb_S1x5x512_S1x1x512_0_3_0 k
  have t4 : tap m c t 10 inb_S2064x512_S2048x512_10_0 (ValueIdx.ix2 r k) = (padded (fun i => m ((c : Thread nD τ).loc main_arg0) (ValueIdx.ix3 (bat t) i (col (sec t) k))) (r.val + 4) : EReal) :=
    (shifted (iblk m c 0 t) 10 _ r k (r.val + 4) (by omega)).trans (congrArg (fun x => padded x (r.val + 4)) hx)
  have w4 : wt m c t 4 inb_S1x5x512_S1x1x512_0_4_0 (ValueIdx.ix3 0 0 k) = (m ((c : Thread nD τ).loc main_arg1) (ValueIdx.ix2 4 (col (sec t) k)) : EReal) :=
    blk1 m c t 4 inb_S1x5x512_S1x1x512_0_4_0 k
  rw [pay1, pay8, t0, t1, t2, t3, t4, w0, w1, w2, w3, w4]
  rfl

/-- A query's or key's entry is real on finite inputs. -/
theorem real_at (h : Finite m c) (b : Fin 16) (r : Fin 2048) (n : Fin 1536) (hn : n.val < 1024) :
    IsReal (actAt (m ((c : Thread nD τ).loc main_arg0)) (m ((c : Thread nD τ).loc main_arg1)) b r n) :=
  real_act (real_conv _ _ (fun i => h.1 b i n hn) (fun j => h.2 j n hn) r)

/-- The scale of a section that is not the values. -/
theorem scaled (s : Fin 3) (hs : s.val ≠ 2) (y : Fin 512 → EReal) (k : Fin 512) :
    (unit y k * Scalar.select (Scalar.cmpi .eq (BitVec.ofNat 32 s.val) 0#32) (Ideal.ofBits .f32 0x3E000000#32) (Ideal.ofBits .f32 0x3F800000#32) : EReal) = lanes s y k := by
  rw [one_bits]
  match s with
  | 0 => rfl
  | 1 => exact mul_one _
  | 2 => exact absurd rfl hs

/-- The array that the launch leaves. -/
theorem arr (h : Finite m c) : (dats m 0 c).arrAt 3 cfg0.N
    = val_main_v63 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  have hs := section_of t
  have place : ∀ (r : Fin 2048) (k : Fin 512), val_main_v63 (F := Ideal) (m ((c : Thread nD τ).loc main_arg0)) (m ((c : Thread nD τ).loc main_arg1)) (ValueIdx.ix3 (bat t) r (col (sec t) k))
      = val_main_v63 (F := Ideal) (m ((c : Thread nD τ).loc main_arg0)) (m ((c : Thread nD τ).loc main_arg1)) (((View.whole main_v8).slice (win0_3.rect t)).emb (ValueIdx.ix3 0 r k)) := fun r k => by
    refine congrArg (val_main_v63 (F := Ideal) _ _) (funext fun a => Fin.ext ?_)
    obtain ⟨-, -, -, hi⟩ := idx t
    match a with
    | ⟨0, _⟩ =>
      show (grid0.coords t 0).val = win0_3.index t 0 * 1 + 1 * 0
      rw [hi]; show _ = (grid0.coords t 0).val * 1 + 1 * 0; omega
    | ⟨1, _⟩ =>
      show r.val = win0_3.index t 1 * 2048 + 1 * r.val
      rw [hi]; show _ = 0 * 2048 + 1 * r.val; omega
    | ⟨2, _⟩ =>
      show 512 * (grid0.coords t 1).val + k.val = win0_3.index t 2 * 512 + 1 * k.val
      rw [hi]; show _ = (grid0.coords t 1).val * 512 + 1 * k.val; omega
  obtain ⟨a, r, k, rfl⟩ : ∃ (a : Fin 1) (r : Fin 2048) (k : Fin 512), y = ValueIdx.ix3 a r k := ⟨_, _, _, ValueIdx.eq_ix3 y⟩
  obtain rfl : a = 0 := Subsingleton.elim _ _
  by_cases h2 : t.val % 3 = 2
  · rw [outsAt0_B m c t (by omega) h2]
    frame_out
    refine (pay3 _ _ _ _ _ r k).trans ((conv_point m c t r k).trans (Eq.trans ?_ (place r k)))
    rw [ref]
    have e : sec t = 2 := Fin.ext (hs.trans h2)
    rw [e]
    rfl
  · rw [outsAt0_A m c t (by omega) h2]
    frame_out
    have inner : ∀ q : Fin 512, (col (sec t) q).val < 1024 := fun q => by
      show 512 * (grid0.coords t 1).val + q.val < 1024
      omega
    refine (pay2 _ _ _ _ _ _ _ (fun q => actAt (m ((c : Thread nD τ).loc main_arg0)) (m ((c : Thread nD τ).loc main_arg1)) (bat t) r (col (sec t) q)) r k
      (fun q => conv_point m c t r q) (fun q => blk2 m c t q k) (fun q => real_at m c h _ r _ (inner q))).trans (Eq.trans ?_ (place r k))
    rw [ref]
    exact scaled (sec t) (fun e => h2 (hs.symm.trans e)) _ k

end Cert.PrepVal
end
-- ==== Proof.Prep.Claim.lean ====
/- The value claim, from the array that the launch leaves and the reference's expression. -/
module

public import proofs.«01_k».proof.Defs
public import proofs.«01_k».proof.Proof.Gen.PrepRefIdeal.Run
public import proofs.«01_k».proof.Proof.Gen.PrepRefIdeal.Read
public import proofs.«01_k».proof.Proof.Prep.Value
public import proofs.«01_k».proof.Proof.Gen.Pre_prep_finite
public import proofs.«01_k».proof.Proof.Gen.PrepIdeal.Value

@[expose] public section

noncomputable section

namespace Cert.PrepVal

open Cert.FiniteVal Idealize.ShloMosaic Idealize.ShloMosaic.TcCoe Idealize.SL.Sem

/-- What the precondition says of the arguments. -/
theorem finite (m : (ℓ : Loc Cert.PrepIdeal.nD Cert.PrepIdeal.τ Cert.PrepIdeal.sig) → Buf (Elt Ideal) ℓ) (c : Dev Cert.PrepIdeal.nD)
    (h : Cert.Pre_PrepIdeal_prep_finite m) : Finite m c := by
  obtain ⟨h0, h1⟩ := h c
  refine ⟨fun b r n hn => ?_, fun j n hn => ?_⟩
  · have e := congrFun h0 (ValueIdx.ix3 b r (⟨n.val, hn⟩ : Fin 1024))
    refine Eq.mp (congrArg (fun i => IsReal (m ((c : Thread Cert.PrepIdeal.nD Cert.PrepIdeal.τ).loc Cert.PrepIdeal.main_arg0) i)) (funext fun a => Fin.ext ?_)) (of_abs_lt e)
    match a with
    | ⟨0, _⟩ => show 0 + b.val = b.val; omega
    | ⟨1, _⟩ => show 0 + r.val = r.val; omega
    | ⟨2, _⟩ => show 0 + n.val = n.val; omega
  · have e := congrFun h1 (ValueIdx.ix2 j (⟨n.val, hn⟩ : Fin 1024))
    refine Eq.mp (congrArg (fun i => IsReal (m ((c : Thread Cert.PrepIdeal.nD Cert.PrepIdeal.τ).loc Cert.PrepIdeal.main_arg1) i)) (funext fun a => Fin.ext ?_)) (of_abs_lt e)
    match a with
    | ⟨0, _⟩ => show 0 + j.val = j.val; omega
    | ⟨1, _⟩ => show 0 + n.val = n.val; omega

theorem algebraic : Cert.algebraic_PrepIdeal_PrepRefIdeal_pre_prep_finite := fun m g m' g' hp hargs =>
  ⟨fun c => Cert.PrepRefIdeal.Read.val_main_v63 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)),
    (θ_run _ _ _).mono (fun r h c => by
      obtain ⟨h0, k⟩ := h c
      exact ⟨h0.trans (arr m c (finite m c hp)), k⟩) (Cert.PrepIdeal.Value.run_blocks m g),
    (θ_run _ _ _).mono (fun r h c => by
      obtain ⟨a0, a1⟩ := hargs c
      obtain ⟨h0, k⟩ := h c
      refine ⟨?_, k⟩
      · refine h0.trans ?_
        simp only [← a0, ← a1]
        exact Cert.PrepRefIdeal.Read.val_main_v63_eq m' c) (Cert.PrepRefIdeal.Value.run m' g')⟩

end Cert.PrepVal
end
-- ==== Proof.Attn.Soft.lean ====
/- A softmax with a sink, over extended reals: the weights divided before or after the sum they are in, and a sum over
   many keys read on the window outside which every score is −∞. -/
module

public import Idealize.ShloMosaic.PureOps
public import Idealize.ShloMosaic.PureOps.Ideal.Laws
public import proofs.«01_k».proof.Proof.Finite

@[expose] public section

noncomputable section

namespace Cert.AttnVal

open Idealize.ShloMosaic Cert.FiniteVal

/-- The largest of the scores and the sink. -/
def top {n : ℕ} (s : Fin n → EReal) (k : EReal) : EReal := max ((Finset.univ : Finset (Fin n)).fold max ⊥ s) k

/-- What the weights are divided by. -/
def denom {n : ℕ} (s : Fin n → EReal) (k : EReal) : EReal :=
  (∑ j, Ideal.exp (s j - top s k)) + Ideal.exp (k - top s k)

/-- The values weighed, every weight divided first. -/
def each {n : ℕ} (s v : Fin n → EReal) (k : EReal) : EReal :=
  ∑ j, Ideal.div (Ideal.exp (s j - top s k)) (denom s k) * v j

/-- The values weighed, their sum divided. -/
def whole {n : ℕ} (s v : Fin n → EReal) (k : EReal) : EReal :=
  Ideal.div (∑ j, Ideal.exp (s j - top s k) * v j) (denom s k)

/-- A real number or −∞. -/
def Low (x : EReal) : Prop := IsReal x ∨ x = ⊥

theorem Low.ne_top {x : EReal} (h : Low x) : x ≠ ⊤ := by
  rcases h with h | h
  · exact h.ne_top
  · rw [h]; exact bot_ne_top

theorem fold_lt_top {n : ℕ} (s : Fin n → EReal) (hs : ∀ j, Low (s j)) : (Finset.univ : Finset (Fin n)).fold max ⊥ s < ⊤ := by
  rw [Finset.fold_max_lt]
  exact ⟨bot_lt_top, fun j _ => lt_top_iff_ne_top.2 (hs j).ne_top⟩

theorem top_real {n : ℕ} (s : Fin n → EReal) (hs : ∀ j, Low (s j)) (i : Fin n) (hi : IsReal (s i)) (k : EReal) (hk : Low k) : IsReal (top s k) := by
  refine of_ne (ne_of_lt (max_lt (fold_lt_top s hs) (lt_top_iff_ne_top.2 hk.ne_top))) fun e => ?_
  have hle : s i ≤ top s k := le_trans ((Finset.le_fold_max _).2 (Or.inr ⟨i, Finset.mem_univ i, le_refl _⟩)) (le_max_left _ _)
  exact hi.ne_bot (le_bot_iff.1 (e ▸ hle))

theorem exp_low {x m : EReal} (hx : Low x) (hm : IsReal m) : ∃ r : ℝ, 0 ≤ r ∧ Ideal.exp (x - m) = (r : EReal) := by
  obtain ⟨m, rfl⟩ := hm
  rcases hx with ⟨x, rfl⟩ | rfl
  · exact ⟨Real.exp (x - m), (Real.exp_pos _).le, by rw [← EReal.coe_sub]; rfl⟩
  · exact ⟨0, le_refl _, by rw [EReal.bot_sub]; rfl⟩

theorem exp_real {x m : EReal} (hx : IsReal x) (hm : IsReal m) : ∃ r : ℝ, 0 < r ∧ Ideal.exp (x - m) = (r : EReal) := by
  obtain ⟨m, rfl⟩ := hm
  obtain ⟨x, rfl⟩ := hx
  exact ⟨Real.exp (x - m), Real.exp_pos _, by rw [← EReal.coe_sub]; rfl⟩

theorem coe_sum {n : ℕ} (f : Fin n → ℝ) : (∑ j, ((f j : ℝ) : EReal)) = ((∑ j, f j : ℝ) : EReal) := by
  induction n with
  | zero => simp
  | succ n ih => rw [Fin.sum_univ_succ, Fin.sum_univ_succ, ih, EReal.coe_add]

/-- A common real factor that is not negative leaves a sum of any extended reals. -/
theorem sum_mul_real {n : ℕ} (f : Fin n → EReal) (r : ℝ) (hr : 0 ≤ r) : (∑ j, f j * (r : EReal)) = (∑ j, f j) * (r : EReal) := by
  induction n with
  | zero => simp
  | succ n ih =>
    rw [Fin.sum_univ_succ, Fin.sum_univ_succ, ih, EReal.right_distrib_of_nonneg_of_ne_top (by exact_mod_cast hr) (EReal.coe_ne_top r)]

theorem div_real (x : EReal) (y : ℝ) (hy : y ≠ 0) : Ideal.div x (y : EReal) = x * ((y⁻¹ : ℝ) : EReal) := by
  rw [Ideal.div, if_neg (by exact_mod_cast hy), EReal.coe_inv]

theorem each_eq_whole {n : ℕ} (s v : Fin n → EReal) (k : EReal) (hs : ∀ j, Low (s j)) (i : Fin n) (hi : IsReal (s i)) (hk : Low k) :
    each s v k = whole s v k := by
  have hm := top_real s hs i hi k hk
  choose p hp0 hp using fun j => exp_low (hs j) hm
  obtain ⟨e, he0, he⟩ := exp_low hk hm
  obtain ⟨q, hq0, hq⟩ := exp_real hi hm
  have hpi : 0 < p i := by
    have : (p i : EReal) = (q : EReal) := (hp i).symm.trans hq
    rw [EReal.coe_eq_coe_iff.1 this]; exact hq0
  have hd : denom s k = ((((∑ j, p j) + e : ℝ)) : EReal) := by
    rw [denom, he, EReal.coe_add, ← coe_sum]
    simp only [hp]
  have hpos : 0 < (∑ j, p j) + e :=
    add_pos_of_pos_of_nonneg (Finset.sum_pos' (fun j _ => hp0 j) ⟨i, Finset.mem_univ i, hpi⟩) he0
  rw [each, whole, hd]
  simp only [div_real _ _ (ne_of_gt hpos)]
  rw [← sum_mul_real _ _ (inv_nonneg.2 hpos.le)]
  exact Finset.sum_congr rfl fun j _ => mul_right_comm _ _ _

/-- A sum over many keys, zero outside a window, is the window's. -/
theorem sum_window {n w : ℕ} (e : Fin w → Fin n) (he : Function.Injective e) (f : Fin n → EReal)
    (hf : ∀ j, (∀ i, e i ≠ j) → f j = 0) : (∑ j, f j) = ∑ i, f (e i) := by
  classical
  rw [← Finset.sum_image (s := Finset.univ) (g := e) (f := f) fun a _ b _ h => he h]
  refine (Finset.sum_subset (Finset.subset_univ _) fun j _ hj => hf j fun i hi => hj ?_).symm
  exact Finset.mem_image.2 ⟨i, Finset.mem_univ i, hi⟩

/-- The greatest of many scores, −∞ outside a window, is the window's. -/
theorem fold_window {n w : ℕ} (e : Fin w → Fin n) (f : Fin n → EReal) (hf : ∀ j, (∀ i, e i ≠ j) → f j = ⊥) :
    (Finset.univ : Finset (Fin n)).fold max ⊥ f = (Finset.univ : Finset (Fin w)).fold max ⊥ fun i => f (e i) := by
  refine le_antisymm ?_ ?_
  · rw [Finset.fold_max_le]
    refine ⟨bot_le, fun j _ => ?_⟩
    by_cases h : ∃ i, e i = j
    · obtain ⟨i, rfl⟩ := h
      exact (Finset.le_fold_max _).2 (Or.inr ⟨i, Finset.mem_univ i, le_refl _⟩)
    · rw [hf j fun i hi => h ⟨i, hi⟩]; exact bot_le
  · rw [Finset.fold_max_le]
    exact ⟨bot_le, fun i _ => (Finset.le_fold_max _).2 (Or.inr ⟨e i, Finset.mem_univ _, le_refl _⟩)⟩

theorem whole_window {n w : ℕ} (e : Fin w → Fin n) (he : Function.Injective e) (s v : Fin n → EReal) (k : EReal)
    (hs : ∀ j, Low (s j)) (o : Fin n) (ho : IsReal (s o)) (hk : Low k) (hout : ∀ j, (∀ i, e i ≠ j) → s j = ⊥) :
    whole s v k = whole (fun i => s (e i)) (fun i => v (e i)) k := by
  have ht : top s k = top (fun i => s (e i)) k := by rw [top, top, fold_window e s hout]
  have hm := top_real s hs o ho k hk
  have hz : ∀ j, (∀ i, e i ≠ j) → Ideal.exp (s j - top s k) = 0 := fun j h => by
    rw [hout j h, EReal.bot_sub]; rfl
  have hd : denom s k = denom (fun i => s (e i)) k := by
    rw [denom, denom, sum_window e he _ hz, ht]
  rw [whole, whole, hd, sum_window e he _ fun j h => by rw [hz j h, zero_mul], ht]

/-- Every weight divided, over all keys, is the sum divided over the window. -/
theorem each_eq_window {n w : ℕ} (e : Fin w → Fin n) (he : Function.Injective e) (s v : Fin n → EReal) (k : EReal)
    (hs : ∀ j, Low (s j)) (o : Fin n) (ho : IsReal (s o)) (hk : Low k) (hout : ∀ j, (∀ i, e i ≠ j) → s j = ⊥) :
    each s v k = whole (fun i => s (e i)) (fun i => v (e i)) k := by
  rw [each_eq_whole s v k hs o ho hk, whole_window e he s v k hs o ho hk hout]

end Cert.AttnVal
end
-- ==== Proof.Pool.Point.lean ====
/- One group of one grid step of the pooling at one entry. -/
module

public import proofs.«01_k».proof.Proof.Gen.PoolIdeal.Skeleton
public import Idealize.ShloMosaic.Lib.Pipeline.ValueKit
public import Idealize.ShloMosaic.Lib.ValueIdxCore

@[expose] public section

set_option maxRecDepth 16384

noncomputable section

namespace Cert.PoolVal

open Cert.PoolIdeal Cert.PoolIdeal.Gen Idealize.ShloMosaic Idealize.ShloMosaic.TcCoe Idealize.SL.Sem

/-- The radius of a group's windows. -/
def radius (g : Fin 4) : BitVec 32 := IntOp.shli .host 1#32 (BitVec.ofNat 32 g.val)

/-- Whether a position at this distance is in the group's window. -/
def near (g : Fin 4) (x : BitVec 32) : BitVec 1 := IntOp.cmpi .sle (IntOp.absi x) (radius g)

/-- How many positions of the row lie within `b` of position `q`. -/
def count (q b : BitVec 32) : BitVec 32 :=
  IntOp.addi (IntOp.subi (IntOp.minsi (IntOp.addi q b) 2047#32) (IntOp.maxsi (IntOp.subi q b) 0#32)) 1#32

/-- The column of the whole row that column `c` of group `g` is. -/
def lane (g : Fin 4) (c : Fin 128) : Fin 512 := ⟨128 * g.val + c.val, by omega⟩

/-- A group, from its columns. -/
def part (b : BitVec 32) (win : FVec Ideal S512x128 .bf16) (own : FVec Ideal S256x128 .f32) (pos : IVec S256x128 32)
    (band : Vec Ideal S1x1x256x512 .bf16) (w : Vec Ideal S1x128x128 .bf16) : FVec Ideal S256x128 .f32 :=
  matmul dot_S256x128_S128x128_S256x128_1_0_0_1_n_n none
    (truncf .bf16 (subf (divf
      (matmul dot_S256x512_S512x128_S256x128_1_0_0_1_n_n none (shapeCast S256x512 band shapeCasts_S1x1x256x512_S256x512 : FVec Ideal S256x512 .bf16) win (constant S256x128 .f32 0x00000000#32))
      (sitofp .f32 (addi (subi (minsi (addi pos (broadcast S256x128 b)) (broadcast S256x128 2047#32)) (maxsi (subi pos (broadcast S256x128 b)) (broadcast S256x128 0#32))) (broadcast S256x128 1#32))))
      own) bitsLt_bf16_f32)
    (shapeCast S128x128 w shapeCasts_S1x128x128_S128x128 : FVec Ideal S128x128 .bf16) (constant S256x128 .f32 0x00000000#32)

theorem part_apply (b : BitVec 32) (win : FVec Ideal S512x128 .bf16) (own : FVec Ideal S256x128 .f32) (pos : IVec S256x128 32)
    (band : Vec Ideal S1x1x256x512 .bf16) (w : Vec Ideal S1x128x128 .bf16) (r : Fin 256) (d : Fin 128) :
    part b win own pos band w (ValueIdx.ix2 r d)
      = ∑ c : Fin 128, @HMul.hMul EReal EReal EReal instHMul
          (@HSub.hSub EReal EReal EReal instHSub
            (Ideal.div (∑ j : Fin 512, @HMul.hMul EReal EReal EReal instHMul (band (ValueIdx.ix4 0 0 r j)) (win (ValueIdx.ix2 j c)))
              (FloatOps.sitofp (F := Ideal) .f32 (count (pos (ValueIdx.ix2 r c)) b)))
            (own (ValueIdx.ix2 r c)))
          (w (ValueIdx.ix3 0 c d)) := by
  unfold part
  pointwise
  rfl

variable (i : grid0.Coords) (v7 : Vec Ideal S1x512x512 .bf16) (v10 : Vec Ideal S1x256x512 .bf16) (band : Fin 4 → Vec Ideal S1x1x256x512 .bf16)
  (w : Fin 4 → Vec Ideal S1x128x128 .bf16) (sc : Vec Ideal S1x512 .f32)

/-- A group, from the blocks' columns. -/
def group (g : Fin 4) : FVec Ideal S256x128 .f32 :=
  match g with
  | 0 => part 1#32 (extractStridedSlice S512x128 ![0, 0] (k0_pay2 v7) slices_S512x512_o0_0_S512x128) (extractStridedSlice S256x128 ![0, 0] (k0_pay3 v10) slices_S256x512_o0_0_S256x128) (k0_pay4 i) (band 0) (w 0)
  | 1 => part 2#32 (extractStridedSlice S512x128 ![0, 128] (k0_pay2 v7) slices_S512x512_o0_128_S512x128) (extractStridedSlice S256x128 ![0, 128] (k0_pay3 v10) slices_S256x512_o0_128_S256x128) (k0_pay4 i) (band 1) (w 1)
  | 2 => part 4#32 (extractStridedSlice S512x128 ![0, 256] (k0_pay2 v7) slices_S512x512_o0_256_S512x128) (extractStridedSlice S256x128 ![0, 256] (k0_pay3 v10) slices_S256x512_o0_256_S256x128) (k0_pay4 i) (band 2) (w 2)
  | 3 => part 8#32 (extractStridedSlice S512x128 ![0, 384] (k0_pay2 v7) slices_S512x512_o0_384_S512x128) (extractStridedSlice S256x128 ![0, 384] (k0_pay3 v10) slices_S256x512_o0_384_S256x128) (k0_pay4 i) (band 3) (w 3)

theorem own0 : k0_pay6 (k0_pay5 i v7 v10 (band 0)) (w 0) = group i v7 v10 band w 0 := rfl

theorem own1 : k0_pay7 (k0_pay2 v7) (k0_pay3 v10) (k0_pay4 i) (band 1) (w 1) = group i v7 v10 band w 1 := rfl

/-- What the step stores. -/
def stored : FVec Ideal S1x256x512 .bf16 :=
  k0_pay1 (k0_pay12 (k0_pay2 v7) (k0_pay3 v10) (k0_pay4 i) (k0_pay6 (k0_pay5 i v7 v10 (band 0)) (w 0))
      (k0_pay7 (k0_pay2 v7) (k0_pay3 v10) (k0_pay4 i) (band 1) (w 1)) (k0_pay8 (k0_pay2 v7) (band 2))
      (k0_pay9 (k0_pay4 i)) (k0_pay10 (k0_pay4 i)) k0_pay11 (w 2) (band 3) (w 3))
    (k0_pay13 sc)

/-- The groups side by side. -/
def row : FVec Ideal S256x512 .f32 :=
  concatenate S256x512 1 [⟨S256x128, group i v7 v10 band w 0⟩, ⟨S256x128, group i v7 v10 band w 1⟩, ⟨S256x128, group i v7 v10 band w 2⟩, ⟨S256x128, group i v7 v10 band w 3⟩] concatenates_S256x128_S256x128_S256x128_S256x128_S256x512_d1

theorem stored_eq : stored i v7 v10 band w sc = k0_pay1 (row i v7 v10 band w) (k0_pay13 sc) := by
  unfold stored
  rw [own0, own1]
  rfl

theorem packed (x y : FVec Ideal S256x512 .f32) (r : Fin 256) (n : Fin 512) :
    k0_pay1 x y (ValueIdx.ix3 0 r n) = @HMul.hMul EReal EReal EReal instHMul (x (ValueIdx.ix2 r n)) (y (ValueIdx.ix2 r n)) := by
  unfold k0_pay1
  pointwise
  rfl

theorem scaled (r : Fin 256) (n : Fin 512) : k0_pay13 sc (ValueIdx.ix2 r n) = sc (ValueIdx.ix2 0 n) := by
  unfold k0_pay13
  pointwise
  rfl

theorem groups (a : Fin 4 → FVec Ideal S256x128 .f32) (r : Fin 256) (g : Fin 4) (d : Fin 128) :
    (concatenate S256x512 1 [⟨S256x128, a 0⟩, ⟨S256x128, a 1⟩, ⟨S256x128, a 2⟩, ⟨S256x128, a 3⟩] concatenates_S256x128_S256x128_S256x128_S256x128_S256x512_d1
      : FVec Ideal S256x512 .f32) (ValueIdx.ix2 r (lane g d)) = a g (ValueIdx.ix2 r d) := by
  match g with
  | 0 =>
    pointwise
    refine (dif_pos (show 128 * 0 + d.val < 128 by omega)).trans ?_
    exact congrArg (a 0) (funext fun b => Fin.ext (by
      match b with
      | ⟨0, _⟩ => rfl
      | ⟨1, _⟩ => show 128 * 0 + d.val = d.val; omega))
  | 1 =>
    pointwise
    refine (dif_neg (show ¬ (128 * 1 + d.val < 128) by omega)).trans ?_
    refine (dif_pos (show 128 * 1 + d.val - 128 < 128 by omega)).trans ?_
    exact congrArg (a 1) (funext fun b => Fin.ext (by
      match b with
      | ⟨0, _⟩ => rfl
      | ⟨1, _⟩ => show 128 * 1 + d.val - 128 = d.val; omega))
  | 2 =>
    pointwise
    refine (dif_neg (show ¬ (128 * 2 + d.val < 128) by omega)).trans ?_
    refine (dif_neg (show ¬ (128 * 2 + d.val - 128 < 128) by omega)).trans ?_
    refine (dif_pos (show 128 * 2 + d.val - 128 - 128 < 128 by omega)).trans ?_
    exact congrArg (a 2) (funext fun b => Fin.ext (by
      match b with
      | ⟨0, _⟩ => rfl
      | ⟨1, _⟩ => show 128 * 2 + d.val - 128 - 128 = d.val; omega))
  | 3 =>
    pointwise
    refine (dif_neg (show ¬ (128 * 3 + d.val < 128) by omega)).trans ?_
    refine (dif_neg (show ¬ (128 * 3 + d.val - 128 < 128) by omega)).trans ?_
    refine (dif_neg (show ¬ (128 * 3 + d.val - 128 - 128 < 128) by omega)).trans ?_
    exact congrArg (a 3) (funext fun b => Fin.ext (by
      match b with
      | ⟨0, _⟩ => rfl
      | ⟨1, _⟩ => show 128 * 3 + d.val - 128 - 128 - 128 = d.val; omega))

/-- The position that row `r` of the step is. -/
def pos (r : Fin 256) : BitVec 32 := IntOp.addi (IntOp.muli (BitVec.ofNat 32 (i 1).val) 256#32) (BitVec.ofNat 32 r.val)

theorem pos_apply (r : Fin 256) (c : Fin 128) : k0_pay4 i (ValueIdx.ix2 r c) = pos i r := by
  unfold k0_pay4
  pointwise
  rfl

theorem wincol (o : ℕ) (ho : S512x512.Slices ![0, o] S512x128) (j : Fin 512) (c : Fin 128) (n : Fin 512) (hn : o + c.val = n.val) :
    (extractStridedSlice S512x128 ![0, o] (k0_pay2 v7) ho : FVec Ideal S512x128 .bf16) (ValueIdx.ix2 j c) = v7 (ValueIdx.ix3 0 j n) := by
  unfold k0_pay2
  pointwise
  exact congrArg (fun k => v7 (ValueIdx.ix3 0 j k)) (Fin.ext hn)

theorem owncol (o : ℕ) (ho : S256x512.Slices ![0, o] S256x128) (r : Fin 256) (c : Fin 128) (n : Fin 512) (hn : o + c.val = n.val) :
    (extractStridedSlice S256x128 ![0, o] (k0_pay3 v10) ho : FVec Ideal S256x128 .f32) (ValueIdx.ix2 r c) = v10 (ValueIdx.ix3 0 r n) := by
  unfold k0_pay3
  pointwise
  exact congrArg (fun k => v10 (ValueIdx.ix3 0 r k)) (Fin.ext hn)

/-- One column of a group before the product with its weights: the window's mean less the position's own. -/
def mixed (g : Fin 4) (r : Fin 256) (c : Fin 128) : EReal :=
  @HSub.hSub EReal EReal EReal instHSub
    (Ideal.div (∑ j : Fin 512, @HMul.hMul EReal EReal EReal instHMul (band g (ValueIdx.ix4 0 0 r j)) (v7 (ValueIdx.ix3 0 j (lane g c))))
      (FloatOps.sitofp (F := Ideal) .f32 (count (pos i r) (radius g))))
    (v10 (ValueIdx.ix3 0 r (lane g c)))

theorem group_apply (g : Fin 4) (r : Fin 256) (d : Fin 128) : group i v7 v10 band w g (ValueIdx.ix2 r d)
    = ∑ c : Fin 128, @HMul.hMul EReal EReal EReal instHMul (mixed i v7 v10 band g r c) (w g (ValueIdx.ix3 0 c d)) := by
  match g with
  | 0 =>
    refine (part_apply _ _ _ _ _ _ r d).trans ?_
    simp only [wincol v7 0 _ _ _ (lane 0 _) rfl, owncol v10 0 _ r _ (lane 0 _) rfl, pos_apply]
    rfl
  | 1 =>
    refine (part_apply _ _ _ _ _ _ r d).trans ?_
    simp only [wincol v7 128 _ _ _ (lane 1 _) rfl, owncol v10 128 _ r _ (lane 1 _) rfl, pos_apply]
    rfl
  | 2 =>
    refine (part_apply _ _ _ _ _ _ r d).trans ?_
    simp only [wincol v7 256 _ _ _ (lane 2 _) rfl, owncol v10 256 _ r _ (lane 2 _) rfl, pos_apply]
    rfl
  | 3 =>
    refine (part_apply _ _ _ _ _ _ r d).trans ?_
    simp only [wincol v7 384 _ _ _ (lane 3 _) rfl, owncol v10 384 _ r _ (lane 3 _) rfl, pos_apply]
    rfl

/-- What the step stores, at column `d` of group `g`. -/
theorem stored_apply (g : Fin 4) (r : Fin 256) (d : Fin 128) : stored i v7 v10 band w sc (ValueIdx.ix3 0 r (lane g d))
    = @HMul.hMul EReal EReal EReal instHMul
        (∑ c : Fin 128, @HMul.hMul EReal EReal EReal instHMul (mixed i v7 v10 band g r c) (w g (ValueIdx.ix3 0 c d)))
        (sc (ValueIdx.ix2 0 (lane g d))) := by
  rw [stored_eq, packed, scaled]
  exact congrArg (fun x : EReal => x * _) ((groups (group i v7 v10 band w) r g d).trans (group_apply i v7 v10 band w g r d))

end Cert.PoolVal
end
-- ==== Proof.Pool.Ref.lean ====
/- The reference's pooling at one entry. -/
module

public import proofs.«01_k».proof.Proof.Gen.PoolRefIdeal.Read
public import proofs.«01_k».proof.Proof.Pool.Point
public import Idealize.ShloMosaic.Lib.IdealHost

@[expose] public section

set_option maxRecDepth 16384

noncomputable section

namespace Cert.PoolVal

open Cert.PoolRefIdeal Cert.PoolRefIdeal.Read Idealize.ShloMosaic

variable (x0 : (⟨S16x2048x512, .bf16⟩ : BufTy).Contents (Elt Ideal)) (x1 : (⟨S4x128x128, .f32⟩ : BufTy).Contents (Elt Ideal))
  (x2 : (⟨S512, .f32⟩ : BufTy).Contents (Elt Ideal))

/-- The distance of position `j` from position `q`. -/
def rel (j q : Fin 2048) : BitVec 32 := IntOp.subi (BitVec.ofNat 32 j.val) (BitVec.ofNat 32 q.val)

/-- The window's mean less the position's own. -/
def mean (b : Fin 16) (q : Fin 2048) (g : Fin 4) (c : Fin 128) : EReal :=
  @HSub.hSub EReal EReal EReal instHSub
    (Ideal.div (∑ j : Fin 2048, (Scalar.select (near g (rel j q)) (x0 (ValueIdx.ix3 b j (lane g c)) : EReal) 0 : EReal))
      (FloatOps.sitofp (F := Ideal) .f32 (count (BitVec.ofNat 32 q.val) (radius g))))
    (x0 (ValueIdx.ix3 b q (lane g c)))

theorem v1 (b : Fin 16) (s : Fin 2048) (g : Fin 4) (c : Fin 128) :
    val_main_v1 (F := Ideal) x0 (ValueIdx.ix4 b s g c) = x0 (ValueIdx.ix3 b s (lane g c)) := by
  rw [val_main_v1_apply, val_main_v0_apply]
  refine congrArg x0 (funext fun i => Fin.ext ?_)
  match i with
  | ⟨0, _⟩ =>
    show (((b.val * 2048 + s.val) * 4 + g.val) * 128 + c.val) / 1048576 = b.val
    omega
  | ⟨1, _⟩ =>
    show (((b.val * 2048 + s.val) * 4 + g.val) * 128 + c.val) / 512 % 2048 = s.val
    omega
  | ⟨2, _⟩ =>
    show (((b.val * 2048 + s.val) * 4 + g.val) * 128 + c.val) % 512 = 128 * g.val + c.val
    omega

theorem zero_bits : Ideal.ofBits .f32 0x00000000#32 = 0 := by simp [Ideal.ofBits, Ideal.ieee]

theorem v20 (b : Fin 16) (q j : Fin 2048) (g : Fin 4) (c : Fin 128) :
    val_main_v20 (F := Ideal) x0 (ValueIdx.ix5 b q j g c) = (Scalar.select (near g (rel j q)) (x0 (ValueIdx.ix3 b j (lane g c)) : EReal) 0 : EReal) := by
  have e0 : val_main_call0_v3 (F := Ideal) (ValueIdx.ix5 b q j g c) = (0 : EReal) := by
    rw [val_main_call0_v3_apply]
    exact zero_bits
  have e1 : val_main_call0_v1 (F := Ideal) (ValueIdx.ix5 b q j g c) = near g (rel j q) := by
    rw [val_main_call0_v1_apply]
    rfl
  have e2 : val_main_call0_v2 (F := Ideal) x0 (ValueIdx.ix5 b q j g c) = x0 (ValueIdx.ix3 b j (lane g c)) := by
    rw [val_main_call0_v2_apply, val_main_v19_apply]
    refine Eq.trans (congrArg _ (funext fun i => Fin.ext ?_)) (v1 x0 b j g c)
    match i with
    | ⟨0, _⟩ => rfl
    | ⟨1, _⟩ => rfl
    | ⟨2, _⟩ => rfl
    | ⟨3, _⟩ => rfl
  rw [val_main_v20_apply, e0, e1, e2]

theorem v41 (b : Fin 16) (q : Fin 2048) (g : Fin 4) (c : Fin 128) :
    val_main_v41 (F := Ideal) x0 (ValueIdx.ix4 b q g c) = mean x0 b q g c := by
  have e : ∀ k : Fin 2048, idx_main_v21 (ValueIdx.ix4 b q g c) k = ValueIdx.ix5 b q k g c := fun k => funext fun i => Fin.ext (by
    match i with
    | ⟨0, _⟩ => rfl
    | ⟨1, _⟩ => rfl
    | ⟨2, _⟩ => rfl
    | ⟨3, _⟩ => rfl
    | ⟨4, _⟩ => rfl)
  have e0 : (val_main_cst_0 (F := Ideal)) (Shape.Idx.first Gen.h_S_) = (0 : EReal) := zero_bits
  have e1 : val_main_v39 (F := Ideal) (ValueIdx.ix4 b q g c)
      = FloatOps.sitofp (F := Ideal) .f32 (count (BitVec.ofNat 32 q.val) (radius g)) := by
    rw [val_main_v39_apply, val_main_v38_apply, val_main_v37_apply]
    rfl
  have e2 : val_main_v21 (F := Ideal) x0 (ValueIdx.ix4 b q g c)
      = ∑ j : Fin 2048, (Scalar.select (near g (rel j q)) (x0 (ValueIdx.ix3 b j (lane g c)) : EReal) 0 : EReal) := by
    rw [val_main_v21_apply]
    simp only [e, v20]
    rw [e0]
    exact zero_add (M := EReal) _
  rw [val_main_v41_apply, val_main_v40_apply, v1, e1, e2]
  rfl

/-- The reference at column `d` of group `g` of row `q`. -/
theorem ref (b : Fin 16) (q : Fin 2048) (g : Fin 4) (d : Fin 128) :
    val_main_v48 (F := Ideal) x0 x1 x2 (ValueIdx.ix3 b q (lane g d))
      = @HMul.hMul EReal EReal EReal instHMul
          (∑ c : Fin 128, @HMul.hMul EReal EReal EReal instHMul (mean x0 b q g c) (x1 (ValueIdx.ix3 g c d)))
          (x2 (ValueIdx.ix1 (lane g d))) := by
  have e44 : idx_main_v44 (ValueIdx.ix3 b q (lane g d)) = ValueIdx.ix4 b q g d := funext fun i => Fin.ext (by
    match i with
    | ⟨0, _⟩ =>
      show ((b.val * 2048 + q.val) * 512 + (128 * g.val + d.val)) / 1048576 = b.val
      omega
    | ⟨1, _⟩ =>
      show ((b.val * 2048 + q.val) * 512 + (128 * g.val + d.val)) / 512 % 2048 = q.val
      omega
    | ⟨2, _⟩ =>
      show ((b.val * 2048 + q.val) * 512 + (128 * g.val + d.val)) / 128 % 4 = g.val
      omega
    | ⟨3, _⟩ =>
      show ((b.val * 2048 + q.val) * 512 + (128 * g.val + d.val)) % 128 = d.val
      omega)
  have el : ∀ c : Fin 128, lidx_main_v42 (idx_main_v43 (ValueIdx.ix4 b q g d)) c = ValueIdx.ix3 g c d := fun c => funext fun i => Fin.ext (by
    match i with
    | ⟨0, _⟩ => rfl
    | ⟨1, _⟩ => rfl
    | ⟨2, _⟩ => rfl)
  have er : ∀ c : Fin 128, ridx_main_v42 (idx_main_v43 (ValueIdx.ix4 b q g d)) c = ValueIdx.ix4 b q g c := fun c => funext fun i => Fin.ext (by
    match i with
    | ⟨0, _⟩ => rfl
    | ⟨1, _⟩ => rfl
    | ⟨2, _⟩ => rfl
    | ⟨3, _⟩ => rfl)
  have e46 : val_main_v46 (F := Ideal) x2 (ValueIdx.ix3 b q (lane g d)) = x2 (ValueIdx.ix1 (lane g d)) := by
    rw [val_main_v46_apply, val_main_v45_apply]
    refine congrArg x2 (funext fun i => Fin.ext ?_)
    match i with
    | ⟨0, _⟩ => rfl
  have e42 : val_main_v44 (F := Ideal) x0 x1 (ValueIdx.ix3 b q (lane g d))
      = ∑ c : Fin 128, @HMul.hMul EReal EReal EReal instHMul (mean x0 b q g c) (x1 (ValueIdx.ix3 g c d)) := by
    rw [val_main_v44_apply, e44, val_main_v43_apply, val_main_v42_apply]
    refine Finset.sum_congr rfl fun c _ => ?_
    rw [el, er, v41]
    exact mul_comm (G := EReal) _ _
  rw [val_main_v48_apply, val_main_v47_apply, e46, e42]
  rfl

end Cert.PoolVal
end
-- ==== Proof.Pool.Value.lean ====
/- The array that the pooling's launch leaves is the reference's. -/
module

public import proofs.«01_k».proof.Proof.Gen.PoolIdeal.Value
public import proofs.«01_k».proof.Proof.Attn.Soft
public import proofs.«01_k».proof.Proof.Pool.Ref
public import Idealize.ShloMosaic.Lib.Pipeline.Covers
public import Idealize.ShloMosaic.Lib.IdealHost

@[expose] public section

set_option maxRecDepth 16384

noncomputable section

namespace Cert.PoolVal

open Cert.PoolIdeal Cert.PoolIdeal.Gen Idealize.ShloMosaic Idealize.ShloMosaic.TcCoe Idealize.SL.Sem
open Cert.PoolRefIdeal.Read

variable (m : (ℓ : Loc nD τ sig) → Buf (Elt Ideal) ℓ) (c : Dev nD)

/-- How far position `j` of window `a` is from row `r` of its step. -/
def dist (a : Fin 3) (r : Fin 256) (j : Fin 512) : BitVec 32 :=
  IntOp.subi (IntOp.subi (BitVec.ofNat 32 j.val) (BitVec.ofNat 32 (128 * a.val))) (BitVec.ofNat 32 r.val)

theorem shift_eq : ∀ a : Fin 3, lit0 a = BitVec.ofNat 32 (128 * a.val) := by decide

theorem radius_eq : ∀ g : Fin 4, lit1 g = radius g := by decide

theorem row3 (a : Fin 3) : S3.rowMajor (ValueIdx.ix1 a) = a := Fin.ext (Shape.rowMajor_val_one _)

theorem row4 (g : Fin 4) : S4.rowMajor (ValueIdx.ix1 g) = g := Fin.ext (Shape.rowMajor_val_one _)

/-- The table of windows: one inside a group's window, zero outside it. -/
theorem Vband (a : Fin 3) (g : Fin 4) (r : Fin 256) (j : Fin 512) :
    V m c main_v19 (ValueIdx.ix4 a g r j) = (FloatOps.uitofp (F := Ideal) .bf16 (near g (dist a r j)) : EReal) := by
  show StableHlo.after (hostOps0 (F := Ideal)) _ (Proc.tc.devRef main_v19) (ValueIdx.ix4 a g r j) = _
  entry_read
  pointwise
  have h0 : lit0 (S3.rowMajor (ValueIdx.ix1 a)) = BitVec.ofNat 32 (128 * a.val) := (congrArg lit0 (row3 a)).trans (shift_eq a)
  have h1 : lit1 (S4.rowMajor (ValueIdx.ix1 g)) = radius g := (congrArg lit1 (row4 g)).trans (radius_eq g)
  unfold near dist
  rw [← h0, ← h1]
  rfl

theorem Vw (g : Fin 4) (k d : Fin 128) :
    V m c main_v20 (ValueIdx.ix3 g k d) = (m ((c : Thread nD τ).loc main_arg1) (ValueIdx.ix3 g k d) : EReal) := by
  show StableHlo.after (hostOps0 (F := Ideal)) _ (Proc.tc.devRef main_v20) (ValueIdx.ix3 g k d) = _
  entry_read
  pointwise

theorem Vscale (n : Fin 512) :
    V m c main_v21 (ValueIdx.ix2 0 n) = (m ((c : Thread nD τ).loc main_arg2) (ValueIdx.ix1 n) : EReal) := by
  show StableHlo.after (hostOps0 (F := Ideal)) _ (Proc.tc.devRef main_v21) (ValueIdx.ix2 0 n) = _
  entry_read
  pointwise
  rfl

/-- The rows move with the first coordinate, the results with both; the table is the first, the last or the one between. -/
theorem idx : ∀ t : Fin cfg0.N, win0_0.index t = ![(grid0.coords t 0).val, 0, 0]
    ∧ win0_1.index t = ![if (grid0.coords t 1).val = 0 then 0 else if (grid0.coords t 1).val = 7 then 2 else 1, 0, 0, 0]
    ∧ win0_2.index t = ![0, 0, 0]
    ∧ win0_3.index t = ![0, 0]
    ∧ win0_4.index t = ![(grid0.coords t 0).val, (grid0.coords t 1).val, 0] := by decide +kernel

/-- Where the positions that a step reads begin. -/
theorem off1 : ∀ t : Fin cfg0.N, k0_off1 (grid0.coords t) = ![0, min 1536 ((grid0.coords t 1).val * 256 - 128), 0] := by decide +kernel

/-- Where the step's own positions begin. -/
theorem off2 : ∀ t : Fin cfg0.N, k0_off2 (grid0.coords t) = ![0, (grid0.coords t 1).val * 256, 0] := by decide +kernel

theorem lt0 (t : Fin cfg0.N) : (grid0.coords t 0).val < 16 := (grid0.coords t 0).isLt

theorem lt1 (t : Fin cfg0.N) : (grid0.coords t 1).val < 8 := (grid0.coords t 1).isLt

/-- The batch entry of a step. -/
def bat (t : Fin cfg0.N) : Fin 16 := ⟨(grid0.coords t 0).val, lt0 t⟩

/-- The position that row `r` of a step is. -/
def qry (t : Fin cfg0.N) (r : Fin 256) : Fin 2048 := ⟨(grid0.coords t 1).val * 256 + r.val, by have := lt1 t; omega⟩

/-- The first position that a step reads. -/
def start (t : Fin cfg0.N) : ℕ := min 1536 ((grid0.coords t 1).val * 256 - 128)

theorem start_le (t : Fin cfg0.N) : start t ≤ 1536 := Nat.min_le_left _ _

/-- The position that row `j` of a step's window is. -/
def key (t : Fin cfg0.N) (j : Fin 512) : Fin 2048 := ⟨start t + j.val, by have := start_le t; omega⟩

/-- The table of a step. -/
def tab (t : Fin cfg0.N) : Fin 3 := ⟨if (grid0.coords t 1).val = 0 then 0 else if (grid0.coords t 1).val = 7 then 2 else 1, by split_ifs <;> omega⟩

theorem tab_start (t : Fin cfg0.N) : 128 * (tab t).val + start t = (grid0.coords t 1).val * 256 := by
  have := lt1 t
  show 128 * (if (grid0.coords t 1).val = 0 then 0 else if (grid0.coords t 1).val = 7 then 2 else 1) + min 1536 ((grid0.coords t 1).val * 256 - 128) = _
  split_ifs <;> omega

theorem dist_rel (t : Fin cfg0.N) (r : Fin 256) (j : Fin 512) : dist (tab t) r j = rel (key t j) (qry t r) := by
  have h := tab_start t
  have := lt1 t
  have := (tab t).isLt
  refine BitVec.eq_of_toNat_eq ?_
  show ((BitVec.ofNat 32 j.val - BitVec.ofNat 32 (128 * (tab t).val)) - BitVec.ofNat 32 r.val).toNat
    = (BitVec.ofNat 32 (start t + j.val) - BitVec.ofNat 32 ((grid0.coords t 1).val * 256 + r.val)).toNat
  simp only [BitVec.toNat_sub, BitVec.toNat_ofNat]
  omega

theorem pos_eq (t : Fin cfg0.N) (r : Fin 256) : pos (grid0.coords t) r = BitVec.ofNat 32 (qry t r).val := by
  have := lt1 t
  refine BitVec.eq_of_toNat_eq ?_
  show (BitVec.ofNat 32 (grid0.coords t 1).val * 256#32 + BitVec.ofNat 32 r.val).toNat = (BitVec.ofNat 32 ((grid0.coords t 1).val * 256 + r.val)).toNat
  simp only [BitVec.toNat_add, BitVec.toNat_mul, BitVec.toNat_ofNat]
  omega

theorem key_inj (t : Fin cfg0.N) : Function.Injective (key t) := fun i j h => Fin.ext (by
  have e : start t + i.val = start t + j.val := congrArg Fin.val h
  omega)

theorem near_out : ∀ (g : Fin 4) (e : Fin 4096), near g (BitVec.ofNat 32 e.val - 2048#32) = 1#1 → 2040 ≤ e.val ∧ e.val ≤ 2056 := by decide +kernel

theorem near_rel (g : Fin 4) (j q : Fin 2048) (h : near g (rel j q) = 1#1) : j.val ≤ q.val + 8 ∧ q.val ≤ j.val + 8 := by
  have e : rel j q = BitVec.ofNat 32 (j.val + 2048 - q.val) - 2048#32 := by
    refine BitVec.eq_of_toNat_eq ?_
    show (BitVec.ofNat 32 j.val - BitVec.ofNat 32 q.val).toNat = _
    simp only [BitVec.toNat_sub, BitVec.toNat_ofNat]
    omega
  rw [e] at h
  have h' : 2040 ≤ j.val + 2048 - q.val ∧ j.val + 2048 - q.val ≤ 2056 := near_out g ⟨j.val + 2048 - q.val, by omega⟩ h
  omega

/-- A position that a step does not read is outside every window of it. -/
theorem far (t : Fin cfg0.N) (g : Fin 4) (r : Fin 256) (j : Fin 2048) (h : ∀ i, key t i ≠ j) : ¬ near g (rel j (qry t r)) = 1#1 := fun hn => by
  have hn' := near_rel g j (qry t r) hn
  have hq := lt1 t
  have hn1 : j.val ≤ (grid0.coords t 1).val * 256 + r.val + 8 := hn'.1
  have hn2 : (grid0.coords t 1).val * 256 + r.val ≤ j.val + 8 := hn'.2
  have hs : start t = min 1536 ((grid0.coords t 1).val * 256 - 128) := rfl
  exact h ⟨j.val - start t, by omega⟩ (Fin.ext (by show start t + (j.val - start t) = j.val; omega))

/-- Times one or zero is a choice. -/
theorem pick : ∀ (b : BitVec 1) (x : EReal), (FloatOps.uitofp (F := Ideal) .bf16 b : EReal) * x = Scalar.select b x 0 := fun b x => by
  have hb : b = 0#1 ∨ b = 1#1 := by
    revert b; decide
  rcases hb with rfl | rfl
  · have e : (FloatOps.uitofp (F := Ideal) .bf16 0#1 : EReal) = 0 := by
      show (((0#1).toNat : ℝ) : EReal) = 0
      simp
    rw [e, zero_mul]
    rfl
  · have e : (FloatOps.uitofp (F := Ideal) .bf16 1#1 : EReal) = 1 := by
      show (((1#1).toNat : ℝ) : EReal) = 1
      simp
    rw [e, one_mul]
    rfl

/-- The positions that a step reads. -/
def win (t : Fin cfg0.N) : Vec Ideal S1x512x512 .bf16 :=
  View.ld (iblk m c 0 t) (Rect.unit (s := S1x2048x512) (k0_off1 (grid0.coords t)) S1x512x512.size (k0_off1_inb (grid0.coords t)))

/-- The step's own positions. -/
def own (t : Fin cfg0.N) : Vec Ideal S1x256x512 .bf16 :=
  View.ld (iblk m c 0 t) (Rect.unit (s := S1x2048x512) (k0_off2 (grid0.coords t)) S1x256x512.size (k0_off2_inb (grid0.coords t)))

theorem blk0 (t : Fin cfg0.N) (j : Fin 512) (k : Fin 512) : win m c t (ValueIdx.ix3 0 j k) = (m ((c : Thread nD τ).loc main_arg0) (ValueIdx.ix3 (bat t) (key t j) k) : EReal) := by
  obtain ⟨hi, -, -, -, -⟩ := idx t
  have ho := off1 t
  refine congrArg (m ((c : Thread nD τ).loc main_arg0)) (funext fun a => Fin.ext ?_)
  match a with
  | ⟨0, _⟩ =>
    show win0_0.index t 0 * 1 + 1 * (k0_off1 (grid0.coords t) 0 + 1 * 0) = (grid0.coords t 0).val
    rw [hi, ho]; show (grid0.coords t 0).val * 1 + 1 * (0 + 1 * 0) = (grid0.coords t 0).val; omega
  | ⟨1, _⟩ =>
    show win0_0.index t 1 * 2048 + 1 * (k0_off1 (grid0.coords t) 1 + 1 * j.val) = start t + j.val
    rw [hi, ho]; show 0 * 2048 + 1 * (start t + 1 * j.val) = start t + j.val; omega
  | ⟨2, _⟩ =>
    show win0_0.index t 2 * 512 + 1 * (k0_off1 (grid0.coords t) 2 + 1 * k.val) = k.val
    rw [hi, ho]; show 0 * 512 + 1 * (0 + 1 * k.val) = k.val; omega

theorem blk0_own (t : Fin cfg0.N) (r : Fin 256) (k : Fin 512) : own m c t (ValueIdx.ix3 0 r k) = (m ((c : Thread nD τ).loc main_arg0) (ValueIdx.ix3 (bat t) (qry t r) k) : EReal) := by
  obtain ⟨hi, -, -, -, -⟩ := idx t
  have ho := off2 t
  refine congrArg (m ((c : Thread nD τ).loc main_arg0)) (funext fun a => Fin.ext ?_)
  match a with
  | ⟨0, _⟩ =>
    show win0_0.index t 0 * 1 + 1 * (k0_off2 (grid0.coords t) 0 + 1 * 0) = (grid0.coords t 0).val
    rw [hi, ho]; show (grid0.coords t 0).val * 1 + 1 * (0 + 1 * 0) = (grid0.coords t 0).val; omega
  | ⟨1, _⟩ =>
    show win0_0.index t 1 * 2048 + 1 * (k0_off2 (grid0.coords t) 1 + 1 * r.val) = (grid0.coords t 1).val * 256 + r.val
    rw [hi, ho]; show 0 * 2048 + 1 * ((grid0.coords t 1).val * 256 + 1 * r.val) = (grid0.coords t 1).val * 256 + r.val; omega
  | ⟨2, _⟩ =>
    show win0_0.index t 2 * 512 + 1 * (k0_off2 (grid0.coords t) 2 + 1 * k.val) = k.val
    rw [hi, ho]; show 0 * 512 + 1 * (0 + 1 * k.val) = k.val; omega

theorem inb_band (g : Fin 4) : ∀ a, (![0, g.val, 0, 0] : Fin 4 → ℕ) a + S1x1x256x512.size a ≤ S1x4x256x512.size a := by
  revert g; decide

theorem inb_w (g : Fin 4) : ∀ a, (![g.val, 0, 0] : Fin 3 → ℕ) a + S1x128x128.size a ≤ S4x128x128.size a := by
  revert g; decide

/-- A group's part of a step's table. -/
def band (t : Fin cfg0.N) (g : Fin 4) : Vec Ideal S1x1x256x512 .bf16 :=
  View.ld (iblk m c 1 t) (Rect.unit (s := S1x4x256x512) ![0, g.val, 0, 0] S1x1x256x512.size (inb_band g))

/-- A group's weights. -/
def wts (t : Fin cfg0.N) (g : Fin 4) : Vec Ideal S1x128x128 .bf16 :=
  View.ld (iblk m c 2 t) (Rect.unit (s := S4x128x128) ![g.val, 0, 0] S1x128x128.size (inb_w g))

theorem blk1 (t : Fin cfg0.N) (g : Fin 4) (r : Fin 256) (j : Fin 512) :
    band m c t g (ValueIdx.ix4 0 0 r j) = (FloatOps.uitofp (F := Ideal) .bf16 (near g (dist (tab t) r j)) : EReal) := by
  obtain ⟨-, hi, -, -, -⟩ := idx t
  refine Eq.trans (congrArg (V m c main_v19) (funext fun a => Fin.ext ?_)) (Vband m c (tab t) g r j)
  match a with
  | ⟨0, _⟩ =>
    show win0_1.index t 0 * 1 + 1 * (0 + 1 * 0) = (tab t).val
    rw [hi]; show (tab t).val * 1 + 1 * (0 + 1 * 0) = (tab t).val; omega
  | ⟨1, _⟩ =>
    show win0_1.index t 1 * 4 + 1 * (g.val + 1 * 0) = g.val
    rw [hi]; show 0 * 4 + 1 * (g.val + 1 * 0) = g.val; omega
  | ⟨2, _⟩ =>
    show win0_1.index t 2 * 256 + 1 * (0 + 1 * r.val) = r.val
    rw [hi]; show 0 * 256 + 1 * (0 + 1 * r.val) = r.val; omega
  | ⟨3, _⟩ =>
    show win0_1.index t 3 * 512 + 1 * (0 + 1 * j.val) = j.val
    rw [hi]; show 0 * 512 + 1 * (0 + 1 * j.val) = j.val; omega

theorem blk2 (t : Fin cfg0.N) (g : Fin 4) (k d : Fin 128) :
    wts m c t g (ValueIdx.ix3 0 k d) = (m ((c : Thread nD τ).loc main_arg1) (ValueIdx.ix3 g k d) : EReal) := by
  obtain ⟨-, -, hi, -, -⟩ := idx t
  refine Eq.trans (congrArg (V m c main_v20) (funext fun a => Fin.ext ?_)) (Vw m c g k d)
  match a with
  | ⟨0, _⟩ =>
    show win0_2.index t 0 * 4 + 1 * (g.val + 1 * 0) = g.val
    rw [hi]; show 0 * 4 + 1 * (g.val + 1 * 0) = g.val; omega
  | ⟨1, _⟩ =>
    show win0_2.index t 1 * 128 + 1 * (0 + 1 * k.val) = k.val
    rw [hi]; show 0 * 128 + 1 * (0 + 1 * k.val) = k.val; omega
  | ⟨2, _⟩ =>
    show win0_2.index t 2 * 128 + 1 * (0 + 1 * d.val) = d.val
    rw [hi]; show 0 * 128 + 1 * (0 + 1 * d.val) = d.val; omega

theorem blk3 (t : Fin cfg0.N) (n : Fin 512) : iblk m c 3 t (ValueIdx.ix2 0 n) = (m ((c : Thread nD τ).loc main_arg2) (ValueIdx.ix1 n) : EReal) := by
  obtain ⟨-, -, -, hi, -⟩ := idx t
  refine Eq.trans (congrArg (V m c main_v21) (funext fun a => Fin.ext ?_)) (Vscale m c n)
  match a with
  | ⟨0, _⟩ =>
    show win0_3.index t 0 * 1 + 1 * 0 = 0
    rw [hi]; show 0 * 1 + 1 * 0 = 0; omega
  | ⟨1, _⟩ =>
    show win0_3.index t 1 * 512 + 1 * n.val = n.val
    rw [hi]; show 0 * 512 + 1 * n.val = n.val; omega

/-- A step's means are the reference's. -/
theorem mixed_eq (t : Fin cfg0.N) (g : Fin 4) (r : Fin 256) (k : Fin 128) :
    mixed (grid0.coords t) (win m c t) (own m c t) (band m c t) g r k = mean (m ((c : Thread nD τ).loc main_arg0)) (bat t) (qry t r) g k := by
  unfold mixed mean
  have e : (∑ j : Fin 512, @HMul.hMul EReal EReal EReal instHMul (band m c t g (ValueIdx.ix4 0 0 r j)) (win m c t (ValueIdx.ix3 0 j (lane g k))))
      = ∑ j : Fin 2048, (Scalar.select (near g (rel j (qry t r))) (m ((c : Thread nD τ).loc main_arg0) (ValueIdx.ix3 (bat t) j (lane g k)) : EReal) 0 : EReal) := by
    refine Eq.trans (Finset.sum_congr rfl fun j _ => ?_) (Cert.AttnVal.sum_window (key t) (key_inj t) _ fun j hj => ?_).symm
    · rw [blk1, blk0, dist_rel]
      exact pick _ _
    · exact if_neg (far t g r j hj)
  rw [e, pos_eq, blk0_own]

/-- What one grid point writes. -/
theorem point (t : Fin cfg0.N) (r : Fin 256) (g : Fin 4) (d : Fin 128) :
    stored (grid0.coords t) (win m c t) (own m c t) (band m c t) (wts m c t) (iblk m c 3 t) (ValueIdx.ix3 0 r (lane g d))
      = val_main_v48 (F := Ideal) (m ((c : Thread nD τ).loc main_arg0)) (m ((c : Thread nD τ).loc main_arg1)) (m ((c : Thread nD τ).loc main_arg2))
        (ValueIdx.ix3 (bat t) (qry t r) (lane g d)) := by
  refine (stored_apply _ _ _ _ _ _ g r d).trans ?_
  refine Eq.trans ?_ (ref _ _ _ (bat t) (qry t r) g d).symm
  rw [blk3]
  refine congrArg (fun x : EReal => x * _) (Finset.sum_congr rfl fun k _ => ?_)
  rw [mixed_eq, blk2]

/-- The array that the launch leaves. -/
theorem arr : (dats m 0 c).arrAt 4 cfg0.N
    = val_main_v48 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0 out0_A_4
  frame_out
  obtain ⟨a, r, n, rfl⟩ : ∃ (a : Fin 1) (r : Fin 256) (n : Fin 512), y = ValueIdx.ix3 a r n := ⟨_, _, _, ValueIdx.eq_ix3 y⟩
  obtain rfl : a = 0 := Subsingleton.elim _ _
  obtain ⟨g, d, rfl⟩ : ∃ (g : Fin 4) (d : Fin 128), n = lane g d :=
    ⟨⟨n.val / 128, by omega⟩, ⟨n.val % 128, by omega⟩, Fin.ext (by show n.val = 128 * (n.val / 128) + n.val % 128; omega)⟩
  refine (point m c t r g d).trans (congrArg (val_main_v48 (F := Ideal) _ _ _) (funext fun a => Fin.ext ?_))
  obtain ⟨-, -, -, -, hi⟩ := idx t
  match a with
  | ⟨0, _⟩ =>
    show (grid0.coords t 0).val = win0_4.index t 0 * 1 + 1 * 0
    rw [hi]; show _ = (grid0.coords t 0).val * 1 + 1 * 0; omega
  | ⟨1, _⟩ =>
    show (grid0.coords t 1).val * 256 + r.val = win0_4.index t 1 * 256 + 1 * r.val
    rw [hi]; show _ = (grid0.coords t 1).val * 256 + 1 * r.val; omega
  | ⟨2, _⟩ =>
    show (lane g d).val = win0_4.index t 2 * 512 + 1 * (lane g d).val
    rw [hi]; show _ = 0 * 512 + 1 * (lane g d).val; omega

end Cert.PoolVal

end
-- ==== Proof.Pool.Claim.lean ====
/- The value claim, from the array that the launch leaves and the reference's expression. -/
module

public import proofs.«01_k».proof.Defs
public import proofs.«01_k».proof.Proof.Gen.PoolRefIdeal.Run
public import proofs.«01_k».proof.Proof.Gen.PoolRefIdeal.Read
public import proofs.«01_k».proof.Proof.Pool.Value
public import proofs.«01_k».proof.Proof.Gen.PoolIdeal.Value

@[expose] public section

noncomputable section

namespace Cert.PoolVal

open Idealize.ShloMosaic Idealize.ShloMosaic.TcCoe Idealize.SL.Sem

theorem algebraic : Cert.algebraic_PoolIdeal_PoolRefIdeal := fun m g m' g' _ hargs =>
  ⟨fun c => Cert.PoolRefIdeal.Read.val_main_v48 (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1))
      (m ((c.tc : Thread Cert.PoolIdeal.nD Cert.PoolIdeal.τ).loc Cert.PoolIdeal.main_arg2)),
    (θ_run _ _ _).mono (fun r h c => by
      obtain ⟨h0, k⟩ := h c
      exact ⟨h0.trans (arr m c), k⟩) (Cert.PoolIdeal.Value.run_blocks m g),
    (θ_run _ _ _).mono (fun r h c => by
      obtain ⟨a0, a1, a2⟩ := hargs c
      obtain ⟨h0, k⟩ := h c
      refine ⟨?_, k⟩
      · refine h0.trans ?_
        simp only [← a0, ← a1, ← a2]
        exact Cert.PoolRefIdeal.Read.val_main_v48_eq _ _ _) (Cert.PoolRefIdeal.Value.run m' g')⟩

end Cert.PoolVal
end
-- ==== Proof.Attn.Table.lean ====
/- The bucket and the window of a distance between a key and its query: as the reference computes them and as the kernel
   reads them from its table, and where the two agree. -/
module

public import proofs.«01_k».proof.AttnIdeal
public import Idealize.ShloMosaic.PureOps
public import Idealize.ShloMosaic.Lib.ValueIdx

@[expose] public section

set_option maxRecDepth 65536

noncomputable section

namespace Cert.AttnVal

open Cert.AttnIdeal Idealize.ShloMosaic

/-- Whether a key at this distance is in the window. -/
def near (x : BitVec 32) : BitVec 1 := IntOp.cmpi .sle (IntOp.absi x) 128#32

/-- A negative index counts from the end of `n`. -/
def wrap (n b : BitVec 32) : BitVec 32 := Scalar.select (IntOp.cmpi .slt b 0#32) (IntOp.addi b n) b

/-- One more where the distance's square is at least `n`. -/
def step (x n : BitVec 32) : BitVec 32 := (IntOp.cmpi .sge (IntOp.muli (IntOp.absi x) (IntOp.absi x)) n).setWidth 32

/-- The bucket as the reference computes it. -/
def bucket (x : BitVec 32) : BitVec 32 :=
  wrap 32#32 (IntOp.addi (Scalar.select (IntOp.cmpi .sgt x 0#32) 16#32 0#32)
    (Scalar.select (IntOp.cmpi .slt (IntOp.absi x) 8#32) (IntOp.absi x)
      (IntOp.addi (IntOp.addi (IntOp.addi (IntOp.addi (IntOp.addi (IntOp.addi (IntOp.addi 8#32 (step x 128#32)) (step x 256#32)) (step x 512#32))
        (step x 1024#32)) (step x 2048#32)) (step x 4096#32)) (step x 8192#32))))

/-- The bucket as the kernel reads it. -/
def entry (x : BitVec 32) : BitVec 32 :=
  wrap 32#32 (lit0 ⟨min (wrap 767#32 (IntOp.addi x 383#32)).toInt.toNat 766, by omega⟩)

/-- Inside the window the table holds the bucket. -/
theorem entry_near : ∀ e : Fin 257, entry (BitVec.ofNat 32 e.val - 128#32) = bucket (BitVec.ofNat 32 e.val - 128#32) := by decide +kernel

theorem near_iff : ∀ e : Fin 4096, near (BitVec.ofNat 32 e.val - 2048#32) = (if 1920 ≤ e.val ∧ e.val ≤ 2176 then 1#1 else 0#1) := by decide +kernel

/-- The distance of key `j` from query `q`. -/
def rel (j q : Fin 2048) : BitVec 32 := IntOp.subi (BitVec.ofNat 32 j.val) (BitVec.ofNat 32 q.val)

theorem rel_eq (j q : Fin 2048) : rel j q = BitVec.ofNat 32 (j.val + 2048 - q.val) - 2048#32 := by
  refine BitVec.eq_of_toNat_eq ?_
  show (BitVec.ofNat 32 j.val - BitVec.ofNat 32 q.val).toNat = _
  simp only [BitVec.toNat_sub, BitVec.toNat_ofNat]
  omega

theorem near_rel (j q : Fin 2048) : near (rel j q) = (if j.val ≤ q.val + 128 ∧ q.val ≤ j.val + 128 then 1#1 else 0#1) := by
  rw [rel_eq]
  refine (near_iff ⟨j.val + 2048 - q.val, by omega⟩).trans ?_
  show (if 1920 ≤ j.val + 2048 - q.val ∧ j.val + 2048 - q.val ≤ 2176 then 1#1 else 0#1) = _
  by_cases h : j.val ≤ q.val + 128 ∧ q.val ≤ j.val + 128
  · rw [if_pos h, if_pos (by omega)]
  · rw [if_neg h, if_neg (by omega)]

theorem entry_rel (j q : Fin 2048) (h : j.val ≤ q.val + 128 ∧ q.val ≤ j.val + 128) : entry (rel j q) = bucket (rel j q) := by
  have e : rel j q = BitVec.ofNat 32 (j.val + 128 - q.val) - 128#32 := by
    refine BitVec.eq_of_toNat_eq ?_
    show (BitVec.ofNat 32 j.val - BitVec.ofNat 32 q.val).toNat = _
    simp only [BitVec.toNat_sub, BitVec.toNat_ofNat]
    omega
  rw [e]
  exact entry_near ⟨j.val + 128 - q.val, by omega⟩

/-- The row of the bias table that a bucket names. -/
def brow (b : BitVec 32) : Fin 32 := ⟨min b.toInt.toNat 31, by omega⟩

end Cert.AttnVal

end
-- ==== Proof.Attn.Rows.lean ====
/- Rows of a table taken by an array of row numbers, read at an entry. -/
module

public import Idealize.ShloMosaic.PureOps
public import Idealize.ShloMosaic.Lib.ValueIdx
public import Idealize.ShloMosaic.Lib.ValueIdxCore

@[expose] public section

noncomputable section

namespace Cert.AttnVal

open Idealize.ShloMosaic

/-- The gather that takes rows of an `N` by `H` table by an `R` by `C` array of row numbers. -/
abbrev rowsDims (N H R C : ℕ)
    (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

theorem rows_apply {α : Type} {N H R C w : ℕ} (hN : 0 < N)
    (wf : GatherDims.WF ⟨2, ![N, H]⟩ ⟨3, ![R, C, 1]⟩ ⟨3, ![R, C, H]⟩ [2] [0] [] [0] [] 2 ![1, H])
    (x : (⟨2, ![N, H]⟩ : Shape).Idx → α) (idx : IVec ⟨3, ![R, C, 1]⟩ w) (r : Fin R) (c : Fin C) (h : Fin H) :
    Host.gather (rowsDims N H R C wf) x idx (ValueIdx.ix3 r c h)
      = x (ValueIdx.ix2 ⟨min (idx (ValueIdx.ix3 r c 0)).toInt.toNat (N - 1), by omega⟩ h) := by
  unfold Host.gather
  congr 1
  funext a
  refine Fin.ext ?_
  show (rowsDims N H R C wf).start (ValueIdx.ix3 r c h) idx a + (rowsDims N H R C wf).batchCoord (ValueIdx.ix3 r c h) a
      + (rowsDims N H R C wf).offCoord (ValueIdx.ix3 r c h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N H R C wf).startIndexMap from List.mem_singleton.mpr rfl)]
    have hsi : (rowsDims N H R C wf).siIdx (ValueIdx.ix3 r c h) ⟨List.idxOf (0 : Fin 2) (rowsDims N H R C wf).startIndexMap,
        List.idxOf_lt_length_iff.2 (List.mem_singleton.mpr rfl)⟩ = ValueIdx.ix3 r c 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    unfold GatherDims.start
    rw [dif_neg (show (1 : Fin 2) ∉ (rowsDims N H R C wf).startIndexMap from fun h => by simp at h)]
    unfold GatherDims.offCoord
    rw [dif_pos ((GatherDims.mem_sKept _ _).mpr ⟨fun h => by simp at h, fun h => by simp at h⟩)]
    simp only [Nat.zero_add]
    rfl

end Cert.AttnVal

end
-- ==== Proof.Attn.Point.lean ====
/- One head of one grid step at one entry. -/
module

public import proofs.«01_k».proof.Proof.Gen.AttnIdeal.Skeleton
public import proofs.«01_k».proof.Proof.Attn.Soft
public import Idealize.ShloMosaic.Lib.Pipeline.ValueKit
public import Idealize.ShloMosaic.Lib.ValueIdxCore

@[expose] public section

set_option maxRecDepth 16384

noncomputable section

namespace Cert.AttnVal

open Cert.AttnIdeal Cert.AttnIdeal.Gen Idealize.ShloMosaic Idealize.ShloMosaic.TcCoe Idealize.SL.Sem Cert.FiniteVal

theorem neg_inf : Ideal.ofBits .f32 0xFF800000#32 = ⊥ := by simp [Ideal.ofBits, Ideal.ieee]

/-- One head's scores, softmax and values. -/
theorem core (q : FVec Ideal S128x64 .bf16) (k v : FVec Ideal S384x64 .bf16) (b : Vec Ideal S1x1x128x384 .f32) (s : Vec Ideal S1x1 .f32)
    (r : Fin 128) (d : Fin 64) :
    k0_pay15 q k v b s (ValueIdx.ix2 r d)
      = whole (fun j : Fin 384 => (∑ t : Fin 64, q (ValueIdx.ix2 r t) * k (ValueIdx.ix2 j t) : EReal) * Ideal.ofBits .f32 0x3E000000#32
          + b (ValueIdx.ix4 0 0 r j))
        (fun j => v (ValueIdx.ix2 j d)) (s (ValueIdx.ix2 0 0)) := by
  unfold k0_pay15
  pointwise
  rfl

/-- The column of the whole row that column `d` of head `h` is. -/
def lane (h : Fin 8) (d : Fin 64) : Fin 512 := ⟨64 * h.val + d.val, by omega⟩

theorem heads (a : Fin 8 → FVec Ideal S128x64 .f32) (r : Fin 128) (h : Fin 8) (d : Fin 64) :
    (concatenate S128x512 1 [⟨S128x64, a 0⟩, ⟨S128x64, a 1⟩, ⟨S128x64, a 2⟩, ⟨S128x64, a 3⟩, ⟨S128x64, a 4⟩, ⟨S128x64, a 5⟩, ⟨S128x64, a 6⟩, ⟨S128x64, a 7⟩] concatenates_S128x64_S128x64_S128x64_S128x64_S128x64_S128x64_S128x64_S128x64_S128x512_d1
      : FVec Ideal S128x512 .f32) (ValueIdx.ix2 r (lane h d)) = a h (ValueIdx.ix2 r d) := by
  match h with
  | 0 =>
    pointwise
    refine (dif_pos (show 64 * 0 + d.val < 64 by omega)).trans ?_
    exact congrArg (a 0) (funext fun b => Fin.ext (by
      match b with
      | ⟨0, _⟩ => rfl
      | ⟨1, _⟩ => show 64 * 0 + d.val = d.val; omega))
  | 1 =>
    pointwise
    refine (dif_neg (show ¬ (64 * 1 + d.val < 64) by omega)).trans ?_
    refine (dif_pos (show 64 * 1 + d.val - 64 < 64 by omega)).trans ?_
    exact congrArg (a 1) (funext fun b => Fin.ext (by
      match b with
      | ⟨0, _⟩ => rfl
      | ⟨1, _⟩ => show 64 * 1 + d.val - 64 = d.val; omega))
  | 2 =>
    pointwise
    refine (dif_neg (show ¬ (64 * 2 + d.val < 64) by omega)).trans ?_
    refine (dif_neg (show ¬ (64 * 2 + d.val - 64 < 64) by omega)).trans ?_
    refine (dif_pos (show 64 * 2 + d.val - 64 - 64 < 64 by omega)).trans ?_
    exact congrArg (a 2) (funext fun b => Fin.ext (by
      match b with
      | ⟨0, _⟩ => rfl
      | ⟨1, _⟩ => show 64 * 2 + d.val - 64 - 64 = d.val; omega))
  | 3 =>
    pointwise
    refine (dif_neg (show ¬ (64 * 3 + d.val < 64) by omega)).trans ?_
    refine (dif_neg (show ¬ (64 * 3 + d.val - 64 < 64) by omega)).trans ?_
    refine (dif_neg (show ¬ (64 * 3 + d.val - 64 - 64 < 64) by omega)).trans ?_
    refine (dif_pos (show 64 * 3 + d.val - 64 - 64 - 64 < 64 by omega)).trans ?_
    exact congrArg (a 3) (funext fun b => Fin.ext (by
      match b with
      | ⟨0, _⟩ => rfl
      | ⟨1, _⟩ => show 64 * 3 + d.val - 64 - 64 - 64 = d.val; omega))
  | 4 =>
    pointwise
    refine (dif_neg (show ¬ (64 * 4 + d.val < 64) by omega)).trans ?_
    refine (dif_neg (show ¬ (64 * 4 + d.val - 64 < 64) by omega)).trans ?_
    refine (dif_neg (show ¬ (64 * 4 + d.val - 64 - 64 < 64) by omega)).trans ?_
    refine (dif_neg (show ¬ (64 * 4 + d.val - 64 - 64 - 64 < 64) by omega)).trans ?_
    refine (dif_pos (show 64 * 4 + d.val - 64 - 64 - 64 - 64 < 64 by omega)).trans ?_
    exact congrArg (a 4) (funext fun b => Fin.ext (by
      match b with
      | ⟨0, _⟩ => rfl
      | ⟨1, _⟩ => show 64 * 4 + d.val - 64 - 64 - 64 - 64 = d.val; omega))
  | 5 =>
    pointwise
    refine (dif_neg (show ¬ (64 * 5 + d.val < 64) by omega)).trans ?_
    refine (dif_neg (show ¬ (64 * 5 + d.val - 64 < 64) by omega)).trans ?_
    refine (dif_neg (show ¬ (64 * 5 + d.val - 64 - 64 < 64) by omega)).trans ?_
    refine (dif_neg (show ¬ (64 * 5 + d.val - 64 - 64 - 64 < 64) by omega)).trans ?_
    refine (dif_neg (show ¬ (64 * 5 + d.val - 64 - 64 - 64 - 64 < 64) by omega)).trans ?_
    refine (dif_pos (show 64 * 5 + d.val - 64 - 64 - 64 - 64 - 64 < 64 by omega)).trans ?_
    exact congrArg (a 5) (funext fun b => Fin.ext (by
      match b with
      | ⟨0, _⟩ => rfl
      | ⟨1, _⟩ => show 64 * 5 + d.val - 64 - 64 - 64 - 64 - 64 = d.val; omega))
  | 6 =>
    pointwise
    refine (dif_neg (show ¬ (64 * 6 + d.val < 64) by omega)).trans ?_
    refine (dif_neg (show ¬ (64 * 6 + d.val - 64 < 64) by omega)).trans ?_
    refine (dif_neg (show ¬ (64 * 6 + d.val - 64 - 64 < 64) by omega)).trans ?_
    refine (dif_neg (show ¬ (64 * 6 + d.val - 64 - 64 - 64 < 64) by omega)).trans ?_
    refine (dif_neg (show ¬ (64 * 6 + d.val - 64 - 64 - 64 - 64 < 64) by omega)).trans ?_
    refine (dif_neg (show ¬ (64 * 6 + d.val - 64 - 64 - 64 - 64 - 64 < 64) by omega)).trans ?_
    refine (dif_pos (show 64 * 6 + d.val - 64 - 64 - 64 - 64 - 64 - 64 < 64 by omega)).trans ?_
    exact congrArg (a 6) (funext fun b => Fin.ext (by
      match b with
      | ⟨0, _⟩ => rfl
      | ⟨1, _⟩ => show 64 * 6 + d.val - 64 - 64 - 64 - 64 - 64 - 64 = d.val; omega))
  | 7 =>
    pointwise
    refine (dif_neg (show ¬ (64 * 7 + d.val < 64) by omega)).trans ?_
    refine (dif_neg (show ¬ (64 * 7 + d.val - 64 < 64) by omega)).trans ?_
    refine (dif_neg (show ¬ (64 * 7 + d.val - 64 - 64 < 64) by omega)).trans ?_
    refine (dif_neg (show ¬ (64 * 7 + d.val - 64 - 64 - 64 < 64) by omega)).trans ?_
    refine (dif_neg (show ¬ (64 * 7 + d.val - 64 - 64 - 64 - 64 < 64) by omega)).trans ?_
    refine (dif_neg (show ¬ (64 * 7 + d.val - 64 - 64 - 64 - 64 - 64 < 64) by omega)).trans ?_
    refine (dif_neg (show ¬ (64 * 7 + d.val - 64 - 64 - 64 - 64 - 64 - 64 < 64) by omega)).trans ?_
    exact congrArg (a 7) (funext fun b => Fin.ext (by
      match b with
      | ⟨0, _⟩ => rfl
      | ⟨1, _⟩ => show 64 * 7 + d.val - 64 - 64 - 64 - 64 - 64 - 64 - 64 = d.val; omega))

end Cert.AttnVal
end
-- ==== Proof.Attn.Tables.lean ====
/- The kernel's table of biases at an entry: for each of three places of a key window about its queries, the bucket's bias
   inside the window and −∞ outside it. -/
module

public import proofs.«01_k».proof.Proof.Gen.AttnIdeal.Frame
public import proofs.«01_k».proof.Proof.Attn.Table
public import proofs.«01_k».proof.Proof.Attn.Rows
public import proofs.«01_k».proof.Proof.Attn.Point
public import Idealize.ShloMosaic.Lib.IdealHost

@[expose] public section

set_option maxRecDepth 16384

noncomputable section

namespace Cert.AttnVal

open Cert.AttnIdeal Cert.AttnIdeal.Gen Idealize.ShloMosaic Idealize.ShloMosaic.TcCoe Idealize.SL.Sem

/-- How far key `j` of a window that starts `s` before its queries is from query `r`. -/
def dist (s : BitVec 32) (r : Fin 128) (j : Fin 384) : BitVec 32 := IntOp.subi (IntOp.subi (BitVec.ofNat 32 j.val) s) (BitVec.ofNat 32 r.val)

theorem table_apply (idx : IVec S128x384x1 32) (r : Fin 128) (j : Fin 384) :
    Host.gather gather_S767_S128x384x1_S128x384_n_0_n_n_0_2_1 (fun i => lit0 (S767.rowMajor i)) idx (ValueIdx.ix2 r j)
      = lit0 ⟨min (idx (ValueIdx.ix3 r j 0)).toInt.toNat 766, by omega⟩ := by
  refine (ValueIdx.gather_take_apply (by decide) gather_S767_S128x384x1_S128x384_n_0_n_n_0_2_1_wf (fun i => lit0 (S767.rowMajor i)) idx (ValueIdx.ix2 r j)).trans ?_
  have hq : ∀ f : Fin 767, S767.rowMajor (ValueIdx.ix1 f) = f := fun f => Fin.ext (Shape.rowMajor_val_one _)
  have he : ValueIdx.takeIdx (ValueIdx.ix2 r j) = ValueIdx.ix3 r j 0 := funext fun a => Fin.ext (by
    match a with
    | ⟨0, _⟩ => rfl
    | ⟨1, _⟩ => rfl
    | ⟨2, _⟩ => rfl)
  exact (congrArg lit0 (hq _)).trans (congrArg lit0 (Fin.ext (congrArg (fun i => min (idx i).toInt.toNat 766) he)))

theorem rows_table (x : FVec Ideal S32x8 .f32) (idx : IVec S128x384x1 32) (r : Fin 128) (j : Fin 384) (h : Fin 8) :
    Host.gather gather_S32x8_S128x384x1_S128x384x8_2_0_n_n_0_2_18 x idx (ValueIdx.ix3 r j h) = x (ValueIdx.ix2 (brow (idx (ValueIdx.ix3 r j 0))) h) :=
  rows_apply (N := 32) (H := 8) (R := 128) (C := 384) (by decide) gather_S32x8_S128x384x1_S128x384x8_2_0_n_n_0_2_18_wf x idx r j h

theorem bias0 (W : Valuation τ sig (Elt Ideal))
    (h : Fin 8) (r : Fin 128) (j : Fin 384) :
    StableHlo.after (hostOps0 (F := Ideal)) W (Proc.tc.devRef main_v25) (ValueIdx.ix3 h r j)
      = (W (Proc.tc.devRef main_arg2) (ValueIdx.ix2 (brow (entry (dist 0#32 r j))) h) : EReal) := by
  entry_read
  pointwise
  refine (rows_table _ _ r j h).trans ?_
  refine congrArg (fun z : BitVec 32 => (W (Proc.tc.devRef main_arg2) (ValueIdx.ix2 (brow z) h) : EReal)) ?_
  pointwise
  refine (congrArg (wrap 32#32) (table_apply _ r j)).trans ?_
  unfold entry
  refine congrArg (fun z : BitVec 32 => wrap 32#32 (lit0 ⟨min z.toInt.toNat 766, by omega⟩)) ?_
  pointwise
  rfl

theorem near0 (W : Valuation τ sig (Elt Ideal))
    (r : Fin 128) (j : Fin 384) : StableHlo.after (hostOps0 (F := Ideal)) W (Proc.tc.devRef main_v29) (ValueIdx.ix3 0 r j) = near (dist 0#32 r j) := by
  entry_read
  pointwise
  rfl

theorem cst0 (W : Valuation τ sig (Elt Ideal)) :
    StableHlo.after (hostOps0 (F := Ideal)) W (Proc.tc.devRef main_cst) (ValueIdx.ix0 : S_.Idx) = (⊥ : EReal) := by
  entry_read
  exact neg_inf

theorem masked0 (W : Valuation τ sig (Elt Ideal)) (h : Fin 8) (r : Fin 128) (j : Fin 384) :
    StableHlo.after (hostOps0_1 (F := Ideal)) W (Proc.tc.devRef main_v30) (ValueIdx.ix3 h r j)
      = Scalar.select (W (Proc.tc.devRef main_v29) (ValueIdx.ix3 0 r j)) (W (Proc.tc.devRef main_v25) (ValueIdx.ix3 h r j) : EReal)
        (W (Proc.tc.devRef main_cst) (ValueIdx.ix0 : S_.Idx)) := by
  entry_read
  simp only [StableHlo.TRef.ofBuf_toBuf]
  show select (α := EReal) (broadcastInDim S8x128x384 ![0, 1, 2] bcast_S1x128x384_S8x128x384_0_1_2 (W (Proc.tc.devRef main_v29)))
    (W (Proc.tc.devRef main_v25)) (broadcastInDim S8x128x384 ![] bcast_S_S8x128x384 (W (Proc.tc.devRef main_cst))) (ValueIdx.ix3 h r j) = _
  pointwise
  rfl

theorem bias1 (W : Valuation τ sig (Elt Ideal))
    (h1 : ∀ r : Fin 128, (W (Proc.tc.devRef main_v1) (ValueIdx.ix2 r 0) : BitVec 32) = BitVec.ofNat 32 r.val)
    (h3 : ∀ j : Fin 384, (W (Proc.tc.devRef main_v3) (ValueIdx.ix2 0 j) : BitVec 32) = BitVec.ofNat 32 j.val)
    (hc : W (Proc.tc.devRef main_c) = fun i => lit0 (S767.rowMajor i))
    (h : Fin 8) (r : Fin 128) (j : Fin 384) :
    StableHlo.after (hostOps0_2 (F := Ideal)) W (Proc.tc.devRef main_v52) (ValueIdx.ix3 h r j)
      = (W (Proc.tc.devRef main_arg2) (ValueIdx.ix2 (brow (entry (dist 128#32 r j))) h) : EReal) := by
  entry_read
  rw [hc]
  pointwise
  refine (rows_table _ _ r j h).trans ?_
  refine congrArg (fun z : BitVec 32 => (W (Proc.tc.devRef main_arg2) (ValueIdx.ix2 (brow z) h) : EReal)) ?_
  pointwise
  refine (congrArg (wrap 32#32) (table_apply _ r j)).trans ?_
  unfold entry
  refine congrArg (fun z : BitVec 32 => wrap 32#32 (lit0 ⟨min z.toInt.toNat 766, by omega⟩)) ?_
  pointwise
  refine congrArg₂ (fun x y : BitVec 32 => wrap 767#32 (IntOp.addi (IntOp.subi (IntOp.subi y 128#32) x) 383#32)) (h1 r) (h3 j)

theorem near1 (W : Valuation τ sig (Elt Ideal))
    (h1 : ∀ r : Fin 128, (W (Proc.tc.devRef main_v1) (ValueIdx.ix2 r 0) : BitVec 32) = BitVec.ofNat 32 r.val)
    (h3 : ∀ j : Fin 384, (W (Proc.tc.devRef main_v3) (ValueIdx.ix2 0 j) : BitVec 32) = BitVec.ofNat 32 j.val)
    (r : Fin 128) (j : Fin 384) : StableHlo.after (hostOps0_2 (F := Ideal)) W (Proc.tc.devRef main_v56) (ValueIdx.ix3 0 r j) = near (dist 128#32 r j) := by
  entry_read
  pointwise
  refine congrArg₂ (fun x y : BitVec 32 => near (IntOp.subi (IntOp.subi y 128#32) x)) (h1 r) (h3 j)

theorem cst1 (W : Valuation τ sig (Elt Ideal)) :
    StableHlo.after (hostOps0_2 (F := Ideal)) W (Proc.tc.devRef main_cst_14) (ValueIdx.ix0 : S_.Idx) = (⊥ : EReal) := by
  entry_read
  exact neg_inf

theorem masked1 (W : Valuation τ sig (Elt Ideal)) (h : Fin 8) (r : Fin 128) (j : Fin 384) :
    StableHlo.after (hostOps0_3 (F := Ideal)) W (Proc.tc.devRef main_v57) (ValueIdx.ix3 h r j)
      = Scalar.select (W (Proc.tc.devRef main_v56) (ValueIdx.ix3 0 r j)) (W (Proc.tc.devRef main_v52) (ValueIdx.ix3 h r j) : EReal)
        (W (Proc.tc.devRef main_cst_14) (ValueIdx.ix0 : S_.Idx)) := by
  entry_read
  simp only [StableHlo.TRef.ofBuf_toBuf]
  show select (α := EReal) (broadcastInDim S8x128x384 ![0, 1, 2] bcast_S1x128x384_S8x128x384_0_1_2 (W (Proc.tc.devRef main_v56)))
    (W (Proc.tc.devRef main_v52)) (broadcastInDim S8x128x384 ![] bcast_S_S8x128x384 (W (Proc.tc.devRef main_cst_14))) (ValueIdx.ix3 h r j) = _
  pointwise
  rfl

theorem bias2 (W : Valuation τ sig (Elt Ideal))
    (h1 : ∀ r : Fin 128, (W (Proc.tc.devRef main_v1) (ValueIdx.ix2 r 0) : BitVec 32) = BitVec.ofNat 32 r.val)
    (h3 : ∀ j : Fin 384, (W (Proc.tc.devRef main_v3) (ValueIdx.ix2 0 j) : BitVec 32) = BitVec.ofNat 32 j.val)
    (hc : W (Proc.tc.devRef main_c) = fun i => lit0 (S767.rowMajor i))
    (h : Fin 8) (r : Fin 128) (j : Fin 384) :
    StableHlo.after (hostOps0_4 (F := Ideal)) W (Proc.tc.devRef main_v79) (ValueIdx.ix3 h r j)
      = (W (Proc.tc.devRef main_arg2) (ValueIdx.ix2 (brow (entry (dist 256#32 r j))) h) : EReal) := by
  entry_read
  rw [hc]
  pointwise
  refine (rows_table _ _ r j h).trans ?_
  refine congrArg (fun z : BitVec 32 => (W (Proc.tc.devRef main_arg2) (ValueIdx.ix2 (brow z) h) : EReal)) ?_
  pointwise
  refine (congrArg (wrap 32#32) (table_apply _ r j)).trans ?_
  unfold entry
  refine congrArg (fun z : BitVec 32 => wrap 32#32 (lit0 ⟨min z.toInt.toNat 766, by omega⟩)) ?_
  pointwise
  refine congrArg₂ (fun x y : BitVec 32 => wrap 767#32 (IntOp.addi (IntOp.subi (IntOp.subi y 256#32) x) 383#32)) (h1 r) (h3 j)

theorem near2 (W : Valuation τ sig (Elt Ideal))
    (h1 : ∀ r : Fin 128, (W (Proc.tc.devRef main_v1) (ValueIdx.ix2 r 0) : BitVec 32) = BitVec.ofNat 32 r.val)
    (h3 : ∀ j : Fin 384, (W (Proc.tc.devRef main_v3) (ValueIdx.ix2 0 j) : BitVec 32) = BitVec.ofNat 32 j.val)
    (r : Fin 128) (j : Fin 384) : StableHlo.after (hostOps0_4 (F := Ideal)) W (Proc.tc.devRef main_v83) (ValueIdx.ix3 0 r j) = near (dist 256#32 r j) := by
  entry_read
  pointwise
  refine congrArg₂ (fun x y : BitVec 32 => near (IntOp.subi (IntOp.subi y 256#32) x)) (h1 r) (h3 j)

theorem cst2 (W : Valuation τ sig (Elt Ideal)) :
    StableHlo.after (hostOps0_4 (F := Ideal)) W (Proc.tc.devRef main_cst_22) (ValueIdx.ix0 : S_.Idx) = (⊥ : EReal) := by
  entry_read
  exact neg_inf

theorem masked2 (W : Valuation τ sig (Elt Ideal)) (h : Fin 8) (r : Fin 128) (j : Fin 384) :
    StableHlo.after (hostOps0_5 (F := Ideal)) W (Proc.tc.devRef main_v84) (ValueIdx.ix3 h r j)
      = Scalar.select (W (Proc.tc.devRef main_v83) (ValueIdx.ix3 0 r j)) (W (Proc.tc.devRef main_v79) (ValueIdx.ix3 h r j) : EReal)
        (W (Proc.tc.devRef main_cst_22) (ValueIdx.ix0 : S_.Idx)) := by
  entry_read
  simp only [StableHlo.TRef.ofBuf_toBuf]
  show select (α := EReal) (broadcastInDim S8x128x384 ![0, 1, 2] bcast_S1x128x384_S8x128x384_0_1_2 (W (Proc.tc.devRef main_v83)))
    (W (Proc.tc.devRef main_v79)) (broadcastInDim S8x128x384 ![] bcast_S_S8x128x384 (W (Proc.tc.devRef main_cst_22))) (ValueIdx.ix3 h r j) = _
  pointwise
  rfl

theorem first1 (W : Valuation τ sig (Elt Ideal)) (r : Fin 128) : StableHlo.after (hostOps0 (F := Ideal)) W (Proc.tc.devRef main_v1) (ValueIdx.ix2 r 0) = BitVec.ofNat 32 r.val := by
  entry_read
  pointwise

theorem first3 (W : Valuation τ sig (Elt Ideal)) (j : Fin 384) : StableHlo.after (hostOps0 (F := Ideal)) W (Proc.tc.devRef main_v3) (ValueIdx.ix2 0 j) = BitVec.ofNat 32 j.val := by
  entry_read
  pointwise

theorem firstc (W : Valuation τ sig (Elt Ideal)) : StableHlo.after (hostOps0 (F := Ideal)) W (Proc.tc.devRef main_c) = fun i => lit0 (S767.rowMajor i) := by
  entry_read
  rfl

theorem keep_arg2 (W : Valuation τ sig (Elt Ideal)) : StableHlo.after (hostOps0 (F := Ideal)) W (Proc.tc.devRef main_arg2) = W (Proc.tc.devRef main_arg2) := by
  entry_read
  rfl

theorem keep_1_v1 (W : Valuation τ sig (Elt Ideal)) : StableHlo.after (hostOps0_1 (F := Ideal)) W (Proc.tc.devRef main_v1) = W (Proc.tc.devRef main_v1) := by
  entry_read
  rfl

theorem keep_1_v3 (W : Valuation τ sig (Elt Ideal)) : StableHlo.after (hostOps0_1 (F := Ideal)) W (Proc.tc.devRef main_v3) = W (Proc.tc.devRef main_v3) := by
  entry_read
  rfl

theorem keep_1_c (W : Valuation τ sig (Elt Ideal)) : StableHlo.after (hostOps0_1 (F := Ideal)) W (Proc.tc.devRef main_c) = W (Proc.tc.devRef main_c) := by
  entry_read
  rfl

theorem keep_1_arg2 (W : Valuation τ sig (Elt Ideal)) : StableHlo.after (hostOps0_1 (F := Ideal)) W (Proc.tc.devRef main_arg2) = W (Proc.tc.devRef main_arg2) := by
  entry_read
  rfl

theorem keep_2_v1 (W : Valuation τ sig (Elt Ideal)) : StableHlo.after (hostOps0_2 (F := Ideal)) W (Proc.tc.devRef main_v1) = W (Proc.tc.devRef main_v1) := by
  entry_read
  rfl

theorem keep_2_v3 (W : Valuation τ sig (Elt Ideal)) : StableHlo.after (hostOps0_2 (F := Ideal)) W (Proc.tc.devRef main_v3) = W (Proc.tc.devRef main_v3) := by
  entry_read
  rfl

theorem keep_2_c (W : Valuation τ sig (Elt Ideal)) : StableHlo.after (hostOps0_2 (F := Ideal)) W (Proc.tc.devRef main_c) = W (Proc.tc.devRef main_c) := by
  entry_read
  rfl

theorem keep_2_arg2 (W : Valuation τ sig (Elt Ideal)) : StableHlo.after (hostOps0_2 (F := Ideal)) W (Proc.tc.devRef main_arg2) = W (Proc.tc.devRef main_arg2) := by
  entry_read
  rfl

theorem keep_3_v1 (W : Valuation τ sig (Elt Ideal)) : StableHlo.after (hostOps0_3 (F := Ideal)) W (Proc.tc.devRef main_v1) = W (Proc.tc.devRef main_v1) := by
  entry_read
  rfl

theorem keep_3_v3 (W : Valuation τ sig (Elt Ideal)) : StableHlo.after (hostOps0_3 (F := Ideal)) W (Proc.tc.devRef main_v3) = W (Proc.tc.devRef main_v3) := by
  entry_read
  rfl

theorem keep_3_c (W : Valuation τ sig (Elt Ideal)) : StableHlo.after (hostOps0_3 (F := Ideal)) W (Proc.tc.devRef main_c) = W (Proc.tc.devRef main_c) := by
  entry_read
  rfl

theorem keep_3_arg2 (W : Valuation τ sig (Elt Ideal)) : StableHlo.after (hostOps0_3 (F := Ideal)) W (Proc.tc.devRef main_arg2) = W (Proc.tc.devRef main_arg2) := by
  entry_read
  rfl

theorem keep_2_v30 (W : Valuation τ sig (Elt Ideal)) : StableHlo.after (hostOps0_2 (F := Ideal)) W (Proc.tc.devRef main_v30) = W (Proc.tc.devRef main_v30) := by
  entry_read
  rfl

theorem keep_3_v30 (W : Valuation τ sig (Elt Ideal)) : StableHlo.after (hostOps0_3 (F := Ideal)) W (Proc.tc.devRef main_v30) = W (Proc.tc.devRef main_v30) := by
  entry_read
  rfl

theorem keep_4_v30 (W : Valuation τ sig (Elt Ideal)) : StableHlo.after (hostOps0_4 (F := Ideal)) W (Proc.tc.devRef main_v30) = W (Proc.tc.devRef main_v30) := by
  entry_read
  rfl

theorem keep_5_v30 (W : Valuation τ sig (Elt Ideal)) : StableHlo.after (hostOps0_5 (F := Ideal)) W (Proc.tc.devRef main_v30) = W (Proc.tc.devRef main_v30) := by
  entry_read
  rfl

theorem keep_4_v57 (W : Valuation τ sig (Elt Ideal)) : StableHlo.after (hostOps0_4 (F := Ideal)) W (Proc.tc.devRef main_v57) = W (Proc.tc.devRef main_v57) := by
  entry_read
  rfl

theorem keep_5_v57 (W : Valuation τ sig (Elt Ideal)) : StableHlo.after (hostOps0_5 (F := Ideal)) W (Proc.tc.devRef main_v57) = W (Proc.tc.devRef main_v57) := by
  entry_read
  rfl

/-- The three tables side by side. -/
theorem joined (W : Valuation τ sig (Elt Ideal)) : StableHlo.after (hostOps0_6 (F := Ideal)) W (Proc.tc.devRef main_v88)
    = concatenate S3x8x128x384 0 [⟨S1x8x128x384, (broadcastInDim S1x8x128x384 ![1, 2, 3] bcast_S8x128x384_S1x8x128x384_1_2_3 (W (Proc.tc.devRef main_v30)) : FVec Ideal S1x8x128x384 .f32)⟩,
        ⟨S1x8x128x384, (broadcastInDim S1x8x128x384 ![1, 2, 3] bcast_S8x128x384_S1x8x128x384_1_2_3 (W (Proc.tc.devRef main_v57)) : FVec Ideal S1x8x128x384 .f32)⟩,
        ⟨S1x8x128x384, (broadcastInDim S1x8x128x384 ![1, 2, 3] bcast_S8x128x384_S1x8x128x384_1_2_3 (W (Proc.tc.devRef main_v84)) : FVec Ideal S1x8x128x384 .f32)⟩]
      concatenates_S1x8x128x384_S1x8x128x384_S1x8x128x384_S3x8x128x384_d0 := by
  simp only [hostOps0_6, StableHlo.after_cons, StableHlo.after_nil]
  rw [StableHlo.reshape_result_ne, StableHlo.nary_result]
  · generalize hG : HloOp.result _ _ = G
    have e85 : G (Proc.tc.devRef main_v85) = broadcastInDim S1x8x128x384 ![1, 2, 3] bcast_S8x128x384_S1x8x128x384_1_2_3 (W (Proc.tc.devRef main_v30)) := by
      subst hG
      after_results_simp
    have e86 : G (Proc.tc.devRef main_v86) = broadcastInDim S1x8x128x384 ![1, 2, 3] bcast_S8x128x384_S1x8x128x384_1_2_3 (W (Proc.tc.devRef main_v57)) := by
      subst hG
      after_results_simp
    have e87 : G (Proc.tc.devRef main_v87) = broadcastInDim S1x8x128x384 ![1, 2, 3] bcast_S8x128x384_S1x8x128x384_1_2_3 (W (Proc.tc.devRef main_v84)) := by
      subst hG
      after_results_simp
    rw [← e85, ← e86, ← e87]
    rfl
  · decide

/-- A biased, masked entry. -/
def biased (x2 : S32x8.Idx → EReal) (s : BitVec 32) (h : Fin 8) (r : Fin 128) (j : Fin 384) : EReal :=
  Scalar.select (near (dist s r j)) (x2 (ValueIdx.ix2 (brow (entry (dist s r j))) h)) ⊥

/-- How many keys come before the queries in each table. -/
def shift (a : Fin 3) : BitVec 32 := BitVec.ofNat 32 (128 * a.val)

variable (m : (ℓ : Loc nD τ sig) → Buf (Elt Ideal) ℓ) (c : Dev nD)

theorem Vbias (a : Fin 3) (h : Fin 8) (r : Fin 128) (j : Fin 384) :
    V m c main_v88 (ValueIdx.ix4 a h r j) = biased (m ((c : Thread nD τ).loc main_arg2)) (shift a) h r j := by
  unfold V
  simp only [List.flatten_cons, List.flatten_nil, List.append_nil, StableHlo.after_append]
  rw [joined]
  match a with
  | 0 =>
    pointwise
    rw [keep_5_v30, keep_4_v30, keep_3_v30, keep_2_v30]
    refine (masked0 _ h r j).trans ?_
    rw [near0, bias0, cst0]
    rfl
  | 1 =>
    pointwise
    rw [keep_5_v57, keep_4_v57]
    refine (masked1 _ h r j).trans ?_
    rw [near1, bias1, cst1]
    · rw [keep_1_arg2, keep_arg2]
      rfl
    · intro r; rw [keep_1_v1, first1]
    · intro j; rw [keep_1_v3, first3]
    · rw [keep_1_c, firstc]
    · intro r; rw [keep_1_v1, first1]
    · intro j; rw [keep_1_v3, first3]
  | 2 =>
    pointwise
    refine (masked2 _ h r j).trans ?_
    rw [near2, bias2, cst2]
    · rw [keep_3_arg2, keep_2_arg2, keep_1_arg2, keep_arg2]
      rfl
    · intro r; rw [keep_3_v1, keep_2_v1, keep_1_v1, first1]
    · intro j; rw [keep_3_v3, keep_2_v3, keep_1_v3, first3]
    · rw [keep_3_c, keep_2_c, keep_1_c, firstc]
    · intro r; rw [keep_3_v1, keep_2_v1, keep_1_v1, first1]
    · intro j; rw [keep_3_v3, keep_2_v3, keep_1_v3, first3]

theorem Vsink (h : Fin 8) : V m c main_v89 (ValueIdx.ix2 0 h) = (m ((c : Thread nD τ).loc main_arg3) (ValueIdx.ix1 h) : EReal) := by
  unfold V
  dsimp only [hostOps0, hostOps0_1, hostOps0_2, hostOps0_3, hostOps0_4, hostOps0_5, hostOps0_6, List.flatten_cons, List.flatten_nil, List.cons_append, List.nil_append, List.append_nil]
  entry_read
  pointwise
  rfl

end Cert.AttnVal

end
-- ==== Proof.Attn.Ref.lean ====
/- The reference's attention at one entry. -/
module

public import proofs.«01_k».proof.Proof.Gen.AttnRefIdeal.Read
public import proofs.«01_k».proof.Proof.Attn.Soft
public import proofs.«01_k».proof.Proof.Attn.Table
public import proofs.«01_k».proof.Proof.Attn.Rows
public import proofs.«01_k».proof.Proof.Attn.Point
public import Idealize.ShloMosaic.Lib.IdealHost

@[expose] public section

set_option maxRecDepth 16384

noncomputable section

namespace Cert.AttnVal

open Cert.AttnRefIdeal Cert.AttnRefIdeal.Read Idealize.ShloMosaic

/-- The key column that column `t` of head `h` is. -/
def kcol (h : Fin 8) (t : Fin 64) : Fin 256 := ⟨64 * (h.val / 4) + t.val, by omega⟩

/-- The value column that column `d` of head `h` is. -/
def vcol (h : Fin 8) (d : Fin 64) : Fin 256 := ⟨128 + 64 * (h.val / 4) + d.val, by omega⟩

/-- Head `a` of group `g`. -/
def hd (g : Fin 2) (a : Fin 4) : Fin 8 := ⟨4 * g.val + a.val, by omega⟩

variable (x0 : (⟨S16x2048x512, .bf16⟩ : BufTy).Contents (Elt Ideal)) (x1 : (⟨S16x2048x256, .bf16⟩ : BufTy).Contents (Elt Ideal))
  (x2 : (⟨S32x8, .f32⟩ : BufTy).Contents (Elt Ideal)) (x3 : (⟨S8, .f32⟩ : BufTy).Contents (Elt Ideal))

/-- A score: the scaled product and the bias of the distance's bucket, −∞ outside the window. -/
def score (b : Fin 16) (h : Fin 8) (q j : Fin 2048) : EReal :=
  Scalar.select (near (rel j q))
    (@HAdd.hAdd EReal EReal EReal instHAdd
      ((∑ t : Fin 64, @HMul.hMul EReal EReal EReal instHMul (x0 (ValueIdx.ix3 b q (lane h t))) (x1 (ValueIdx.ix3 b j (kcol h t)))) * Ideal.ofBits .f32 0x3E000000#32)
      (x2 (ValueIdx.ix2 (brow (bucket (rel j q))) h))) ⊥

theorem v13 (q j : Fin 2048) : val_main_v13 (F := Ideal) (ValueIdx.ix2 q j) = near (rel j q) := rfl

theorem v62 (q j : Fin 2048) : val_main_v62 (F := Ideal) (ValueIdx.ix2 q j) = bucket (rel j q) := rfl

theorem v64 (q j : Fin 2048) (h : Fin 8) : val_main_v64 (F := Ideal) x2 (ValueIdx.ix3 q j h) = x2 (ValueIdx.ix2 (brow (bucket (rel j q))) h) := by
  have e : idx_main_v63 (ValueIdx.ix3 q j 0) = ValueIdx.ix2 q j := funext fun a => Fin.ext (by
    match a with
    | ⟨0, _⟩ => rfl
    | ⟨1, _⟩ => rfl)
  have h63 : val_main_v63 (F := Ideal) (ValueIdx.ix3 q j 0) = bucket (rel j q) :=
    (val_main_v63_apply (F := Ideal) (ValueIdx.ix3 q j 0)).trans ((congrArg (val_main_v62 (F := Ideal)) e).trans (v62 q j))
  refine (rows_apply (N := 32) (H := 8) (R := 2048) (C := 2048) (by decide) Gen.gather_S32x8_S2048x2048x1_S2048x2048x8_2_0_n_n_0_2_18_wf
    x2 (val_main_v63 (F := Ideal)) q j h).trans ?_
  exact congrArg (fun z : Fin 32 => x2 (ValueIdx.ix2 z h)) (Fin.ext (congrArg (fun z : BitVec 32 => min z.toInt.toNat 31) h63))

theorem v66 (g : Fin 2) (a : Fin 4) (q j : Fin 2048) :
    val_main_v66 (F := Ideal) x2 (ValueIdx.ix4 g a q j) = x2 (ValueIdx.ix2 (brow (bucket (rel j q))) (hd g a)) := by
  rw [val_main_v66_apply, val_main_v65_apply]
  refine Eq.trans (congrArg _ (funext fun i => Fin.ext ?_)) (v64 x2 q j (hd g a))
  match i with
  | ⟨0, _⟩ =>
    show (((g.val * 4 + a.val) * 2048 + q.val) * 2048 + j.val) / 2048 % 2048 = q.val
    omega
  | ⟨1, _⟩ =>
    show (((g.val * 4 + a.val) * 2048 + q.val) * 2048 + j.val) % 2048 = j.val
    omega
  | ⟨2, _⟩ =>
    show (((g.val * 4 + a.val) * 2048 + q.val) * 2048 + j.val) / 4194304 = 4 * g.val + a.val
    omega

theorem v1 (b : Fin 16) (q : Fin 2048) (g : Fin 2) (a : Fin 4) (t : Fin 64) :
    val_main_v1 (F := Ideal) x0 (ValueIdx.ix5 b q g a t) = x0 (ValueIdx.ix3 b q (lane (hd g a) t)) := by
  rw [val_main_v1_apply, val_main_v0_apply]
  refine congrArg x0 (funext fun i => Fin.ext ?_)
  match i with
  | ⟨0, _⟩ =>
    show ((((b.val * 2048 + q.val) * 2 + g.val) * 4 + a.val) * 64 + t.val) / 1048576 = b.val
    omega
  | ⟨1, _⟩ =>
    show ((((b.val * 2048 + q.val) * 2 + g.val) * 4 + a.val) * 64 + t.val) / 512 % 2048 = q.val
    omega
  | ⟨2, _⟩ =>
    show ((((b.val * 2048 + q.val) * 2 + g.val) * 4 + a.val) * 64 + t.val) % 512 = 64 * (4 * g.val + a.val) + t.val
    omega

theorem v4 (b : Fin 16) (j : Fin 2048) (g : Fin 2) (a : Fin 4) (t : Fin 64) :
    val_main_v4 (F := Ideal) x1 (ValueIdx.ix4 b j g t) = x1 (ValueIdx.ix3 b j (kcol (hd g a) t)) := by
  rw [val_main_v4_apply, val_main_v3_apply, val_main_v2_apply]
  refine congrArg x1 (funext fun i => Fin.ext ?_)
  match i with
  | ⟨0, _⟩ =>
    show (((b.val * 2048 + j.val) * 2 + g.val) * 64 + t.val) / 262144 = b.val
    omega
  | ⟨1, _⟩ =>
    show (((b.val * 2048 + j.val) * 2 + g.val) * 64 + t.val) / 128 % 2048 = j.val
    omega
  | ⟨2, _⟩ =>
    show (((b.val * 2048 + j.val) * 2 + g.val) * 64 + t.val) % 128 = 64 * ((4 * g.val + a.val) / 4) + t.val
    omega

theorem v7 (b : Fin 16) (j : Fin 2048) (g : Fin 2) (a : Fin 4) (d : Fin 64) :
    val_main_v7 (F := Ideal) x1 (ValueIdx.ix4 b j g d) = x1 (ValueIdx.ix3 b j (vcol (hd g a) d)) := by
  rw [val_main_v7_apply, val_main_v6_apply, val_main_v5_apply]
  refine congrArg x1 (funext fun i => Fin.ext ?_)
  match i with
  | ⟨0, _⟩ =>
    show (((b.val * 2048 + j.val) * 2 + g.val) * 64 + d.val) / 262144 = b.val
    omega
  | ⟨1, _⟩ =>
    show (((b.val * 2048 + j.val) * 2 + g.val) * 64 + d.val) / 128 % 2048 = j.val
    omega
  | ⟨2, _⟩ =>
    show 128 + (((b.val * 2048 + j.val) * 2 + g.val) * 64 + d.val) % 128 = 128 + 64 * ((4 * g.val + a.val) / 4) + d.val
    omega

theorem v67 (g : Fin 2) (a : Fin 4) : val_main_v67 (F := Ideal) x3 (ValueIdx.ix4 g a 0 0) = x3 (ValueIdx.ix1 (hd g a)) := by
  rw [val_main_v67_apply]
  refine congrArg x3 (funext fun i => Fin.ext ?_)
  match i with
  | ⟨0, _⟩ =>
    show ((g.val * 4 + a.val) * 1 + 0) * 1 + 0 = 4 * g.val + a.val
    omega

theorem v75 (b : Fin 16) (g : Fin 2) (a : Fin 4) (q j : Fin 2048) :
    val_main_v75 (F := Ideal) x0 x1 x2 (ValueIdx.ix5 b g a q j) = score x0 x1 x2 b (hd g a) q j := by
  have e0 : val_main_call2_v2 (F := Ideal) (ValueIdx.ix5 b g a q j) = (⊥ : EReal) := by
    rw [val_main_call2_v2_apply]
    exact neg_inf
  have e1 : val_main_call2_v1 (F := Ideal) (ValueIdx.ix5 b g a q j) = near (rel j q) := by
    rw [val_main_call2_v1_apply]
    exact v13 q j
  have e2 : val_main_v73 (F := Ideal) x2 (ValueIdx.ix5 b g a q j) = x2 (ValueIdx.ix2 (brow (bucket (rel j q))) (hd g a)) := by
    rw [val_main_v73_apply, val_main_v72_apply]
    refine Eq.trans (congrArg _ (funext fun i => Fin.ext ?_)) (v66 x2 g a q j)
    match i with
    | ⟨0, _⟩ => rfl
    | ⟨1, _⟩ => rfl
    | ⟨2, _⟩ => rfl
    | ⟨3, _⟩ => rfl
  have e3 : val_main_v69 (F := Ideal) x0 x1 (ValueIdx.ix5 b g a q j)
      = ∑ t : Fin 64, @HMul.hMul EReal EReal EReal instHMul (x0 (ValueIdx.ix3 b q (lane (hd g a) t))) (x1 (ValueIdx.ix3 b j (kcol (hd g a) t))) := by
    rw [val_main_v69_apply, val_main_v68_apply]
    refine Finset.sum_congr rfl fun t _ => ?_
    refine (congrArg₂ (fun x y : EReal => x * y) ?_ ?_).trans (mul_comm (G := EReal) _ _)
    · refine Eq.trans (congrArg _ (funext fun i => Fin.ext ?_)) (v4 x1 b j g a t)
      match i with
      | ⟨0, _⟩ => rfl
      | ⟨1, _⟩ => rfl
      | ⟨2, _⟩ => rfl
      | ⟨3, _⟩ => rfl
    · refine Eq.trans (congrArg _ (funext fun i => Fin.ext ?_)) (v1 x0 b q g a t)
      match i with
      | ⟨0, _⟩ => rfl
      | ⟨1, _⟩ => rfl
      | ⟨2, _⟩ => rfl
      | ⟨3, _⟩ => rfl
      | ⟨4, _⟩ => rfl
  rw [val_main_v75_apply, e0, e1, val_main_v74_apply, val_main_v71_apply, e2, e3, val_main_v70_apply]
  rfl

theorem v76 (b : Fin 16) (g : Fin 2) (a : Fin 4) (q : Fin 2048) :
    val_main_v76 (F := Ideal) x0 x1 x2 (ValueIdx.ix4 b g a q) = (Finset.univ : Finset (Fin 2048)).fold max ⊥ (score x0 x1 x2 b (hd g a) q) := by
  unfold val_main_v76
  rw [Host.reduce_eq_fold_single FloatOps.maximumf _ _ Gen.reducesTo_S16x2x4x2048x2048_S16x2x4x2048_d4 (by decide)]
  have e : (val_main_v75 (F := Ideal) x0 x1 x2) ∘ (Shape.Reduces.lift (s := S16x2x4x2048x2048) (a := 4) (t := S16x2x4x2048) (by decide) (ValueIdx.ix4 b g a q))
      = score x0 x1 x2 b (hd g a) q := funext fun j => by
    refine Eq.trans (congrArg (val_main_v75 (F := Ideal) x0 x1 x2) (funext fun i => Fin.ext ?_)) (v75 x0 x1 x2 b g a q j)
    match i with
    | ⟨0, _⟩ => rfl
    | ⟨1, _⟩ => rfl
    | ⟨2, _⟩ => rfl
    | ⟨3, _⟩ => rfl
    | ⟨4, _⟩ => rfl
  rw [e]
  have e0 : (val_main_cst_15 (F := Ideal)) (Shape.Idx.first Gen.h_S_) = (⊥ : EReal) := neg_inf
  rw [e0]
  rfl

theorem v79 (b : Fin 16) (g : Fin 2) (a : Fin 4) (q : Fin 2048) :
    val_main_v79 (F := Ideal) x3 (ValueIdx.ix5 b g a q 0) = x3 (ValueIdx.ix1 (hd g a)) := by
  rw [val_main_v79_apply, val_main_v78_apply]
  refine Eq.trans (congrArg _ (funext fun i => Fin.ext ?_)) (v67 x3 g a)
  match i with
  | ⟨0, _⟩ => rfl
  | ⟨1, _⟩ => rfl
  | ⟨2, _⟩ => rfl
  | ⟨3, _⟩ => rfl

theorem v87 (b : Fin 16) (g : Fin 2) (a : Fin 4) (q : Fin 2048) :
    val_main_v87 (F := Ideal) x3 (ValueIdx.ix5 b g a q 0) = x3 (ValueIdx.ix1 (hd g a)) := by
  rw [val_main_v87_apply, val_main_v86_apply]
  refine Eq.trans (congrArg _ (funext fun i => Fin.ext ?_)) (v67 x3 g a)
  match i with
  | ⟨0, _⟩ => rfl
  | ⟨1, _⟩ => rfl
  | ⟨2, _⟩ => rfl
  | ⟨3, _⟩ => rfl

theorem v80 (b : Fin 16) (g : Fin 2) (a : Fin 4) (q : Fin 2048) :
    val_main_v80 (F := Ideal) x0 x1 x2 x3 (ValueIdx.ix5 b g a q 0) = top (score x0 x1 x2 b (hd g a) q) (x3 (ValueIdx.ix1 (hd g a))) := by
  rw [val_main_v80_apply, v79, val_main_v77_apply]
  have e : idx_main_v77 (ValueIdx.ix5 b g a q 0) = ValueIdx.ix4 b g a q := funext fun i => Fin.ext (by
    match i with
    | ⟨0, _⟩ => rfl
    | ⟨1, _⟩ => rfl
    | ⟨2, _⟩ => rfl
    | ⟨3, _⟩ => rfl)
  rw [e, v76]
  rfl

theorem v83 (b : Fin 16) (g : Fin 2) (a : Fin 4) (q j : Fin 2048) :
    val_main_v83 (F := Ideal) x0 x1 x2 x3 (ValueIdx.ix5 b g a q j)
      = Ideal.exp (score x0 x1 x2 b (hd g a) q j - top (score x0 x1 x2 b (hd g a) q) (x3 (ValueIdx.ix1 (hd g a)))) := by
  rw [val_main_v83_apply, val_main_v82_apply, v75, val_main_v81_apply]
  have e : idx_main_v81 (ValueIdx.ix5 b g a q j) = ValueIdx.ix5 b g a q 0 := funext fun i => Fin.ext (by
    match i with
    | ⟨0, _⟩ => rfl
    | ⟨1, _⟩ => rfl
    | ⟨2, _⟩ => rfl
    | ⟨3, _⟩ => rfl
    | ⟨4, _⟩ => rfl)
  rw [e, v80]
  rfl

theorem v90 (b : Fin 16) (g : Fin 2) (a : Fin 4) (q : Fin 2048) :
    val_main_v90 (F := Ideal) x0 x1 x2 x3 (ValueIdx.ix5 b g a q 0) = denom (score x0 x1 x2 b (hd g a) q) (x3 (ValueIdx.ix1 (hd g a))) := by
  rw [val_main_v90_apply, val_main_v89_apply, val_main_v88_apply, v87, v80, val_main_v85_apply, val_main_v84_apply]
  have e : ∀ k : Fin 2048, idx_main_v84 (idx_main_v85 (ValueIdx.ix5 b g a q 0)) k = ValueIdx.ix5 b g a q k := fun k => funext fun i => Fin.ext (by
    match i with
    | ⟨0, _⟩ => rfl
    | ⟨1, _⟩ => rfl
    | ⟨2, _⟩ => rfl
    | ⟨3, _⟩ => rfl
    | ⟨4, _⟩ => rfl)
  have e0 : (val_main_cst_16 (F := Ideal)) (Shape.Idx.first Gen.h_S_) = (0 : EReal) := by
    show Ideal.ofBits .f32 0x00000000#32 = 0
    simp [Ideal.ofBits, Ideal.ieee]
  simp only [e, v83]
  rw [e0]
  refine congrArg₂ (fun x y : EReal => x + y) ?_ rfl
  exact zero_add (M := EReal) _

theorem v95 (b : Fin 16) (q : Fin 2048) (g : Fin 2) (a : Fin 4) (d : Fin 64) :
    val_main_v94 (F := Ideal) x0 x1 x2 x3 (ValueIdx.ix5 b q g a d)
      = each (score x0 x1 x2 b (hd g a) q) (fun j => x1 (ValueIdx.ix3 b j (vcol (hd g a) d))) (x3 (ValueIdx.ix1 (hd g a))) := by
  rw [val_main_v94_apply, val_main_v93_apply]
  refine Finset.sum_congr rfl fun j _ => ?_
  refine (congrArg₂ (fun x y : EReal => x * y) ?_ ?_).trans (mul_comm (G := EReal) _ _)
  · refine Eq.trans (congrArg _ (funext fun i => Fin.ext ?_)) (v7 x1 b j g a d)
    match i with
    | ⟨0, _⟩ => rfl
    | ⟨1, _⟩ => rfl
    | ⟨2, _⟩ => rfl
    | ⟨3, _⟩ => rfl
  · have e : ridx_main_v93 (idx_main_v94 (ValueIdx.ix5 b q g a d)) j = ValueIdx.ix5 b g a q j := funext fun i => Fin.ext (by
      match i with
      | ⟨0, _⟩ => rfl
      | ⟨1, _⟩ => rfl
      | ⟨2, _⟩ => rfl
      | ⟨3, _⟩ => rfl
      | ⟨4, _⟩ => rfl)
    have e' : idx_main_v91 (ValueIdx.ix5 b g a q j) = ValueIdx.ix5 b g a q 0 := funext fun i => Fin.ext (by
      match i with
      | ⟨0, _⟩ => rfl
      | ⟨1, _⟩ => rfl
      | ⟨2, _⟩ => rfl
      | ⟨3, _⟩ => rfl
      | ⟨4, _⟩ => rfl)
    rw [e, val_main_v92_apply, v83, val_main_v91_apply, e', v90]
    rfl

/-- The reference at column `d` of head `h` of row `q`. -/
theorem ref (b : Fin 16) (q : Fin 2048) (h : Fin 8) (d : Fin 64) :
    val_main_v96 (F := Ideal) x0 x1 x2 x3 (ValueIdx.ix3 b q (lane h d))
      = each (score x0 x1 x2 b h q) (fun j => x1 (ValueIdx.ix3 b j (vcol h d))) (x3 (ValueIdx.ix1 h)) := by
  have hh : hd ⟨h.val / 4, by omega⟩ ⟨h.val % 4, by omega⟩ = h := Fin.ext (by show 4 * (h.val / 4) + h.val % 4 = h.val; omega)
  have e := v95 x0 x1 x2 x3 b q ⟨h.val / 4, by omega⟩ ⟨h.val % 4, by omega⟩ d
  rw [hh] at e
  rw [val_main_v96_apply, val_main_v95_apply]
  refine Eq.trans (congrArg (val_main_v94 (F := Ideal) x0 x1 x2 x3) (funext fun i => Fin.ext ?_)) e
  match i with
  | ⟨0, _⟩ =>
    show ((b.val * 2048 + q.val) * 512 + (64 * h.val + d.val)) / 1048576 = b.val
    omega
  | ⟨1, _⟩ =>
    show ((b.val * 2048 + q.val) * 512 + (64 * h.val + d.val)) / 512 % 2048 = q.val
    omega
  | ⟨2, _⟩ =>
    show ((b.val * 2048 + q.val) * 512 + (64 * h.val + d.val)) / 256 % 2 = h.val / 4
    omega
  | ⟨3, _⟩ =>
    show ((b.val * 2048 + q.val) * 512 + (64 * h.val + d.val)) / 64 % 4 = h.val % 4
    omega
  | ⟨4, _⟩ =>
    show ((b.val * 2048 + q.val) * 512 + (64 * h.val + d.val)) % 64 = d.val
    omega

end Cert.AttnVal

end
-- ==== Proof.Attn.Heads.lean ====
/- The eight heads of one grid step: every one is the same function of its columns. -/
module

public import proofs.«01_k».proof.Proof.Attn.Point
public import proofs.«01_k».proof.Proof.Attn.Ref

@[expose] public section

set_option maxRecDepth 16384

noncomputable section

namespace Cert.AttnVal

open Cert.AttnIdeal Cert.AttnIdeal.Gen Idealize.ShloMosaic Idealize.ShloMosaic.TcCoe Idealize.SL.Sem

variable (v6 : Vec Ideal S1x384x256 .bf16) (v8 : Vec Ideal S1x128x512 .bf16) (b : Fin 8 → Vec Ideal S1x1x128x384 .f32) (s : Fin 8 → Vec Ideal S1x1 .f32)

/-- A head, from its columns. -/
def head (h : Fin 8) : FVec Ideal S128x64 .f32 :=
  match h with
  | 0 => k0_pay15 (extractStridedSlice S128x64 ![0, 0] (k0_pay3 v8) slices_S128x512_o0_0_S128x64) (extractStridedSlice S384x64 ![0, 0] (k0_pay2 v6) slices_S384x256_o0_0_S384x64) (extractStridedSlice S384x64 ![0, 128] (k0_pay2 v6) slices_S384x256_o0_128_S384x64) (b 0) (s 0)
  | 1 => k0_pay15 (extractStridedSlice S128x64 ![0, 64] (k0_pay3 v8) slices_S128x512_o0_64_S128x64) (extractStridedSlice S384x64 ![0, 0] (k0_pay2 v6) slices_S384x256_o0_0_S384x64) (extractStridedSlice S384x64 ![0, 128] (k0_pay2 v6) slices_S384x256_o0_128_S384x64) (b 1) (s 1)
  | 2 => k0_pay15 (extractStridedSlice S128x64 ![0, 128] (k0_pay3 v8) slices_S128x512_o0_128_S128x64) (extractStridedSlice S384x64 ![0, 0] (k0_pay2 v6) slices_S384x256_o0_0_S384x64) (extractStridedSlice S384x64 ![0, 128] (k0_pay2 v6) slices_S384x256_o0_128_S384x64) (b 2) (s 2)
  | 3 => k0_pay15 (extractStridedSlice S128x64 ![0, 192] (k0_pay3 v8) slices_S128x512_o0_192_S128x64) (extractStridedSlice S384x64 ![0, 0] (k0_pay2 v6) slices_S384x256_o0_0_S384x64) (extractStridedSlice S384x64 ![0, 128] (k0_pay2 v6) slices_S384x256_o0_128_S384x64) (b 3) (s 3)
  | 4 => k0_pay15 (extractStridedSlice S128x64 ![0, 256] (k0_pay3 v8) slices_S128x512_o0_256_S128x64) (extractStridedSlice S384x64 ![0, 64] (k0_pay2 v6) slices_S384x256_o0_64_S384x64) (extractStridedSlice S384x64 ![0, 192] (k0_pay2 v6) slices_S384x256_o0_192_S384x64) (b 4) (s 4)
  | 5 => k0_pay15 (extractStridedSlice S128x64 ![0, 320] (k0_pay3 v8) slices_S128x512_o0_320_S128x64) (extractStridedSlice S384x64 ![0, 64] (k0_pay2 v6) slices_S384x256_o0_64_S384x64) (extractStridedSlice S384x64 ![0, 192] (k0_pay2 v6) slices_S384x256_o0_192_S384x64) (b 5) (s 5)
  | 6 => k0_pay15 (extractStridedSlice S128x64 ![0, 384] (k0_pay3 v8) slices_S128x512_o0_384_S128x64) (extractStridedSlice S384x64 ![0, 64] (k0_pay2 v6) slices_S384x256_o0_64_S384x64) (extractStridedSlice S384x64 ![0, 192] (k0_pay2 v6) slices_S384x256_o0_192_S384x64) (b 6) (s 6)
  | 7 => k0_pay15 (extractStridedSlice S128x64 ![0, 448] (k0_pay3 v8) slices_S128x512_o0_448_S128x64) (extractStridedSlice S384x64 ![0, 64] (k0_pay2 v6) slices_S384x256_o0_64_S384x64) (extractStridedSlice S384x64 ![0, 192] (k0_pay2 v6) slices_S384x256_o0_192_S384x64) (b 7) (s 7)

theorem own0 : k0_pay4 v6 v8 (b 0) (s 0) = head v6 v8 b s 0 := rfl

theorem own1 : k0_pay5 (k0_pay2 v6) (k0_pay3 v8) (b 1) (s 1) = head v6 v8 b s 1 := rfl

theorem own2 : k0_pay10 (k0_pay6 (k0_pay2 v6)) (k0_pay7 (k0_pay2 v6) (k0_pay3 v8) (b 2)) (k0_pay8 (s 2)) (k0_pay9 (k0_pay2 v6) (k0_pay3 v8) (b 2)) = head v6 v8 b s 2 := rfl

theorem own3 : k0_pay11 (k0_pay2 v6) (k0_pay3 v8) (b 3) (s 3) = head v6 v8 b s 3 := rfl

theorem own4 : k0_pay15 (k0_pay12 (k0_pay3 v8)) (k0_pay13 (k0_pay2 v6)) (k0_pay14 (k0_pay2 v6)) (b 4) (s 4) = head v6 v8 b s 4 := rfl

theorem own5 : k0_pay20 (k0_pay16 (k0_pay2 v6)) (k0_pay17 (k0_pay2 v6) (k0_pay3 v8) (b 5)) (k0_pay18 (s 5)) (k0_pay19 (k0_pay2 v6) (k0_pay3 v8) (b 5) (s 5)) = head v6 v8 b s 5 := rfl

theorem own6 : k0_pay21 (k0_pay2 v6) (k0_pay3 v8) (b 6) (s 6) = head v6 v8 b s 6 := rfl

theorem packed (x : FVec Ideal S128x512 .f32) (r : Fin 128) (n : Fin 512) :
    (shapeCast S1x128x512 (truncf .bf16 x bitsLt_bf16_f32) shapeCasts_S128x512_S1x128x512 : FVec Ideal S1x128x512 .bf16) (ValueIdx.ix3 0 r n) = x (ValueIdx.ix2 r n) := by
  pointwise
  rfl

/-- What the step stores. -/
def stored : FVec Ideal S1x128x512 .bf16 :=
  k0_pay1 (k0_pay4 v6 v8 (b 0) (s 0))
    (k0_pay5 (k0_pay2 v6) (k0_pay3 v8) (b 1) (s 1))
    (k0_pay10 (k0_pay6 (k0_pay2 v6)) (k0_pay7 (k0_pay2 v6) (k0_pay3 v8) (b 2)) (k0_pay8 (s 2)) (k0_pay9 (k0_pay2 v6) (k0_pay3 v8) (b 2)))
    (k0_pay11 (k0_pay2 v6) (k0_pay3 v8) (b 3) (s 3))
    (k0_pay15 (k0_pay12 (k0_pay3 v8)) (k0_pay13 (k0_pay2 v6)) (k0_pay14 (k0_pay2 v6)) (b 4) (s 4))
    (k0_pay20 (k0_pay16 (k0_pay2 v6)) (k0_pay17 (k0_pay2 v6) (k0_pay3 v8) (b 5)) (k0_pay18 (s 5)) (k0_pay19 (k0_pay2 v6) (k0_pay3 v8) (b 5) (s 5)))
    (k0_pay21 (k0_pay2 v6) (k0_pay3 v8) (b 6) (s 6))
    (k0_pay22 (k0_pay2 v6)) (k0_pay23 (k0_pay2 v6) (k0_pay3 v8)) (Scalar.ofBits .f32 0x3E000000#32) (b 7) (s 7)

theorem stored_eq : stored v6 v8 b s
    = (shapeCast S1x128x512 (truncf .bf16 (concatenate S128x512 1 [⟨S128x64, head v6 v8 b s 0⟩, ⟨S128x64, head v6 v8 b s 1⟩, ⟨S128x64, head v6 v8 b s 2⟩, ⟨S128x64, head v6 v8 b s 3⟩, ⟨S128x64, head v6 v8 b s 4⟩, ⟨S128x64, head v6 v8 b s 5⟩, ⟨S128x64, head v6 v8 b s 6⟩, ⟨S128x64, head v6 v8 b s 7⟩] concatenates_S128x64_S128x64_S128x64_S128x64_S128x64_S128x64_S128x64_S128x64_S128x512_d1 : FVec Ideal S128x512 .f32) bitsLt_bf16_f32) shapeCasts_S128x512_S1x128x512 : FVec Ideal S1x128x512 .bf16) := by
  unfold stored
  rw [own0, own1, own2, own3, own4, own5, own6]
  rfl

theorem qcol (o : ℕ) (ho : S128x512.Slices ![0, o] S128x64) (r : Fin 128) (t : Fin 64) (n : Fin 512) (hn : o + t.val = n.val) :
    (extractStridedSlice S128x64 ![0, o] (k0_pay3 v8) ho : FVec Ideal S128x64 .bf16) (ValueIdx.ix2 r t) = v8 (ValueIdx.ix3 0 r n) := by
  unfold k0_pay3
  pointwise
  exact congrArg (fun k => v8 (ValueIdx.ix3 0 r k)) (Fin.ext hn)

theorem kvcol (o : ℕ) (ho : S384x256.Slices ![0, o] S384x64) (j : Fin 384) (t : Fin 64) (n : Fin 256) (hn : o + t.val = n.val) :
    (extractStridedSlice S384x64 ![0, o] (k0_pay2 v6) ho : FVec Ideal S384x64 .bf16) (ValueIdx.ix2 j t) = v6 (ValueIdx.ix3 0 j n) := by
  unfold k0_pay2
  pointwise
  exact congrArg (fun k => v6 (ValueIdx.ix3 0 j k)) (Fin.ext hn)

/-- A head's scores, from the block's columns. -/
def sc (h : Fin 8) (r : Fin 128) (j : Fin 384) : EReal :=
  @HAdd.hAdd EReal EReal EReal instHAdd
    ((∑ t : Fin 64, @HMul.hMul EReal EReal EReal instHMul (v8 (ValueIdx.ix3 0 r (lane h t))) (v6 (ValueIdx.ix3 0 j (kcol h t)))) * Ideal.ofBits .f32 0x3E000000#32)
    (b h (ValueIdx.ix4 0 0 r j))

theorem head_apply (h : Fin 8) (r : Fin 128) (d : Fin 64) : head v6 v8 b s h (ValueIdx.ix2 r d)
    = whole (sc v6 v8 b h r) (fun j => v6 (ValueIdx.ix3 0 j (vcol h d))) (s h (ValueIdx.ix2 0 0)) := by
  match h with
  | 0 =>
    refine (core _ _ _ _ _ r d).trans ?_
    simp only [qcol v8 0 _ r _ (lane 0 _) rfl, kvcol v6 0 _ _ _ (kcol 0 _) rfl, kvcol v6 128 _ _ d (vcol 0 d) rfl]
    rfl
  | 1 =>
    refine (core _ _ _ _ _ r d).trans ?_
    simp only [qcol v8 64 _ r _ (lane 1 _) rfl, kvcol v6 0 _ _ _ (kcol 1 _) rfl, kvcol v6 128 _ _ d (vcol 1 d) rfl]
    rfl
  | 2 =>
    refine (core _ _ _ _ _ r d).trans ?_
    simp only [qcol v8 128 _ r _ (lane 2 _) rfl, kvcol v6 0 _ _ _ (kcol 2 _) rfl, kvcol v6 128 _ _ d (vcol 2 d) rfl]
    rfl
  | 3 =>
    refine (core _ _ _ _ _ r d).trans ?_
    simp only [qcol v8 192 _ r _ (lane 3 _) rfl, kvcol v6 0 _ _ _ (kcol 3 _) rfl, kvcol v6 128 _ _ d (vcol 3 d) rfl]
    rfl
  | 4 =>
    refine (core _ _ _ _ _ r d).trans ?_
    simp only [qcol v8 256 _ r _ (lane 4 _) rfl, kvcol v6 64 _ _ _ (kcol 4 _) rfl, kvcol v6 192 _ _ d (vcol 4 d) rfl]
    rfl
  | 5 =>
    refine (core _ _ _ _ _ r d).trans ?_
    simp only [qcol v8 320 _ r _ (lane 5 _) rfl, kvcol v6 64 _ _ _ (kcol 5 _) rfl, kvcol v6 192 _ _ d (vcol 5 d) rfl]
    rfl
  | 6 =>
    refine (core _ _ _ _ _ r d).trans ?_
    simp only [qcol v8 384 _ r _ (lane 6 _) rfl, kvcol v6 64 _ _ _ (kcol 6 _) rfl, kvcol v6 192 _ _ d (vcol 6 d) rfl]
    rfl
  | 7 =>
    refine (core _ _ _ _ _ r d).trans ?_
    simp only [qcol v8 448 _ r _ (lane 7 _) rfl, kvcol v6 64 _ _ _ (kcol 7 _) rfl, kvcol v6 192 _ _ d (vcol 7 d) rfl]
    rfl

/-- What the step stores, at column `d` of head `h`. -/
theorem stored_apply (h : Fin 8) (r : Fin 128) (d : Fin 64) : stored v6 v8 b s (ValueIdx.ix3 0 r (lane h d))
    = whole (sc v6 v8 b h r) (fun j => v6 (ValueIdx.ix3 0 j (vcol h d))) (s h (ValueIdx.ix2 0 0)) := by
  rw [stored_eq, packed]
  exact (heads (head v6 v8 b s) r h d).trans (head_apply v6 v8 b s h r d)

end Cert.AttnVal

end
-- ==== Proof.Attn.Value.lean ====
/- The array that attention's launch leaves is the reference's, on finite queries, keys and biases and sinks below infinity. -/
module

public import proofs.«01_k».proof.Proof.Gen.AttnIdeal.Value
public import proofs.«01_k».proof.Proof.Attn.Tables
public import proofs.«01_k».proof.Proof.Attn.Heads
public import proofs.«01_k».proof.Proof.Attn.Ref
public import Idealize.ShloMosaic.Lib.Pipeline.Covers
public import Idealize.ShloMosaic.Lib.IdealHost

@[expose] public section

set_option maxRecDepth 16384

noncomputable section

namespace Cert.AttnVal

open Cert.AttnIdeal Cert.AttnIdeal.Gen Idealize.ShloMosaic Idealize.ShloMosaic.TcCoe Idealize.SL.Sem
open Cert.AttnRefIdeal.Read Cert.FiniteVal

variable (m : (ℓ : Loc nD τ sig) → Buf (Elt Ideal) ℓ) (c : Dev nD)

/-- The queries move with both coordinates, the keys with the first; the table is the first, the last or the one between. -/
theorem idx : ∀ t : Fin cfg0.N, win0_0.index t = ![(grid0.coords t 0).val, (grid0.coords t 1).val, 0]
    ∧ win0_1.index t = ![(grid0.coords t 0).val, 0, 0]
    ∧ win0_2.index t = ![if (grid0.coords t 1).val = 0 then 0 else if (grid0.coords t 1).val = 15 then 2 else 1, 0, 0, 0]
    ∧ win0_3.index t = ![0, 0]
    ∧ win0_4.index t = ![(grid0.coords t 0).val, (grid0.coords t 1).val, 0] := by decide +kernel

/-- Where the keys that a step reads begin. -/
theorem off : ∀ t : Fin cfg0.N, k0_off1 (grid0.coords t) = ![0, min 1664 ((grid0.coords t 1).val * 128 - 128), 0] := by decide +kernel

theorem lt0 (t : Fin cfg0.N) : (grid0.coords t 0).val < 16 := (grid0.coords t 0).isLt

theorem lt1 (t : Fin cfg0.N) : (grid0.coords t 1).val < 16 := (grid0.coords t 1).isLt

/-- The batch entry of a step. -/
def bat (t : Fin cfg0.N) : Fin 16 := ⟨(grid0.coords t 0).val, lt0 t⟩

/-- The query that row `r` of a step is. -/
def qry (t : Fin cfg0.N) (r : Fin 128) : Fin 2048 := ⟨(grid0.coords t 1).val * 128 + r.val, by have := lt1 t; omega⟩

/-- The first key of a step. -/
def start (t : Fin cfg0.N) : ℕ := min 1664 ((grid0.coords t 1).val * 128 - 128)

theorem start_le (t : Fin cfg0.N) : start t ≤ 1664 := Nat.min_le_left _ _

/-- The key that row `j` of a step is. -/
def key (t : Fin cfg0.N) (j : Fin 384) : Fin 2048 := ⟨start t + j.val, by have := start_le t; omega⟩

/-- The table of a step. -/
def tab (t : Fin cfg0.N) : Fin 3 := ⟨if (grid0.coords t 1).val = 0 then 0 else if (grid0.coords t 1).val = 15 then 2 else 1, by split_ifs <;> omega⟩

theorem tab_start (t : Fin cfg0.N) : 128 * (tab t).val + start t = (grid0.coords t 1).val * 128 := by
  have := lt1 t
  show 128 * (if (grid0.coords t 1).val = 0 then 0 else if (grid0.coords t 1).val = 15 then 2 else 1) + min 1664 ((grid0.coords t 1).val * 128 - 128) = _
  split_ifs <;> omega

theorem dist_rel (t : Fin cfg0.N) (r : Fin 128) (j : Fin 384) : dist (shift (tab t)) r j = rel (key t j) (qry t r) := by
  have h := tab_start t
  have := lt1 t
  have := (tab t).isLt
  refine BitVec.eq_of_toNat_eq ?_
  show ((BitVec.ofNat 32 j.val - BitVec.ofNat 32 (128 * (tab t).val)) - BitVec.ofNat 32 r.val).toNat
    = (BitVec.ofNat 32 (start t + j.val) - BitVec.ofNat 32 ((grid0.coords t 1).val * 128 + r.val)).toNat
  simp only [BitVec.toNat_sub, BitVec.toNat_ofNat]
  omega

theorem key_inj (t : Fin cfg0.N) : Function.Injective (key t) := fun i j h => Fin.ext (by
  have e : start t + i.val = start t + j.val := congrArg Fin.val h
  omega)

/-- A key that a step does not read is far from every query of it. -/
theorem far (t : Fin cfg0.N) (r : Fin 128) (j : Fin 2048) (h : ∀ i, key t i ≠ j) : near (rel j (qry t r)) = 0#1 := by
  rw [near_rel]
  refine if_neg fun hn => ?_
  have hq := lt1 t
  have hn1 : j.val ≤ (grid0.coords t 1).val * 128 + r.val + 128 := hn.1
  have hn2 : (grid0.coords t 1).val * 128 + r.val ≤ j.val + 128 := hn.2
  have hs : start t = min 1664 ((grid0.coords t 1).val * 128 - 128) := rfl
  exact h ⟨j.val - start t, by omega⟩ (Fin.ext (by show start t + (j.val - start t) = j.val; omega))

theorem blk0 (t : Fin cfg0.N) (r : Fin 128) (k : Fin 512) : iblk m c 0 t (ValueIdx.ix3 0 r k) = (m ((c : Thread nD τ).loc main_arg0) (ValueIdx.ix3 (bat t) (qry t r) k) : EReal) := by
  obtain ⟨hi, -, -, -, -⟩ := idx t
  refine congrArg (m ((c : Thread nD τ).loc main_arg0)) (funext fun a => Fin.ext ?_)
  match a with
  | ⟨0, _⟩ =>
    show win0_0.index t 0 * 1 + 1 * 0 = (grid0.coords t 0).val
    rw [hi]; show (grid0.coords t 0).val * 1 + 1 * 0 = (grid0.coords t 0).val; omega
  | ⟨1, _⟩ =>
    show win0_0.index t 1 * 128 + 1 * r.val = (grid0.coords t 1).val * 128 + r.val
    rw [hi]; show (grid0.coords t 1).val * 128 + 1 * r.val = (grid0.coords t 1).val * 128 + r.val; omega
  | ⟨2, _⟩ =>
    show win0_0.index t 2 * 512 + 1 * k.val = k.val
    rw [hi]; show 0 * 512 + 1 * k.val = k.val; omega

/-- The keys and values that a step reads. -/
def kv (t : Fin cfg0.N) : Vec Ideal S1x384x256 .bf16 :=
  View.ld (iblk m c 1 t) (Rect.unit (s := S1x2048x256) (k0_off1 (grid0.coords t)) S1x384x256.size (k0_off1_inb (grid0.coords t)))

theorem blk1 (t : Fin cfg0.N) (j : Fin 384) (k : Fin 256) : kv m c t (ValueIdx.ix3 0 j k) = (m ((c : Thread nD τ).loc main_arg1) (ValueIdx.ix3 (bat t) (key t j) k) : EReal) := by
  obtain ⟨-, hi, -, -, -⟩ := idx t
  have ho := off t
  refine congrArg (m ((c : Thread nD τ).loc main_arg1)) (funext fun a => Fin.ext ?_)
  match a with
  | ⟨0, _⟩ =>
    show win0_1.index t 0 * 1 + 1 * (k0_off1 (grid0.coords t) 0 + 1 * 0) = (grid0.coords t 0).val
    rw [hi, ho]; show (grid0.coords t 0).val * 1 + 1 * (0 + 1 * 0) = (grid0.coords t 0).val; omega
  | ⟨1, _⟩ =>
    show win0_1.index t 1 * 2048 + 1 * (k0_off1 (grid0.coords t) 1 + 1 * j.val) = start t + j.val
    rw [hi, ho]; show 0 * 2048 + 1 * (start t + 1 * j.val) = start t + j.val; omega
  | ⟨2, _⟩ =>
    show win0_1.index t 2 * 256 + 1 * (k0_off1 (grid0.coords t) 2 + 1 * k.val) = k.val
    rw [hi, ho]; show 0 * 256 + 1 * (0 + 1 * k.val) = k.val; omega

theorem inb_bias (h : Fin 8) : ∀ a, (![0, h.val, 0, 0] : Fin 4 → ℕ) a + S1x1x128x384.size a ≤ S1x8x128x384.size a := by
  revert h; decide

theorem inb_sink (h : Fin 8) : ∀ a, (![0, h.val] : Fin 2 → ℕ) a + S1x1.size a ≤ S1x8.size a := by
  revert h; decide

/-- A head's part of a step's table. -/
def bias (t : Fin cfg0.N) (h : Fin 8) : Vec Ideal S1x1x128x384 .f32 :=
  View.ld (iblk m c 2 t) (Rect.unit (s := S1x8x128x384) ![0, h.val, 0, 0] S1x1x128x384.size (inb_bias h))

/-- A head's sink. -/
def sink (t : Fin cfg0.N) (h : Fin 8) : Vec Ideal S1x1 .f32 :=
  View.ld (iblk m c 3 t) (Rect.unit (s := S1x8) ![0, h.val] S1x1.size (inb_sink h))

theorem blk2 (t : Fin cfg0.N) (h : Fin 8) (r : Fin 128) (j : Fin 384) : bias m c t h (ValueIdx.ix4 0 0 r j) = biased (m ((c : Thread nD τ).loc main_arg2)) (shift (tab t)) h r j := by
  obtain ⟨-, -, hi, -, -⟩ := idx t
  refine Eq.trans (congrArg (V m c main_v88) (funext fun a => Fin.ext ?_)) (Vbias m c (tab t) h r j)
  match a with
  | ⟨0, _⟩ =>
    show win0_2.index t 0 * 1 + 1 * (0 + 1 * 0) = (tab t).val
    rw [hi]; show (tab t).val * 1 + 1 * (0 + 1 * 0) = (tab t).val; omega
  | ⟨1, _⟩ =>
    show win0_2.index t 1 * 8 + 1 * (h.val + 1 * 0) = h.val
    rw [hi]; show 0 * 8 + 1 * (h.val + 1 * 0) = h.val; omega
  | ⟨2, _⟩ =>
    show win0_2.index t 2 * 128 + 1 * (0 + 1 * r.val) = r.val
    rw [hi]; show 0 * 128 + 1 * (0 + 1 * r.val) = r.val; omega
  | ⟨3, _⟩ =>
    show win0_2.index t 3 * 384 + 1 * (0 + 1 * j.val) = j.val
    rw [hi]; show 0 * 384 + 1 * (0 + 1 * j.val) = j.val; omega

theorem blk3 (t : Fin cfg0.N) (h : Fin 8) : sink m c t h (ValueIdx.ix2 0 0) = (m ((c : Thread nD τ).loc main_arg3) (ValueIdx.ix1 h) : EReal) := by
  obtain ⟨-, -, -, hi, -⟩ := idx t
  refine Eq.trans (congrArg (V m c main_v89) (funext fun a => Fin.ext ?_)) (Vsink m c h)
  match a with
  | ⟨0, _⟩ =>
    show win0_3.index t 0 * 1 + 1 * (0 + 1 * 0) = 0
    rw [hi]; show 0 * 1 + 1 * (0 + 1 * 0) = 0; omega
  | ⟨1, _⟩ =>
    show win0_3.index t 1 * 8 + 1 * (h.val + 1 * 0) = h.val
    rw [hi]; show 0 * 8 + 1 * (h.val + 1 * 0) = h.val; omega

/-- A step's scores are the reference's. -/
theorem sc_eq (t : Fin cfg0.N) (h : Fin 8) (r : Fin 128) (j : Fin 384) : sc (kv m c t) (iblk m c 0 t) (bias m c t) h r j
    = score (m ((c : Thread nD τ).loc main_arg0)) (m ((c : Thread nD τ).loc main_arg1)) (m ((c : Thread nD τ).loc main_arg2)) (bat t) h (qry t r) (key t j) := by
  unfold sc score
  rw [blk2]
  unfold biased
  rw [dist_rel]
  simp only [blk0, blk1]
  by_cases hn : (key t j).val ≤ (qry t r).val + 128 ∧ (qry t r).val ≤ (key t j).val + 128
  · rw [entry_rel _ _ hn, near_rel, if_pos hn]
    rfl
  · rw [near_rel, if_neg hn]
    exact EReal.add_bot _

/-- Queries, keys and biases are real numbers, and no sink is +∞. -/
def Tame : Prop := (∀ b q k, IsReal (m ((c : Thread nD τ).loc main_arg0) (ValueIdx.ix3 b q k)))
  ∧ (∀ b j h t, IsReal (m ((c : Thread nD τ).loc main_arg1) (ValueIdx.ix3 b j (kcol h t))))
  ∧ (∀ a h, IsReal (m ((c : Thread nD τ).loc main_arg2) (ValueIdx.ix2 a h)))
  ∧ ∀ h, Low (m ((c : Thread nD τ).loc main_arg3) (ValueIdx.ix1 h))

theorem eighth : IsReal (Ideal.ofBits .f32 0x3E000000#32) := by
  simp only [Ideal.ofBits, Ideal.ieee]
  exact IsReal.mul ⟨_, rfl⟩ ⟨_, rfl⟩

theorem real (hr : Tame m c) (b : Fin 16) (h : Fin 8) (q j : Fin 2048) (hn : j.val ≤ q.val + 128 ∧ q.val ≤ j.val + 128) :
    IsReal (score (m ((c : Thread nD τ).loc main_arg0)) (m ((c : Thread nD τ).loc main_arg1)) (m ((c : Thread nD τ).loc main_arg2)) b h q j) := by
  obtain ⟨h0, h1, h2, -⟩ := hr
  unfold score
  rw [near_rel, if_pos hn]
  exact IsReal.add (IsReal.mul (IsReal.sum _ _ fun t _ => IsReal.mul (h0 _ _ _) (h1 _ _ _ _)) eighth) (h2 _ _)

theorem low (hr : Tame m c) (b : Fin 16) (h : Fin 8) (q j : Fin 2048) :
    Low (score (m ((c : Thread nD τ).loc main_arg0)) (m ((c : Thread nD τ).loc main_arg1)) (m ((c : Thread nD τ).loc main_arg2)) b h q j) := by
  by_cases hn : j.val ≤ q.val + 128 ∧ q.val ≤ j.val + 128
  · exact .inl (real m c hr b h q j hn)
  · unfold score
    rw [near_rel, if_neg hn]
    exact .inr rfl

/-- What one grid point writes. -/
theorem point (hr : Tame m c) (t : Fin cfg0.N) (r : Fin 128) (h : Fin 8) (d : Fin 64) :
    stored (kv m c t) (iblk m c 0 t) (bias m c t) (sink m c t) (ValueIdx.ix3 0 r (lane h d))
      = val_main_v96 (F := Ideal) (m ((c : Thread nD τ).loc main_arg0)) (m ((c : Thread nD τ).loc main_arg1)) (m ((c : Thread nD τ).loc main_arg2)) (m ((c : Thread nD τ).loc main_arg3))
        (ValueIdx.ix3 (bat t) (qry t r) (lane h d)) := by
  refine (stored_apply _ _ _ _ h r d).trans ?_
  refine Eq.trans ?_ (ref _ _ _ _ (bat t) (qry t r) h d).symm
  refine Eq.trans ?_ (each_eq_window (key t) (key_inj t) _ _ _ (low m c hr (bat t) h (qry t r)) (qry t r)
    (real m c hr (bat t) h (qry t r) (qry t r) ⟨by omega, by omega⟩) (hr.2.2.2 h) fun j hj => ?_).symm
  · rw [blk3, funext (sc_eq m c t h r)]
    simp only [blk1]
  · unfold score
    rw [far t r j hj]
    rfl

/-- The array that the launch leaves. -/
theorem arr (hr : Tame m c) : (dats m 0 c).arrAt 4 cfg0.N
    = val_main_v96 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0 out0_A_4
  frame_out
  obtain ⟨a, r, n, rfl⟩ : ∃ (a : Fin 1) (r : Fin 128) (n : Fin 512), y = ValueIdx.ix3 a r n := ⟨_, _, _, ValueIdx.eq_ix3 y⟩
  obtain rfl : a = 0 := Subsingleton.elim _ _
  obtain ⟨h, d, rfl⟩ : ∃ (h : Fin 8) (d : Fin 64), n = lane h d :=
    ⟨⟨n.val / 64, by omega⟩, ⟨n.val % 64, by omega⟩, Fin.ext (by show n.val = 64 * (n.val / 64) + n.val % 64; omega)⟩
  refine (point m c hr t r h d).trans (congrArg (val_main_v96 (F := Ideal) _ _ _ _) (funext fun a => Fin.ext ?_))
  obtain ⟨-, -, -, -, hi⟩ := idx t
  match a with
  | ⟨0, _⟩ =>
    show (grid0.coords t 0).val = win0_4.index t 0 * 1 + 1 * 0
    rw [hi]; show _ = (grid0.coords t 0).val * 1 + 1 * 0; omega
  | ⟨1, _⟩ =>
    show (grid0.coords t 1).val * 128 + r.val = win0_4.index t 1 * 128 + 1 * r.val
    rw [hi]; show _ = (grid0.coords t 1).val * 128 + 1 * r.val; omega
  | ⟨2, _⟩ =>
    show (lane h d).val = win0_4.index t 2 * 512 + 1 * (lane h d).val
    rw [hi]; show _ = 0 * 512 + 1 * (lane h d).val; omega

end Cert.AttnVal

end
-- ==== Proof.Attn.Claim.lean ====
/- The value claim, from the array that the launch leaves and the reference's expression. -/
module

public import proofs.«01_k».proof.Defs
public import proofs.«01_k».proof.Proof.Gen.AttnRefIdeal.Run
public import proofs.«01_k».proof.Proof.Gen.AttnRefIdeal.Read
public import proofs.«01_k».proof.Proof.Attn.Value
public import proofs.«01_k».proof.Proof.Gen.Pre_attn_finite
public import proofs.«01_k».proof.Proof.Gen.AttnIdeal.Value

@[expose] public section

noncomputable section

namespace Cert.AttnVal

open Cert.FiniteVal Idealize.ShloMosaic Idealize.ShloMosaic.TcCoe Idealize.SL.Sem

/-- Below `+∞`. -/
theorem low_of_lt {x : EReal} (h : Ideal.cmp .olt x (Ideal.ofBits .f32 0x7F800000#32) = 1#1) : Low x := by
  have htop : Ideal.ofBits .f32 0x7F800000#32 = ⊤ := by simp [Ideal.ofBits, Ideal.ieee]
  rw [htop] at h
  have h' : x < ⊤ := by
    by_contra hc
    simp [Ideal.cmp, hc] at h
  by_cases hb : x = ⊥
  · exact .inr hb
  · exact .inl (of_ne h'.ne hb)

theorem tame (m : (ℓ : Loc Cert.AttnIdeal.nD Cert.AttnIdeal.τ Cert.AttnIdeal.sig) → Buf (Elt Ideal) ℓ) (c : Dev Cert.AttnIdeal.nD)
    (h : Cert.Pre_AttnIdeal_attn_finite m) : Tame m c := by
  obtain ⟨h0, h1, h2, h3⟩ := h c
  refine ⟨fun b q k => of_abs_lt (congrFun h0 (ValueIdx.ix3 b q k)), fun b j h t => ?_,
    fun a h => of_abs_lt (congrFun h2 (ValueIdx.ix2 a h)), fun h => low_of_lt (congrFun h3 (ValueIdx.ix1 h))⟩
  have e := congrFun h1 (ValueIdx.ix3 b j ⟨(kcol h t).val, by show 64 * (h.val / 4) + t.val < 128; omega⟩)
  refine Eq.mp (congrArg (fun i => IsReal (m ((c : Thread Cert.AttnIdeal.nD Cert.AttnIdeal.τ).loc Cert.AttnIdeal.main_arg1) i)) (funext fun a => Fin.ext ?_)) (of_abs_lt e)
  match a with
  | ⟨0, _⟩ => show 0 + b.val = b.val; omega
  | ⟨1, _⟩ => show 0 + j.val = j.val; omega
  | ⟨2, _⟩ => show 0 + (kcol h t).val = (kcol h t).val; omega

theorem algebraic : Cert.algebraic_AttnIdeal_AttnRefIdeal_pre_attn_finite := fun m g m' g' hp hargs =>
  ⟨fun c => Cert.AttnRefIdeal.Read.val_main_v96 (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) (m ((c.tc : Thread Cert.AttnIdeal.nD Cert.AttnIdeal.τ).loc Cert.AttnIdeal.main_arg3)),
    (θ_run _ _ _).mono (fun r h c => by
      obtain ⟨h0, k⟩ := h c
      exact ⟨h0.trans (arr m c (tame m c hp)), k⟩) (Cert.AttnIdeal.Value.run_blocks m g),
    (θ_run _ _ _).mono (fun r h c => by
      obtain ⟨a0, a1, a2, a3⟩ := hargs c
      obtain ⟨h0, k⟩ := h c
      refine ⟨?_, k⟩
      · refine h0.trans ?_
        simp only [← a0, ← a1, ← a2, ← a3]
        exact Cert.AttnRefIdeal.Read.val_main_v96_eq _ _) (Cert.AttnRefIdeal.Value.run m' g')⟩

end Cert.AttnVal
end
-- ==== Proof.Gmm.Table.lean ====
/- The expert of a row tile: the table that the launch reads is computed from a counter and a
   repetition alone, so its word for row tile `i` is `i / 32` whatever the arguments hold. -/
module

public import proofs.«01_k».proof.Proof.Gen.Gmm.Frame
public import proofs.«01_k».proof.Proof.Gen.GmmIdeal.Frame
public import Idealize.ShloMosaic.Lib.Pipeline.ValueKit

@[expose] public section

set_option maxRecDepth 16384

noncomputable section

namespace Cert.GmmVal.Bit

open Cert.Gmm Cert.Gmm.Gen Idealize.ShloMosaic Idealize.ShloMosaic.TcCoe Idealize.SL.Sem

variable {F : FTy → Type} [FloatOps F] (m : (ℓ : Loc nD τ sig) → Buf (Elt F) ℓ)

/-- The table's word at a place: the place divided by the 32 row tiles of one expert. -/
theorem word (i : S256.Idx) : V m (0 : Dev nD) main_v5 i = BitVec.ofNat 32 ((i 0).val / 32) := by
  entry_read
  pointwise

/-- The word an index map reads at a grid point: the expert of the point's row tile. -/
theorem first (i : grid0.Coords) :
    (tbl m).at 0 (Rect.unit (s := S256) ![(Scalar.indexCast (BitVec.ofNat 32 (i 0).val)).toNat] S1.size (k0_off1_inb i)) numel1_S1
      = BitVec.ofNat 32 ((i 0).val / 32) := by
  refine (word m _).trans ?_
  have h : (i 0).val < 256 := (i 0).isLt
  show BitVec.ofNat 32 (((Scalar.indexCast (BitVec.ofNat 32 (i 0).val)).toNat + 1 * 0) / 32) = _
  have e : (Scalar.indexCast (BitVec.ofNat 32 (i 0).val)).toNat = (i 0).val := by
    show (BitVec.ofNat 32 (i 0).val).toNat = _
    rw [BitVec.toNat_ofNat]; omega
  rw [e]; simp

/-- The block of the first two weights at a grid point: its expert, whole rows, its column block. -/
theorem at1 (i : grid0.Coords) : cc0_transform_1 k0_off1_inb numel1_S1 (tbl m) i = ![(i 0).val / 32, 0, (i 1).val] := by
  have h0 : (i 0).val < 256 := (i 0).isLt
  have h1 : (i 1).val < 7 := (i 1).isLt
  unfold cc0_transform_1
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · rfl
  · exact e1

theorem at2 (i : grid0.Coords) : cc0_transform_2 k0_off1_inb numel1_S1 (tbl m) i = ![(i 0).val / 32, 0, (i 1).val] := by
  have h0 : (i 0).val < 256 := (i 0).isLt
  have h1 : (i 1).val < 7 := (i 1).isLt
  unfold cc0_transform_2
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · rfl
  · exact e1

/-- The block of the third weight: its expert, its row block, whole columns. -/
theorem at3 (i : grid0.Coords) : cc0_transform_3 k0_off1_inb numel1_S1 (tbl m) i = ![(i 0).val / 32, (i 1).val, 0] := by
  have h0 : (i 0).val < 256 := (i 0).isLt
  have h1 : (i 1).val < 7 := (i 1).isLt
  unfold cc0_transform_3
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · exact e1
  · rfl

/-- The side condition of the launch: every block that the table names lies inside its array. -/
theorem ok : Ok m := by
  have h0 (i : grid0.Coords) : (i 0).val < 256 := (i 0).isLt
  have h1 (i : grid0.Coords) : (i 1).val < 7 := (i 1).isLt
  unfold Ok ok0
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [at1]; intro a; have := h0 i; have := h1 i
    fin_cases a <;> simp [S1x1024x512, S8x1024x3584] <;> omega
  · rw [at2]; intro a; have := h0 i; have := h1 i
    fin_cases a <;> simp [S1x1024x512, S8x1024x3584] <;> omega
  · rw [at3]; intro a; have := h0 i; have := h1 i
    fin_cases a <;> simp [S1x512x1024, S8x3584x1024] <;> omega

end Cert.GmmVal.Bit

namespace Cert.GmmVal

open Cert.GmmIdeal Cert.GmmIdeal.Gen Idealize.ShloMosaic Idealize.ShloMosaic.TcCoe Idealize.SL.Sem

variable {F : FTy → Type} [FloatOps F] (m : (ℓ : Loc nD τ sig) → Buf (Elt F) ℓ)

/-- The table's word at a place: the place divided by the 32 row tiles of one expert. -/
theorem word (i : S256.Idx) : V m (0 : Dev nD) main_v5 i = BitVec.ofNat 32 ((i 0).val / 32) := by
  entry_read
  pointwise

/-- The word an index map reads at a grid point: the expert of the point's row tile. -/
theorem first (i : grid0.Coords) :
    (tbl m).at 0 (Rect.unit (s := S256) ![(Scalar.indexCast (BitVec.ofNat 32 (i 0).val)).toNat] S1.size (k0_off1_inb i)) numel1_S1
      = BitVec.ofNat 32 ((i 0).val / 32) := by
  refine (word m _).trans ?_
  have h : (i 0).val < 256 := (i 0).isLt
  show BitVec.ofNat 32 (((Scalar.indexCast (BitVec.ofNat 32 (i 0).val)).toNat + 1 * 0) / 32) = _
  have e : (Scalar.indexCast (BitVec.ofNat 32 (i 0).val)).toNat = (i 0).val := by
    show (BitVec.ofNat 32 (i 0).val).toNat = _
    rw [BitVec.toNat_ofNat]; omega
  rw [e]; simp

/-- The block of the first two weights at a grid point: its expert, whole rows, its column block. -/
theorem at1 (i : grid0.Coords) : cc0_transform_1 k0_off1_inb numel1_S1 (tbl m) i = ![(i 0).val / 32, 0, (i 1).val] := by
  have h0 : (i 0).val < 256 := (i 0).isLt
  have h1 : (i 1).val < 7 := (i 1).isLt
  unfold cc0_transform_1
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · rfl
  · exact e1

theorem at2 (i : grid0.Coords) : cc0_transform_2 k0_off1_inb numel1_S1 (tbl m) i = ![(i 0).val / 32, 0, (i 1).val] := by
  have h0 : (i 0).val < 256 := (i 0).isLt
  have h1 : (i 1).val < 7 := (i 1).isLt
  unfold cc0_transform_2
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · rfl
  · exact e1

/-- The block of the third weight: its expert, its row block, whole columns. -/
theorem at3 (i : grid0.Coords) : cc0_transform_3 k0_off1_inb numel1_S1 (tbl m) i = ![(i 0).val / 32, (i 1).val, 0] := by
  have h0 : (i 0).val < 256 := (i 0).isLt
  have h1 : (i 1).val < 7 := (i 1).isLt
  unfold cc0_transform_3
  dsimp only
  rw [first m i]
  have e0 : (BitVec.ofNat 32 ((i 0).val / 32)).toNat = (i 0).val / 32 := by rw [BitVec.toNat_ofNat]; omega
  have e1 : (BitVec.ofNat 32 (i 1).val).toNat = (i 1).val := by rw [BitVec.toNat_ofNat]; omega
  funext a
  fin_cases a
  · exact e0
  · exact e1
  · rfl

/-- The side condition of the launch: every block that the table names lies inside its array. -/
theorem ok : Ok m := by
  have h0 (i : grid0.Coords) : (i 0).val < 256 := (i 0).isLt
  have h1 (i : grid0.Coords) : (i 1).val < 7 := (i 1).isLt
  unfold Ok ok0
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [at1]; intro a; have := h0 i; have := h1 i
    fin_cases a <;> simp [S1x1024x512, S8x1024x3584] <;> omega
  · rw [at2]; intro a; have := h0 i; have := h1 i
    fin_cases a <;> simp [S1x1024x512, S8x1024x3584] <;> omega
  · rw [at3]; intro a; have := h0 i; have := h1 i
    fin_cases a <;> simp [S1x512x1024, S8x3584x1024] <;> omega

end Cert.GmmVal

end
-- ==== Proof.Gmm.Point.lean ====
/- One grid step of the expert multiplication, and the reference, each at one entry. -/
module

public import proofs.«01_k».proof.Proof.Gen.GmmIdeal.Skeleton
public import proofs.«01_k».proof.Proof.Gen.GmmRefIdeal.Read
public import Idealize.ShloMosaic.Lib.Pipeline.ValueKit
public import Idealize.ShloMosaic.Lib.ValueIdxCore

@[expose] public section

set_option maxRecDepth 16384

noncomputable section

namespace Cert.GmmVal

open Cert.GmmIdeal Cert.GmmIdeal.Gen Idealize.ShloMosaic Idealize.ShloMosaic.TcCoe Idealize.SL.Sem

/-- The gated product of two numbers: `g · 1 / (1 + exp (−g)) · u`. -/
def gated (g u : EReal) : EReal := g * Ideal.div 1 (1 + Ideal.exp (0 - g)) * u

/-- What one grid step adds to the sum at row `r` and column `n`. -/
def part (x : Vec Ideal S1024x1024 .bf16) (g u : Vec Ideal S1x1024x512 .bf16) (d : Vec Ideal S1x512x1024 .bf16)
    (j : S1024x1024.Idx) : EReal :=
  ∑ l : Fin 512, gated (∑ k : Fin 1024, x (ValueIdx.ix2 (j 0) k) * g (ValueIdx.ix3 0 k l))
      (∑ k : Fin 1024, x (ValueIdx.ix2 (j 0) k) * u (ValueIdx.ix3 0 k l)) * d (ValueIdx.ix3 0 l (j 1))

theorem pay1 (j : S1024x1024.Idx) : k0_pay1 (F := Ideal) j = (0 : EReal) := by
  unfold k0_pay1
  pointwise

theorem pay2 (x : Vec Ideal S1024x1024 .bf16) (g u : Vec Ideal S1x1024x512 .bf16) (s : Vec Ideal S1024x1024 .f32)
    (d : Vec Ideal S1x512x1024 .bf16) (j : S1024x1024.Idx) : k0_pay2 x g u s d j = (s j : EReal) + part x g u d j := by
  unfold k0_pay2
  pointwise
  rfl

/-- Lane `l` of expert `e` at token `r`, times the down weight to column `n`. -/
def lane (x0 : S32768x1024.Idx → EReal) (x1 x2 : S8x1024x3584.Idx → EReal) (x3 : S8x3584x1024.Idx → EReal)
    (r : Fin 32768) (e : Fin 8) (n : Fin 1024) (l : Fin 3584) : EReal :=
  gated (∑ k : Fin 1024, x0 (ValueIdx.ix2 r k) * x1 (ValueIdx.ix3 e k l))
    (∑ k : Fin 1024, x0 (ValueIdx.ix2 r k) * x2 (ValueIdx.ix3 e k l)) * x3 (ValueIdx.ix3 e l n)

open Cert.GmmRefIdeal.Read in
/-- The reference at row `i 0` (expert `i 0 / 32768`, token `i 0 % 32768`) and column `i 1`. -/
theorem ref (x0 : (⟨S32768x1024, .bf16⟩ : BufTy).Contents (Elt Ideal)) (x1 x2 : (⟨S8x1024x3584, .f32⟩ : BufTy).Contents (Elt Ideal))
    (x3 : (⟨S8x3584x1024, .f32⟩ : BufTy).Contents (Elt Ideal)) (i : S262144x1024.Idx) (e : Fin 8) (r : Fin 32768) (n : Fin 1024)
    (h : (i 0).val = e.val * 32768 + r.val) (hn : (i 1).val = n.val) :
    val_main_v8 (F := Ideal) x0 x1 x2 x3 i
      = ∑ l : Fin 3584, lane x0 x1 x2 x3 r e n l := by
  simp only [val_main_v8_apply, val_main_v7_apply, val_main_v6_apply, val_main_v5_apply, val_main_v4_apply, val_main_v3_apply,
    val_main_v2_apply, val_main_v1_apply, val_main_v0_apply, val_main_call0_v5_apply, val_main_call0_v4_apply,
    val_main_call0_v3_apply, val_main_call0_v2_apply, val_main_call0_v1_apply, val_main_call0_v0_apply,
    val_main_call0_cst_apply, val_main_call0_cst_0_apply]
  refine Finset.sum_congr rfl fun l _ => ?_
  have i0 : (i 0).val < 262144 := (i 0).isLt
  have r0 := r.isLt
  have n0 := n.isLt
  have hw1 (k : Fin 1024) : lidx_main_v1 (idx_main_v2 (lidx_main_v7 (idx_main_v8 i) l)) k = ValueIdx.ix3 e k l := by
    funext a
    match a with
    | ⟨0, _⟩ => exact Fin.ext (show ((i 0).val * 1024 + (i 1).val) / 33554432 = e.val by omega)
    | ⟨1, _⟩ => rfl
    | ⟨2, _⟩ => rfl
  have hx1 (k : Fin 1024) : ridx_main_v1 (idx_main_v2 (lidx_main_v7 (idx_main_v8 i) l)) k = ValueIdx.ix2 r k := by
    funext a
    match a with
    | ⟨0, _⟩ => exact Fin.ext (show ((i 0).val * 1024 + (i 1).val) / 1024 % 32768 = r.val by omega)
    | ⟨1, _⟩ => rfl
  have hw3 (k : Fin 1024) : lidx_main_v3 (idx_main_v4 (lidx_main_v7 (idx_main_v8 i) l)) k = ValueIdx.ix3 e k l := hw1 k
  have hx3 (k : Fin 1024) : ridx_main_v3 (idx_main_v4 (lidx_main_v7 (idx_main_v8 i) l)) k = ValueIdx.ix2 r k := hx1 k
  have hd : ridx_main_v7 (idx_main_v8 i) l = ValueIdx.ix3 e l n := by
    funext a
    match a with
    | ⟨0, _⟩ => exact Fin.ext (show ((i 0).val * 1024 + (i 1).val) / 33554432 = e.val by omega)
    | ⟨1, _⟩ => rfl
    | ⟨2, _⟩ => exact Fin.ext (show ((i 0).val * 1024 + (i 1).val) % 1024 = n.val by omega)
  pointwise
  simp only [lane, hw1, hx1, hw3, hx3, hd, gated, mul_comm (x1 _), mul_comm (x2 _), zero_sub]

end Cert.GmmVal
end
-- ==== Proof.Gmm.Value.lean ====
/- The value of the expert multiplication: the array the launch leaves is the reference's. -/
module

public import proofs.«01_k».proof.Proof.Gmm.Table
public import proofs.«01_k».proof.Proof.Gmm.Point
public import Idealize.ShloMosaic.Lib.Pipeline.Covers

@[expose] public section

set_option maxRecDepth 16384

noncomputable section

namespace Cert.GmmVal

open Cert.GmmIdeal Cert.GmmIdeal.Gen Idealize.ShloMosaic Idealize.ShloMosaic.TcCoe Idealize.SL.Sem

variable (m : (ℓ : Loc nD τ sig) → Buf (Elt Ideal) ℓ)

/-- What the grid leaves of the output block at a point that writes it back. -/
theorem acc (c : Dev nD) (t : Fin (cfgM m (ok m)).N) (hf : t.val % 7 = 6) (j : S1024x1024.Idx) :
    (outsAt0 m (ok m) c t.val t.isLt).1 j
      = ∑ s : Fin 7, part (iblk m (ok m) c 0 ⟨7 * (t.val / 7) + s.val, by have := t.isLt; omega⟩)
         (iblk m (ok m) c 1 ⟨7 * (t.val / 7) + s.val, by have := t.isLt; omega⟩)
         (iblk m (ok m) c 2 ⟨7 * (t.val / 7) + s.val, by have := t.isLt; omega⟩)
         (iblk m (ok m) c 3 ⟨7 * (t.val / 7) + s.val, by have := t.isLt; omega⟩) j := by
  have h1 : (outsAt0 m (ok m) c t.val t.isLt).1 j = ((outsAt0 m (ok m) c t.val t.isLt).2 j : EReal) := by
    rw [outsAt0_C m (ok m) c t (by omega) hf]
    frame_out
    try rfl
  rw [h1, Pipeline.eq_sum_fin_of_reset_step_apply_of_flush (fun n h => (outsAt0 m (ok m) c n h).2) 7 (fun _ => (0 : EReal)) _
    (fun t h j => by
      rw [outsAt0_A m (ok m) c t h (by omega)]
      frame_out
      rw [pay2, pay1])
    (fun t h j => by
      by_cases h6 : t.val % 7 = 6
      · rw [outsAt0_C m (ok m) c t h h6]
        frame_out
        rw [pay2]
        exact congrArg (· + _) (congrFun (Memref.IsWhole.read_unread (Memref.isWhole_whole cc0_scratch0) _) j)
      · rw [outsAt0_B m (ok m) c t h h6]
        frame_out
        rw [pay2]
        exact congrArg (· + _) (congrFun (Memref.IsWhole.read_unread (Memref.isWhole_whole cc0_scratch0) _) j)) t hf j]
  rw [zero_add]
  refine Finset.sum_congr rfl fun s _ => ?_
  exact congrFun (congr (congr (congr (congrArg part (Memref.IsWhole.read_unread (hs0_0 m (ok m) _) _))
    (Memref.IsWhole.read_unread (hs0_1 m (ok m) _) _)) (Memref.IsWhole.read_unread (hs0_2 m (ok m) _) _))
    (Memref.IsWhole.read_unread (hs0_3 m (ok m) _) _)) j

/-- A grid point's two coordinates. -/
theorem coords (t : Fin (cfgM m (ok m)).N) : (grid0.coords t 0).val = t.val / 7 ∧ (grid0.coords t 1).val = t.val % 7 := by
  have h : t.val < 1792 := t.isLt
  constructor
  · show t.val / 7 % 256 = _
    omega
  · show t.val / 1 % 7 = _
    omega

theorem toNat32 (n : Nat) (h : n < 2 ^ 32) : (BitVec.ofNat 32 n).toNat = n := by
  rw [BitVec.toNat_ofNat, Nat.mod_eq_of_lt h]

theorem covers : ((cfgM m (ok m)).win 4).Covers := by
  refine ((cfgM m (ok m)).win 4).covers_of_indexMap_surj rfl
    (show ∀ a : Fin 2, 0 < S1024x1024.size a by decide) fun β => ?_
  have h0 : (β (0 : Fin 2)).val < 256 := lt_of_lt_of_eq (β (0 : Fin 2)).isLt (show (262144 + 1024 - 1) / 1024 = 256 by decide)
  have h1 : (β (1 : Fin 2)).val < 1 := lt_of_lt_of_eq (β (1 : Fin 2)).isLt (show (1024 + 1024 - 1) / 1024 = 1 by decide)
  refine ⟨fun a => match a with | ⟨0, _⟩ => (⟨(β (0 : Fin 2)).val, h0⟩ : Fin 256) | ⟨1, _⟩ => (0 : Fin 7), fun a => ?_⟩
  match a with
  | ⟨0, _⟩ =>
    show (BitVec.ofNat 32 (β (0 : Fin 2)).val).toNat = (β (0 : Fin 2)).val
    exact toNat32 _ (by omega)
  | ⟨1, _⟩ =>
    show 0 = (β (1 : Fin 2)).val
    omega

theorem V2 (c : Dev nD) (i : S262144x1024.Idx) (r : Fin 32768) (k : Fin 1024)
    (hr : r.val = (i 0).val % 32768) (hk : k.val = (i 1).val) :
    V m c main_v2 i = m ((c : Thread nD τ).loc main_arg0) (ValueIdx.ix2 r k) := by
  entry_read
  pointwise
  refine congrArg _ (funext fun a => Fin.ext ?_)
  match a with
  | ⟨0, _⟩ => exact hr.symm
  | ⟨1, _⟩ => exact hk.symm

theorem V6 (c : Dev nD) (i : S8x1024x3584.Idx) : V m c main_v6 i = (m ((c : Thread nD τ).loc main_arg1) i : EReal) := by
  entry_read
  pointwise

theorem V7 (c : Dev nD) (i : S8x1024x3584.Idx) : V m c main_v7 i = (m ((c : Thread nD τ).loc main_arg2) i : EReal) := by
  entry_read
  pointwise

theorem V8 (c : Dev nD) (i : S8x3584x1024.Idx) : V m c main_v8 i = (m ((c : Thread nD τ).loc main_arg3) i : EReal) := by
  entry_read
  pointwise

theorem blk0 (c : Dev nD) (t : Fin (cfgM m (ok m)).N) (y : S1024x1024.Idx) (r : Fin 32768) (k : Fin 1024)
    (hr : r.val = (t.val / 7 * 1024 + (y 0).val) % 32768) (hk : k.val = (y 1).val) :
    iblk m (ok m) c 0 t y = m ((c : Thread nD τ).loc main_arg0) (ValueIdx.ix2 r k) := by
  obtain ⟨c0, c1⟩ := coords m t
  have ht : t.val < 1792 := t.isLt
  refine V2 m c _ r k ?_ ?_
  · show _ = ((BitVec.ofNat 32 (grid0.coords t 0).val).toNat * 1024 + 1 * (y 0).val) % 32768
    rw [toNat32 _ (by omega), c0, hr]
    omega
  · show _ = 0 * 1024 + 1 * (y 1).val
    omega

theorem blk1 (c : Dev nD) (t : Fin (cfgM m (ok m)).N) (y : S1x1024x512.Idx) (e : Fin 8) (k : Fin 1024) (l : Fin 3584)
    (he : e.val = t.val / 7 / 32) (hk : k.val = (y 1).val) (hl : l.val = t.val % 7 * 512 + (y 2).val) :
    iblk m (ok m) c 1 t y = (m ((c : Thread nD τ).loc main_arg1) (ValueIdx.ix3 e k l) : EReal) := by
  obtain ⟨c0, c1⟩ := coords m t
  have ht : t.val < 1792 := t.isLt
  have y0 : (y 0).val < 1 := (y 0).isLt
  refine (V6 m c _).trans (congrArg _ (funext fun a => Fin.ext ?_))
  match a with
  | ⟨0, _⟩ =>
    show cc0_transform_1 k0_off1_inb numel1_S1 (tbl m) (grid0.coords t) 0 * 1 + 1 * (y 0).val = e.val
    rw [at1 m]
    show (grid0.coords t 0).val / 32 * 1 + 1 * (y 0).val = e.val
    omega
  | ⟨1, _⟩ =>
    show cc0_transform_1 k0_off1_inb numel1_S1 (tbl m) (grid0.coords t) 1 * 1024 + 1 * (y 1).val = k.val
    rw [at1 m]
    show 0 * 1024 + 1 * (y 1).val = k.val
    omega
  | ⟨2, _⟩ =>
    show cc0_transform_1 k0_off1_inb numel1_S1 (tbl m) (grid0.coords t) 2 * 512 + 1 * (y 2).val = l.val
    rw [at1 m]
    show (grid0.coords t 1).val * 512 + 1 * (y 2).val = l.val
    omega

theorem blk2 (c : Dev nD) (t : Fin (cfgM m (ok m)).N) (y : S1x1024x512.Idx) (e : Fin 8) (k : Fin 1024) (l : Fin 3584)
    (he : e.val = t.val / 7 / 32) (hk : k.val = (y 1).val) (hl : l.val = t.val % 7 * 512 + (y 2).val) :
    iblk m (ok m) c 2 t y = (m ((c : Thread nD τ).loc main_arg2) (ValueIdx.ix3 e k l) : EReal) := by
  obtain ⟨c0, c1⟩ := coords m t
  have ht : t.val < 1792 := t.isLt
  have y0 : (y 0).val < 1 := (y 0).isLt
  refine (V7 m c _).trans (congrArg _ (funext fun a => Fin.ext ?_))
  match a with
  | ⟨0, _⟩ =>
    show cc0_transform_2 k0_off1_inb numel1_S1 (tbl m) (grid0.coords t) 0 * 1 + 1 * (y 0).val = e.val
    rw [at2 m]
    show (grid0.coords t 0).val / 32 * 1 + 1 * (y 0).val = e.val
    omega
  | ⟨1, _⟩ =>
    show cc0_transform_2 k0_off1_inb numel1_S1 (tbl m) (grid0.coords t) 1 * 1024 + 1 * (y 1).val = k.val
    rw [at2 m]
    show 0 * 1024 + 1 * (y 1).val = k.val
    omega
  | ⟨2, _⟩ =>
    show cc0_transform_2 k0_off1_inb numel1_S1 (tbl m) (grid0.coords t) 2 * 512 + 1 * (y 2).val = l.val
    rw [at2 m]
    show (grid0.coords t 1).val * 512 + 1 * (y 2).val = l.val
    omega

theorem blk3 (c : Dev nD) (t : Fin (cfgM m (ok m)).N) (y : S1x512x1024.Idx) (e : Fin 8) (l : Fin 3584) (n : Fin 1024)
    (he : e.val = t.val / 7 / 32) (hl : l.val = t.val % 7 * 512 + (y 1).val) (hn : n.val = (y 2).val) :
    iblk m (ok m) c 3 t y = (m ((c : Thread nD τ).loc main_arg3) (ValueIdx.ix3 e l n) : EReal) := by
  obtain ⟨c0, c1⟩ := coords m t
  have ht : t.val < 1792 := t.isLt
  have y0 : (y 0).val < 1 := (y 0).isLt
  refine (V8 m c _).trans (congrArg _ (funext fun a => Fin.ext ?_))
  match a with
  | ⟨0, _⟩ =>
    show cc0_transform_3 k0_off1_inb numel1_S1 (tbl m) (grid0.coords t) 0 * 1 + 1 * (y 0).val = e.val
    rw [at3 m]
    show (grid0.coords t 0).val / 32 * 1 + 1 * (y 0).val = e.val
    omega
  | ⟨1, _⟩ =>
    show cc0_transform_3 k0_off1_inb numel1_S1 (tbl m) (grid0.coords t) 1 * 512 + 1 * (y 1).val = l.val
    rw [at3 m]
    show (grid0.coords t 1).val * 512 + 1 * (y 1).val = l.val
    omega
  | ⟨2, _⟩ =>
    show cc0_transform_3 k0_off1_inb numel1_S1 (tbl m) (grid0.coords t) 2 * 1024 + 1 * (y 2).val = n.val
    rw [at3 m]
    show 0 * 1024 + 1 * (y 2).val = n.val
    omega

/-- What the grid step at `t` adds, from the arguments: the row's token `r`, the expert `e`, the lanes `t % 7 * 512 …`. -/
theorem partAt (c : Dev nD) (t : Fin (cfgM m (ok m)).N) (y : S1024x1024.Idx) (r : Fin 32768) (e : Fin 8)
    (hr : r.val = (t.val / 7 * 1024 + (y 0).val) % 32768) (he : e.val = t.val / 7 / 32)
    (at512 : Fin 512 → Fin 3584) (hl : ∀ l, (at512 l).val = t.val % 7 * 512 + l.val) :
    part (iblk m (ok m) c 0 t) (iblk m (ok m) c 1 t) (iblk m (ok m) c 2 t) (iblk m (ok m) c 3 t) y
      = ∑ l : Fin 512, lane (m ((c : Thread nD τ).loc main_arg0)) (m ((c : Thread nD τ).loc main_arg1)) (m ((c : Thread nD τ).loc main_arg2)) (m ((c : Thread nD τ).loc main_arg3)) r e (y 1) (at512 l) := by
  unfold part
  refine Finset.sum_congr rfl fun l _ => ?_
  have h0 (k : Fin 1024) := blk0 m c t (ValueIdx.ix2 (y 0) k) r k hr rfl
  have h1 (k : Fin 1024) := blk1 m c t (ValueIdx.ix3 0 k l) e k (at512 l) he rfl (hl l)
  have h2 (k : Fin 1024) := blk2 m c t (ValueIdx.ix3 0 k l) e k (at512 l) he rfl (hl l)
  have h3 := blk3 m c t (ValueIdx.ix3 0 l (y 1)) e (at512 l) (y 1) he (hl l) rfl
  exact congrArg₂ (fun a b : EReal => a * b) (congrArg₂ gated
    (Finset.sum_congr rfl fun k _ => congrArg₂ (fun a b : EReal => a * b) (h0 k) (h1 k))
    (Finset.sum_congr rfl fun k _ => congrArg₂ (fun a b : EReal => a * b) (h0 k) (h2 k))) h3

open Cert.GmmRefIdeal.Read in
/-- The array the launch leaves is the reference's. -/
theorem arr (c : Dev nD) : (dats m (ok m) 0 c).arrAt 4 (cfgM m (ok m)).N
    = val_main_v8 (F := Ideal) (m ((c : Thread nD τ).loc main_arg0)) (m ((c : Thread nD τ).loc main_arg1))
        (m ((c : Thread nD τ).loc main_arg2)) (m ((c : Thread nD τ).loc main_arg3)) := by
  refine (dats m (ok m) 0 c).arrAt_eq_of_covers 4 _ (covers m) fun t hf y => ?_
  have h6 : t.val % 7 = 6 := (flush0_4 _ t).mp hf
  have ht : t.val < 1792 := t.isLt
  obtain ⟨c0, c1⟩ := coords m t
  blk_simp
  rw [after0_4]
  refine (acc m c t h6 y).trans ?_
  have y0 : (y (0 : Fin 2)).val < 1024 := (y (0 : Fin 2)).isLt
  have y1 : (y (1 : Fin 2)).val < 1024 := (y (1 : Fin 2)).isLt
  refine Eq.trans ?_ (ref _ _ _ _ _ ⟨t.val / 7 / 32, by omega⟩ ⟨(t.val / 7 * 1024 + (y (0 : Fin 2)).val) % 32768, by omega⟩ ⟨(y (1 : Fin 2)).val, y1⟩ (by
      show (BitVec.ofNat 32 (grid0.coords t 0).val).toNat * 1024 + 1 * (y (0 : Fin 2)).val = t.val / 7 / 32 * 32768 + (t.val / 7 * 1024 + (y (0 : Fin 2)).val) % 32768
      rw [toNat32 _ (by omega), c0]
      omega) (by
      show 0 * 1024 + 1 * (y (1 : Fin 2)).val = (y (1 : Fin 2)).val
      omega)).symm
  refine Eq.trans (Finset.sum_congr rfl fun s _ => partAt m c ⟨7 * (t.val / 7) + s.val, by have := s.isLt; show _ < 1792; omega⟩ y
    ⟨(t.val / 7 * 1024 + (y (0 : Fin 2)).val) % 32768, by omega⟩ ⟨t.val / 7 / 32, by omega⟩
    (by have := s.isLt; show _ = ((7 * (t.val / 7) + s.val) / 7 * 1024 + (y (0 : Fin 2)).val) % 32768; dsimp only; omega)
    (by have := s.isLt; show _ = (7 * (t.val / 7) + s.val) / 7 / 32; dsimp only; omega)
    (fun l => ⟨s.val * 512 + l.val, by have := s.isLt; have := l.isLt; omega⟩)
    (fun l => by have := s.isLt; show _ = (7 * (t.val / 7) + s.val) % 7 * 512 + l.val; dsimp only; omega)) ?_
  exact Fin.sum_mul_add_fin 7 512 (lane (m ((c : Thread nD τ).loc main_arg0)) (m ((c : Thread nD τ).loc main_arg1)) (m ((c : Thread nD τ).loc main_arg2)) (m ((c : Thread nD τ).loc main_arg3))
    ⟨(t.val / 7 * 1024 + (y (0 : Fin 2)).val) % 32768, by omega⟩ ⟨t.val / 7 / 32, by omega⟩ ⟨(y (1 : Fin 2)).val, y1⟩)

end Cert.GmmVal
end
-- ==== Proof.Gmm.Claim.lean ====
/- The claims about the expert multiplication, each from its own theorem. -/
module

public import proofs.«01_k».proof.Defs
public import proofs.«01_k».proof.Proof.Gmm.Value
public import proofs.«01_k».proof.Proof.Gen.GmmRefIdeal.Run

@[expose] public section

noncomputable section

namespace Cert.GmmVal

open Idealize.ShloMosaic Idealize.ShloMosaic.TcCoe Idealize.SL.Sem

open Cert.GmmIdeal Cert.GmmIdeal.Gen in
/-- The kernel's run: its result is the reference's expression of its arguments, which stay as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9) = Cert.GmmRefIdeal.Read.val_main_v8 (F := Ideal) (m ((c : Thread nD τ).loc main_arg0))
        (m ((c : Thread nD τ).loc main_arg1)) (m ((c : Thread nD τ).loc main_arg2)) (m ((c : Thread nD τ).loc main_arg3)) :=
  (θ_run defs _ _).mono (fun r h c => ((h c).1 4).trans (arr m c)) (run_main m ρ (ok m))

theorem algebraic : Cert.algebraic_GmmIdeal_GmmRefIdeal := fun m g m' g' _ hargs =>
  ⟨fun c => Cert.GmmRefIdeal.Read.val_main_v8 (F := Ideal) (m ((c.tc : Thread Cert.GmmIdeal.nD Cert.GmmIdeal.τ).loc Cert.GmmIdeal.main_arg0)) (m ((c.tc : Thread Cert.GmmIdeal.nD Cert.GmmIdeal.τ).loc Cert.GmmIdeal.main_arg1)) (m ((c.tc : Thread Cert.GmmIdeal.nD Cert.GmmIdeal.τ).loc Cert.GmmIdeal.main_arg2)) (m ((c.tc : Thread Cert.GmmIdeal.nD Cert.GmmIdeal.τ).loc Cert.GmmIdeal.main_arg3)),
    (θ_run _ _ _).mono (fun r h c => ⟨h.1 c, h.2 c⟩) (θ_run_and (run m g) (Cert.GmmIdeal.Gen.unchanged m g (ok m))),
    (θ_run _ _ _).mono (fun r h c => by
      obtain ⟨a0, a1, a2, a3⟩ := hargs c
      obtain ⟨h0, k⟩ := h c
      refine ⟨?_, k⟩
      refine h0.trans ?_
      simp only [a0, a1, a2, a3]
      exact Cert.GmmRefIdeal.Read.val_main_v8_eq _ _ _ _) (Cert.GmmRefIdeal.Value.run m' g')⟩

end Cert.GmmVal
end
-- ==== Proof.Combine.Point.lean ====
/- One grid step of the expert sum with its layer norm, and the reference, each at one entry. -/
module

public import proofs.«01_k».proof.Proof.Gen.CombineIdeal.Skeleton
public import proofs.«01_k».proof.Proof.Gen.CombineRefIdeal.Read
public import Idealize.ShloMosaic.Lib.Pipeline.ValueKit
public import Idealize.ShloMosaic.Lib.ValueIdxCore
public import proofs.«01_k».proof.Proof.Norm

@[expose] public section

set_option maxRecDepth 16384

noncomputable section

namespace Cert.CombineVal

open Cert.CombineIdeal Cert.CombineIdeal.Gen Idealize.ShloMosaic Idealize.ShloMosaic.TcCoe Idealize.SL.Sem

theorem pay1 (j : S512x1024.Idx) : k0_pay1 (F := Ideal) j = (0 : EReal) := by
  unfold k0_pay1
  pointwise

theorem cmpi_eq_one (a : BitVec 32) : IntOp.cmpi .eq a a = 1#1 := by
  simp [IntOp.cmpi]

theorem cmpi_eq_zero (a b : BitVec 32) (h : a ≠ b) : IntOp.cmpi .eq a b = 0#1 := by
  have h' : (a == b) = false := beq_eq_false_iff_ne.mpr h
  simp [IntOp.cmpi, h']

theorem pay2 (i : grid0.Coords) (w : Vec Ideal S512x8 .f32) (s : Vec Ideal S512x1024 .f32) (y : Vec Ideal S1x512x1024 .f32) (j : S512x1024.Idx) :
    k0_pay2 i w s y j = (s j : EReal) + w (ValueIdx.ix2 (j 0) ⟨(i 1).val, (i 1).isLt⟩) * y (ValueIdx.ix3 0 (j 0) (j 1)) := by
  unfold k0_pay2
  pointwise
  refine congrArg (fun a : EReal => s j + a * y (ValueIdx.ix3 0 (j 0) (j 1))) ?_
  refine (Finset.sum_eq_single (⟨(i 1).val, (i 1).isLt⟩ : Fin 8) (fun e _ he => ?_) (fun h => absurd (Finset.mem_univ _) h)).trans ?_
  · have hne : e.val ≠ (i 1).val := fun h => he (Fin.ext h)
    have h1 : (i 1).val < 8 := (i 1).isLt
    have h2 := e.isLt
    rw [cmpi_eq_zero _ _ (fun h => hne (by have := congrArg BitVec.toNat h; simp only [BitVec.toNat_ofNat] at this; omega))]
    rfl
  · rw [cmpi_eq_one]
    rfl

theorem pay3 (h s : Vec Ideal S512x1024 .f32) (g b : Vec Ideal S1x1024 .f32) (j : S512x1024.Idx) :
    k0_pay3 h s g b j = NormVal.norm (fun k => NormVal.resid (h (ValueIdx.ix2 (j 0) k)) (s (ValueIdx.ix2 (j 0) k)))
      (g (ValueIdx.ix2 0 (j 1))) (b (ValueIdx.ix2 0 (j 1))) (j 1) := by
  obtain ⟨r, n, rfl⟩ : ∃ r n, j = ValueIdx.ix2 r n := ⟨_, _, ValueIdx.eq_ix2 j⟩
  unfold k0_pay3
  pointwise
  rfl

/-- What the experts add to token `r` at column `n`. -/
def experts (x0 : S262144x1024.Idx → EReal) (x1 : S32768x8.Idx → EReal) (r : Fin 32768) (n : Fin 1024) : EReal :=
  ∑ e : Fin 8, x1 (ValueIdx.ix2 r e) * x0 (ValueIdx.ix2 ⟨e.val * 32768 + r.val, by have := e.isLt; have := r.isLt; omega⟩ n)

open Cert.CombineRefIdeal.Read in
theorem ref (x0 : (⟨S262144x1024, .f32⟩ : BufTy).Contents (Elt Ideal)) (x1 : (⟨S32768x8, .f32⟩ : BufTy).Contents (Elt Ideal))
    (x2 : (⟨S32768x1024, .f32⟩ : BufTy).Contents (Elt Ideal)) (x3 x4 : (⟨S1024, .f32⟩ : BufTy).Contents (Elt Ideal))
    (r : Fin 32768) (n : Fin 1024) : val_main_v76 (F := Ideal) x0 x1 x2 x3 x4 (ValueIdx.ix2 r n)
      = NormVal.norm (fun k => NormVal.resid (x2 (ValueIdx.ix2 r k)) (experts x0 x1 r k)) (x3 (ValueIdx.ix1 n)) (x4 (ValueIdx.ix1 n)) n := by
  have hx : ∀ k, val_main_v49 (F := Ideal) x0 x1 (ValueIdx.ix2 r k) = experts x0 x1 r k := fun k => by
    simp only [val_main_v0_apply, val_main_cst_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply]
    unfold experts
    rw [Fin.sum_univ_eight]
    have a0 : idx_main_v2 (idx_main_v5 (ValueIdx.ix2 r k)) = ValueIdx.ix2 r 0 := by
      funext a; match a with | ⟨0, _⟩ => rfl | ⟨1, _⟩ => rfl
    have b0 : idx_main_v0 (idx_main_v3 (idx_main_v4 (ValueIdx.ix2 r k))) = ValueIdx.ix2 ⟨((0 : Fin 8)).val * 32768 + r.val, by have := r.isLt; show 0 * 32768 + r.val < 262144; omega⟩ k := by
      funext a
      match a with
      | ⟨0, _⟩ => exact Fin.ext (show ((0 * 32768 + (r.val * 1024 + k.val) / 1024 % 32768) * 1024 + (r.val * 1024 + k.val) % 1024) / 1024 = 0 * 32768 + r.val by have := r.isLt; have := k.isLt; omega)
      | ⟨1, _⟩ => exact Fin.ext (show ((0 * 32768 + (r.val * 1024 + k.val) / 1024 % 32768) * 1024 + (r.val * 1024 + k.val) % 1024) % 1024 = k.val by have := r.isLt; have := k.isLt; omega)
    have a1 : idx_main_v8 (idx_main_v11 (ValueIdx.ix2 r k)) = ValueIdx.ix2 r 1 := by
      funext a; match a with | ⟨0, _⟩ => rfl | ⟨1, _⟩ => rfl
    have b1 : idx_main_v0 (idx_main_v9 (idx_main_v10 (ValueIdx.ix2 r k))) = ValueIdx.ix2 ⟨((1 : Fin 8)).val * 32768 + r.val, by have := r.isLt; show 1 * 32768 + r.val < 262144; omega⟩ k := by
      funext a
      match a with
      | ⟨0, _⟩ => exact Fin.ext (show ((1 * 32768 + (r.val * 1024 + k.val) / 1024 % 32768) * 1024 + (r.val * 1024 + k.val) % 1024) / 1024 = 1 * 32768 + r.val by have := r.isLt; have := k.isLt; omega)
      | ⟨1, _⟩ => exact Fin.ext (show ((1 * 32768 + (r.val * 1024 + k.val) / 1024 % 32768) * 1024 + (r.val * 1024 + k.val) % 1024) % 1024 = k.val by have := r.isLt; have := k.isLt; omega)
    have a2 : idx_main_v14 (idx_main_v17 (ValueIdx.ix2 r k)) = ValueIdx.ix2 r 2 := by
      funext a; match a with | ⟨0, _⟩ => rfl | ⟨1, _⟩ => rfl
    have b2 : idx_main_v0 (idx_main_v15 (idx_main_v16 (ValueIdx.ix2 r k))) = ValueIdx.ix2 ⟨((2 : Fin 8)).val * 32768 + r.val, by have := r.isLt; show 2 * 32768 + r.val < 262144; omega⟩ k := by
      funext a
      match a with
      | ⟨0, _⟩ => exact Fin.ext (show ((2 * 32768 + (r.val * 1024 + k.val) / 1024 % 32768) * 1024 + (r.val * 1024 + k.val) % 1024) / 1024 = 2 * 32768 + r.val by have := r.isLt; have := k.isLt; omega)
      | ⟨1, _⟩ => exact Fin.ext (show ((2 * 32768 + (r.val * 1024 + k.val) / 1024 % 32768) * 1024 + (r.val * 1024 + k.val) % 1024) % 1024 = k.val by have := r.isLt; have := k.isLt; omega)
    have a3 : idx_main_v20 (idx_main_v23 (ValueIdx.ix2 r k)) = ValueIdx.ix2 r 3 := by
      funext a; match a with | ⟨0, _⟩ => rfl | ⟨1, _⟩ => rfl
    have b3 : idx_main_v0 (idx_main_v21 (idx_main_v22 (ValueIdx.ix2 r k))) = ValueIdx.ix2 ⟨((3 : Fin 8)).val * 32768 + r.val, by have := r.isLt; show 3 * 32768 + r.val < 262144; omega⟩ k := by
      funext a
      match a with
      | ⟨0, _⟩ => exact Fin.ext (show ((3 * 32768 + (r.val * 1024 + k.val) / 1024 % 32768) * 1024 + (r.val * 1024 + k.val) % 1024) / 1024 = 3 * 32768 + r.val by have := r.isLt; have := k.isLt; omega)
      | ⟨1, _⟩ => exact Fin.ext (show ((3 * 32768 + (r.val * 1024 + k.val) / 1024 % 32768) * 1024 + (r.val * 1024 + k.val) % 1024) % 1024 = k.val by have := r.isLt; have := k.isLt; omega)
    have a4 : idx_main_v26 (idx_main_v29 (ValueIdx.ix2 r k)) = ValueIdx.ix2 r 4 := by
      funext a; match a with | ⟨0, _⟩ => rfl | ⟨1, _⟩ => rfl
    have b4 : idx_main_v0 (idx_main_v27 (idx_main_v28 (ValueIdx.ix2 r k))) = ValueIdx.ix2 ⟨((4 : Fin 8)).val * 32768 + r.val, by have := r.isLt; show 4 * 32768 + r.val < 262144; omega⟩ k := by
      funext a
      match a with
      | ⟨0, _⟩ => exact Fin.ext (show ((4 * 32768 + (r.val * 1024 + k.val) / 1024 % 32768) * 1024 + (r.val * 1024 + k.val) % 1024) / 1024 = 4 * 32768 + r.val by have := r.isLt; have := k.isLt; omega)
      | ⟨1, _⟩ => exact Fin.ext (show ((4 * 32768 + (r.val * 1024 + k.val) / 1024 % 32768) * 1024 + (r.val * 1024 + k.val) % 1024) % 1024 = k.val by have := r.isLt; have := k.isLt; omega)
    have a5 : idx_main_v32 (idx_main_v35 (ValueIdx.ix2 r k)) = ValueIdx.ix2 r 5 := by
      funext a; match a with | ⟨0, _⟩ => rfl | ⟨1, _⟩ => rfl
    have b5 : idx_main_v0 (idx_main_v33 (idx_main_v34 (ValueIdx.ix2 r k))) = ValueIdx.ix2 ⟨((5 : Fin 8)).val * 32768 + r.val, by have := r.isLt; show 5 * 32768 + r.val < 262144; omega⟩ k := by
      funext a
      match a with
      | ⟨0, _⟩ => exact Fin.ext (show ((5 * 32768 + (r.val * 1024 + k.val) / 1024 % 32768) * 1024 + (r.val * 1024 + k.val) % 1024) / 1024 = 5 * 32768 + r.val by have := r.isLt; have := k.isLt; omega)
      | ⟨1, _⟩ => exact Fin.ext (show ((5 * 32768 + (r.val * 1024 + k.val) / 1024 % 32768) * 1024 + (r.val * 1024 + k.val) % 1024) % 1024 = k.val by have := r.isLt; have := k.isLt; omega)
    have a6 : idx_main_v38 (idx_main_v41 (ValueIdx.ix2 r k)) = ValueIdx.ix2 r 6 := by
      funext a; match a with | ⟨0, _⟩ => rfl | ⟨1, _⟩ => rfl
    have b6 : idx_main_v0 (idx_main_v39 (idx_main_v40 (ValueIdx.ix2 r k))) = ValueIdx.ix2 ⟨((6 : Fin 8)).val * 32768 + r.val, by have := r.isLt; show 6 * 32768 + r.val < 262144; omega⟩ k := by
      funext a
      match a with
      | ⟨0, _⟩ => exact Fin.ext (show ((6 * 32768 + (r.val * 1024 + k.val) / 1024 % 32768) * 1024 + (r.val * 1024 + k.val) % 1024) / 1024 = 6 * 32768 + r.val by have := r.isLt; have := k.isLt; omega)
      | ⟨1, _⟩ => exact Fin.ext (show ((6 * 32768 + (r.val * 1024 + k.val) / 1024 % 32768) * 1024 + (r.val * 1024 + k.val) % 1024) % 1024 = k.val by have := r.isLt; have := k.isLt; omega)
    have a7 : idx_main_v44 (idx_main_v47 (ValueIdx.ix2 r k)) = ValueIdx.ix2 r 7 := by
      funext a; match a with | ⟨0, _⟩ => rfl | ⟨1, _⟩ => rfl
    have b7 : idx_main_v0 (idx_main_v45 (idx_main_v46 (ValueIdx.ix2 r k))) = ValueIdx.ix2 ⟨((7 : Fin 8)).val * 32768 + r.val, by have := r.isLt; show 7 * 32768 + r.val < 262144; omega⟩ k := by
      funext a
      match a with
      | ⟨0, _⟩ => exact Fin.ext (show ((7 * 32768 + (r.val * 1024 + k.val) / 1024 % 32768) * 1024 + (r.val * 1024 + k.val) % 1024) / 1024 = 7 * 32768 + r.val by have := r.isLt; have := k.isLt; omega)
      | ⟨1, _⟩ => exact Fin.ext (show ((7 * 32768 + (r.val * 1024 + k.val) / 1024 % 32768) * 1024 + (r.val * 1024 + k.val) % 1024) % 1024 = k.val by have := r.isLt; have := k.isLt; omega)
    simp only [a0, b0, a1, b1, a2, b2, a3, b3, a4, b4, a5, b5, a6, b6, a7, b7]
    pointwise
  simp only [val_main_cst_0_apply, val_main_v50_apply, val_main_v51_apply, val_main_v52_apply, val_main_cst_1_apply, val_main_v53_apply, val_main_v54_apply, val_main_cst_2_apply, val_main_v55_apply, val_main_v56_apply, val_main_v57_apply, val_main_v58_apply, val_main_v59_apply, val_main_cst_3_apply, val_main_v60_apply, val_main_v61_apply, val_main_cst_4_apply, val_main_v62_apply, val_main_v63_apply, val_main_v64_apply, val_main_v65_apply, val_main_cst_5_apply, val_main_v66_apply, val_main_v67_apply, val_main_v68_apply, val_main_v69_apply, val_main_v70_apply, val_main_v71_apply, val_main_v72_apply, val_main_v73_apply, val_main_v74_apply, val_main_v75_apply, val_main_v76_apply]
  pointwise
  have e53 : ∀ k, idx_main_v53 (idx_main_v54 (idx_main_v64 (ValueIdx.ix2 r n))) k = ValueIdx.ix2 r k := fun k => by
    funext a; match a with | ⟨0, _⟩ => rfl | ⟨1, _⟩ => rfl
  have e60 : ∀ k, idx_main_v60 (idx_main_v61 (idx_main_v69 (ValueIdx.ix2 r n))) k = ValueIdx.ix2 r k := fun k => by
    funext a; match a with | ⟨0, _⟩ => rfl | ⟨1, _⟩ => rfl
  have e57 : ∀ k l, idx_main_v53 (idx_main_v54 (idx_main_v57 (ValueIdx.ix2 r k))) l = ValueIdx.ix2 r l := fun k l => by
    funext a; match a with | ⟨0, _⟩ => rfl | ⟨1, _⟩ => rfl
  have e71 : idx_main_v71 (idx_main_v72 (ValueIdx.ix2 r n)) = ValueIdx.ix1 n := by
    funext a; match a with | ⟨0, _⟩ => rfl
  have e74 : idx_main_v74 (idx_main_v75 (ValueIdx.ix2 r n)) = ValueIdx.ix1 n := by
    funext a; match a with | ⟨0, _⟩ => rfl
  simp only [e53, e60, e57, e71, e74, hx]
  rfl

end Cert.CombineVal
end
-- ==== Proof.Combine.Value.lean ====
/- The value of the combination: the array the launch leaves is the reference's. -/
module

public import proofs.«01_k».proof.Proof.Combine.Point
public import proofs.«01_k».proof.Proof.Gen.CombineIdeal.Value
public import Idealize.ShloMosaic.Lib.Pipeline.Covers

@[expose] public section

set_option maxRecDepth 16384

noncomputable section

namespace Cert.CombineVal

open Cert.CombineIdeal Cert.CombineIdeal.Gen Idealize.ShloMosaic Idealize.ShloMosaic.TcCoe Idealize.SL.Sem

variable (m : (ℓ : Loc nD τ sig) → Buf (Elt Ideal) ℓ)

/-- What one grid step adds to the carried sum at an entry: its expert's weight for the row, times the expert's row. -/
def step (e : Fin 8) (w : S512x8.Idx → EReal) (y : S1x512x1024.Idx → EReal) (j : S512x1024.Idx) : EReal :=
  w (ValueIdx.ix2 (j 0) e) * y (ValueIdx.ix3 0 (j 0) (j 1))

/-- What the grid has carried at a point that writes back. -/
theorem acc (c : Dev nD) (t : Fin cfg0.N) (hf : t.val % 8 = 7) (j : S512x1024.Idx) :
    (outsAt0 m c t.val t.isLt).2 j
      = ∑ s : Fin 8, step (grid0.coords ⟨8 * (t.val / 8) + s.val, by have : t.val < 512 := t.isLt; show _ < 512; omega⟩ 1)
         (iblk m c 1 ⟨8 * (t.val / 8) + s.val, by have := t.isLt; omega⟩)
         (iblk m c 0 ⟨8 * (t.val / 8) + s.val, by have := t.isLt; omega⟩) j := by
  rw [Pipeline.eq_sum_fin_of_reset_step_apply_of_flush (fun n h => (outsAt0 m c n h).2) 8 (fun _ => (0 : EReal)) _
    (fun t h j => by
      rw [outsAt0_A m c t h (by omega)]
      frame_out
      rw [pay2, pay1])
    (fun t h j => by
      by_cases h6 : t.val % 8 = 7
      · rw [outsAt0_C m c t h h6]
        frame_out
        rw [pay2]
        exact congrArg (· + _) (congrFun (Memref.IsWhole.read_unread (Memref.isWhole_whole cc0_scratch0) _) j)
      · rw [outsAt0_B m c t h h6]
        frame_out
        rw [pay2]
        exact congrArg (· + _) (congrFun (Memref.IsWhole.read_unread (Memref.isWhole_whole cc0_scratch0) _) j)) t hf j]
  rw [zero_add]
  refine Finset.sum_congr rfl fun s _ => ?_
  rfl

/-- What the last step of a row block writes: the layer norm of the carried sum added to the stream. -/
theorem out (c : Dev nD) (t : Fin cfg0.N) (hf : t.val % 8 = 7) (j : S512x1024.Idx) :
    (outsAt0 m c t.val t.isLt).1 j
      = k0_pay3 (iblk m c 2 t) (outsAt0 m c t.val t.isLt).2 (iblk m c 3 t) (iblk m c 4 t) j := by
  rw [outsAt0_C m c t (by omega) hf]
  frame_out

theorem idx : ∀ t : Fin cfg0.N, win0_0.index t = ![t.val % 8, t.val / 8, 0]
    ∧ win0_1.index t = ![t.val / 8, 0]
    ∧ win0_2.index t = ![t.val / 8, 0]
    ∧ win0_3.index t = ![0, 0]
    ∧ win0_4.index t = ![0, 0]
    ∧ win0_5.index t = ![t.val / 8, 0] ∧ (grid0.coords t 1).val = t.val % 8 := by decide +kernel

theorem V0 (c : Dev nD) (i : S8x32768x1024.Idx) (q : Fin 262144) (k : Fin 1024)
    (hq : q.val = (i 0).val * 32768 + (i 1).val) (hk : k.val = (i 2).val) :
    V m c main_v0 i = m ((c : Thread nD τ).loc main_arg0) (ValueIdx.ix2 q k) := by
  entry_read
  pointwise
  refine congrArg _ (funext fun a => Fin.ext ?_)
  match a with
  | ⟨0, _⟩ => exact hq.symm
  | ⟨1, _⟩ => exact hk.symm

theorem V1 (c : Dev nD) (i : S1x1024.Idx) :
    V m c main_v1 i = m ((c : Thread nD τ).loc main_arg3) (ValueIdx.ix1 (i 1)) := by
  entry_read
  pointwise
  rfl

theorem V2 (c : Dev nD) (i : S1x1024.Idx) :
    V m c main_v2 i = m ((c : Thread nD τ).loc main_arg4) (ValueIdx.ix1 (i 1)) := by
  entry_read
  pointwise
  rfl

theorem blk0 (c : Dev nD) (t : Fin cfg0.N) (y : S1x512x1024.Idx) (q : Fin 262144) (k : Fin 1024)
    (hq : q.val = t.val % 8 * 32768 + (t.val / 8 * 512 + (y 1).val)) (hk : k.val = (y 2).val) :
    iblk m c 0 t y = m ((c : Thread nD τ).loc main_arg0) (ValueIdx.ix2 q k) := by
  have hi := (idx t).1
  have y0 : (y 0).val < 1 := (y 0).isLt
  refine V0 m c _ q k ?_ ?_
  · show _ = (win0_0.index t 0 * 1 + 1 * (y 0).val) * 32768 + (win0_0.index t 1 * 512 + 1 * (y 1).val)
    rw [hi, hq]
    show _ = (t.val % 8 * 1 + 1 * (y 0).val) * 32768 + (t.val / 8 * 512 + 1 * (y 1).val)
    omega
  · show _ = win0_0.index t 2 * 1024 + 1 * (y 2).val
    rw [hi, hk]
    show _ = 0 * 1024 + 1 * (y 2).val
    omega

theorem blk1 (c : Dev nD) (t : Fin cfg0.N) (y : S512x8.Idx) (r : Fin 32768) (e : Fin 8)
    (hr : r.val = t.val / 8 * 512 + (y 0).val) (he : e.val = (y 1).val) :
    iblk m c 1 t y = m ((c : Thread nD τ).loc main_arg1) (ValueIdx.ix2 r e) := by
  have hi := (idx t).2.1
  refine congrArg (m ((c : Thread nD τ).loc main_arg1)) (funext fun a => Fin.ext ?_)
  match a with
  | ⟨0, _⟩ =>
    show win0_1.index t 0 * 512 + 1 * (y 0).val = r.val
    rw [hi, hr]
    show t.val / 8 * 512 + 1 * (y 0).val = _
    omega
  | ⟨1, _⟩ =>
    show win0_1.index t 1 * 8 + 1 * (y 1).val = e.val
    rw [hi, he]
    show 0 * 8 + 1 * (y 1).val = _
    omega

theorem blk2 (c : Dev nD) (t : Fin cfg0.N) (y : S512x1024.Idx) (r : Fin 32768) (k : Fin 1024)
    (hr : r.val = t.val / 8 * 512 + (y 0).val) (hk : k.val = (y 1).val) :
    iblk m c 2 t y = m ((c : Thread nD τ).loc main_arg2) (ValueIdx.ix2 r k) := by
  have hi := (idx t).2.2.1
  refine congrArg (m ((c : Thread nD τ).loc main_arg2)) (funext fun a => Fin.ext ?_)
  match a with
  | ⟨0, _⟩ =>
    show win0_2.index t 0 * 512 + 1 * (y 0).val = r.val
    rw [hi, hr]
    show t.val / 8 * 512 + 1 * (y 0).val = _
    omega
  | ⟨1, _⟩ =>
    show win0_2.index t 1 * 1024 + 1 * (y 1).val = k.val
    rw [hi, hk]
    show 0 * 1024 + 1 * (y 1).val = _
    omega

theorem blk3 (c : Dev nD) (t : Fin cfg0.N) (n : Fin 1024) :
    iblk m c 3 t (ValueIdx.ix2 0 n) = m ((c : Thread nD τ).loc main_arg3) (ValueIdx.ix1 n) := by
  have hi := (idx t).2.2.2.1
  refine (V1 m c _).trans (congrArg _ (funext fun a => Fin.ext ?_))
  match a with
  | ⟨0, _⟩ =>
    show win0_3.index t 1 * 1024 + 1 * n.val = n.val
    rw [hi]
    show 0 * 1024 + 1 * n.val = _
    omega

theorem blk4 (c : Dev nD) (t : Fin cfg0.N) (n : Fin 1024) :
    iblk m c 4 t (ValueIdx.ix2 0 n) = m ((c : Thread nD τ).loc main_arg4) (ValueIdx.ix1 n) := by
  have hi := (idx t).2.2.2.2.1
  refine (V2 m c _).trans (congrArg _ (funext fun a => Fin.ext ?_))
  match a with
  | ⟨0, _⟩ =>
    show win0_4.index t 1 * 1024 + 1 * n.val = n.val
    rw [hi]
    show 0 * 1024 + 1 * n.val = _
    omega

/-- The carried sum is what the experts add to the row's token. -/
theorem accAt (c : Dev nD) (t : Fin cfg0.N) (hf : t.val % 8 = 7) (j : S512x1024.Idx) (r : Fin 32768) (n : Fin 1024)
    (hr : r.val = t.val / 8 * 512 + (j 0).val) (hn : n.val = (j 1).val) :
    (outsAt0 m c t.val t.isLt).2 j = experts (m ((c : Thread nD τ).loc main_arg0)) (m ((c : Thread nD τ).loc main_arg1)) r n := by
  have ht : t.val < 512 := t.isLt
  refine (acc m c t hf j).trans (Finset.sum_congr rfl fun s _ => ?_)
  have hs := s.isLt
  refine congrArg₂ (fun a b : EReal => a * b) (blk1 m c _ _ r s ?_ ?_) (blk0 m c _ _ _ n ?_ hn)
  · show _ = (8 * (t.val / 8) + s.val) / 8 * 512 + (j 0).val
    omega
  · show s.val = (grid0.coords ⟨8 * (t.val / 8) + s.val, by show _ < 512; omega⟩ 1).val
    rw [(idx _).2.2.2.2.2.2]
    show s.val = (8 * (t.val / 8) + s.val) % 8
    omega
  · show s.val * 32768 + r.val = (8 * (t.val / 8) + s.val) % 8 * 32768 + ((8 * (t.val / 8) + s.val) / 8 * 512 + (j 0).val)
    omega

open Cert.CombineRefIdeal.Read in
/-- The array the launch leaves is the reference's. -/
theorem arr (c : Dev nD) : (dats m 0 c).arrAt 5 cfg0.N
    = val_main_v76 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h7 : t.val % 8 = 7 := (flush0_5 t).mp hf
  have ht : t.val < 512 := t.isLt
  have hi := (idx t).2.2.2.2.2.1
  blk_simp
  rw [after0_5]
  have y0 : (y (0 : Fin 2)).val < 512 := (y (0 : Fin 2)).isLt
  have y1 : (y (1 : Fin 2)).val < 1024 := (y (1 : Fin 2)).isLt
  refine (out m c t h7 y).trans ((pay3 _ _ _ _ y).trans ?_)
  refine Eq.trans ?_ ((congrArg (val_main_v76 (F := Ideal) _ _ _ _ _) (funext fun a => Fin.ext ?_)).trans
    (ref _ _ _ _ _ ⟨t.val / 8 * 512 + (y (0 : Fin 2)).val, by omega⟩ ⟨(y (1 : Fin 2)).val, y1⟩)).symm
  · refine congr (congr (congr (congrArg NormVal.norm (funext fun k => ?_)) (blk3 m c t _)) (blk4 m c t _)) rfl
    exact congrArg₂ NormVal.resid (blk2 m c t _ _ k rfl rfl) (accAt m c t h7 _ _ k rfl rfl)
  · match a with
    | ⟨0, _⟩ =>
      show win0_5.index t 0 * 512 + 1 * (y (0 : Fin 2)).val = t.val / 8 * 512 + (y (0 : Fin 2)).val
      rw [hi]
      show t.val / 8 * 512 + 1 * (y (0 : Fin 2)).val = _
      omega
    | ⟨1, _⟩ =>
      show win0_5.index t 1 * 1024 + 1 * (y (1 : Fin 2)).val = (y (1 : Fin 2)).val
      rw [hi]
      show 0 * 1024 + 1 * (y (1 : Fin 2)).val = _
      omega

end Cert.CombineVal
end
-- ==== Proof.Combine.Claim.lean ====
/- The value claim, from the arrays that the launch leaves and the reference's expressions. -/
module

public import proofs.«01_k».proof.Defs
public import proofs.«01_k».proof.Proof.Gen.CombineRefIdeal.Run
public import proofs.«01_k».proof.Proof.Gen.CombineRefIdeal.Read
public import proofs.«01_k».proof.Proof.Combine.Value
public import proofs.«01_k».proof.Proof.Gen.CombineIdeal.Value

@[expose] public section

noncomputable section

namespace Cert.CombineVal

open Idealize.ShloMosaic Idealize.ShloMosaic.TcCoe Idealize.SL.Sem

theorem algebraic : Cert.algebraic_CombineIdeal_CombineRefIdeal := fun m g m' g' _ hargs =>
  ⟨fun c => Cert.CombineRefIdeal.Read.val_main_v76 (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)),
    (θ_run _ _ _).mono (fun r h c => by
      obtain ⟨h0, k⟩ := h c
      exact ⟨h0.trans (arr m c), k⟩) (Cert.CombineIdeal.Value.run_blocks m g),
    (θ_run _ _ _).mono (fun r h c => by
      obtain ⟨a0, a1, a2, a3, a4⟩ := hargs c
      obtain ⟨h0, k⟩ := h c
      refine ⟨?_, k⟩
      · refine h0.trans ?_
        simp only [← a0, ← a1, ← a2, ← a3, ← a4]
        exact Cert.CombineRefIdeal.Read.val_main_v76_eq m' c) (Cert.CombineRefIdeal.Value.run m' g')⟩

end Cert.CombineVal
end
-- ==== Proof.Inproj.Value.lean ====
/- The input projection: each of the seven arrays the launch leaves is the product of the hidden
   states with its own columns of the projection weights. -/
module

public import proofs.«01_k».proof.Proof.Gen.InprojIdeal.Value
public import proofs.«01_k».proof.Proof.Gen.InprojRefIdeal.Read
public import Idealize.ShloMosaic.Lib.Pipeline.ValueKit

@[expose] public section

set_option maxRecDepth 16384

noncomputable section

namespace Cert.Inproj.Val

open Cert.InprojIdeal Cert.InprojIdeal.Gen Idealize.ShloMosaic Idealize.ShloMosaic.TcCoe Idealize.SL.Sem
open Cert.InprojRefIdeal.Read

variable (m : (ℓ : Loc nD τ sig) → Buf (Elt Ideal) ℓ) (c : Dev nD)

/-- Where each window stands at a grid point: the rows of the hidden states and of every result move
    with the point, each block of weights stays whole. -/
theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![(grid0.coords t 0).val, 0]
    ∧ win0_9.index t = ![(grid0.coords t 0).val, 0]
    ∧ win0_10.index t = ![(grid0.coords t 0).val, 0]
    ∧ win0_11.index t = ![(grid0.coords t 0).val, 0]
    ∧ win0_12.index t = ![(grid0.coords t 0).val, 0]
    ∧ win0_13.index t = ![(grid0.coords t 0).val, 0]
    ∧ win0_14.index t = ![(grid0.coords t 0).val, 0] := by decide +kernel

/-- Result 0 is the reference's: block by block, the same sum of products. -/
theorem arr8 : (dats m 0 c).arrAt 8 cfg0.N
    = val_main_v9 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  simp only [val_main_v9_apply, val_main_v2_apply, val_main_v1_apply, val_main_v0_apply]
  unfold k0_pay3
  pointwise
  blk_point [iblk, V, idx t]

/-- Result 1 is the reference's: block by block, the same sum of products. -/
theorem arr9 : (dats m 0 c).arrAt 9 cfg0.N
    = val_main_v10 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  frame_out
  simp only [val_main_v10_apply, val_main_v3_apply, val_main_v1_apply, val_main_v0_apply]
  unfold k0_pay4
  pointwise
  blk_point [iblk, V, idx t]

/-- Result 2 is the reference's: block by block, the same sum of products. -/
theorem arr10 : (dats m 0 c).arrAt 10 cfg0.N
    = val_main_v4 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  frame_out
  simp only [val_main_v4_apply, val_main_v1_apply, val_main_v0_apply]
  unfold k0_pay5
  pointwise
  blk_point [iblk, V, idx t]

/-- Result 3 is the reference's: block by block, the same sum of products. -/
theorem arr11 : (dats m 0 c).arrAt 11 cfg0.N
    = val_main_v11 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  frame_out
  simp only [val_main_v11_apply, val_main_v5_apply, val_main_v1_apply, val_main_v0_apply]
  unfold k0_pay6
  pointwise
  blk_point [iblk, V, idx t]

/-- Result 4 is the reference's: block by block, the same sum of products. -/
theorem arr12 : (dats m 0 c).arrAt 12 cfg0.N
    = val_main_v6 (F := Ideal) (m ((c : Thread nD τ).loc main_arg0)) (m ((c : Thread nD τ).loc main_arg1)) := by
  refine (dats m 0 c).arrAt_eq_of_covers 12 _ (by decide +kernel) fun t hf y => ?_
  blk_simp
  rw [after0_12]
  frame_out
  simp only [val_main_v6_apply, val_main_v1_apply, val_main_v0_apply]
  unfold k0_pay7
  pointwise
  blk_point [iblk, V, idx t]

/-- Result 5 is the reference's: block by block, the same sum of products. -/
theorem arr13 : (dats m 0 c).arrAt 13 cfg0.N
    = val_main_v12 (F := Ideal) (m ((c : Thread nD τ).loc main_arg0)) (m ((c : Thread nD τ).loc main_arg1)) := by
  refine (dats m 0 c).arrAt_eq_of_covers 13 _ (by decide +kernel) fun t hf y => ?_
  blk_simp
  rw [after0_13]
  frame_out
  simp only [val_main_v12_apply, val_main_v7_apply, val_main_v1_apply, val_main_v0_apply]
  unfold k0_pay1
  pointwise
  blk_point [iblk, V, idx t]

/-- Result 6 is the reference's: block by block, the same sum of products. -/
theorem arr14 : (dats m 0 c).arrAt 14 cfg0.N
    = val_main_v13 (F := Ideal) (m ((c : Thread nD τ).loc main_arg0)) (m ((c : Thread nD τ).loc main_arg1)) := by
  refine (dats m 0 c).arrAt_eq_of_covers 14 _ (by decide +kernel) fun t hf y => ?_
  blk_simp
  rw [after0_14]
  frame_out
  simp only [val_main_v13_apply, val_main_v8_apply, val_main_v1_apply, val_main_v0_apply]
  unfold k0_pay2
  pointwise
  blk_point [iblk, V, idx t]

end Cert.Inproj.Val

end
-- ==== Proof.Inproj.Claim.lean ====
/- The value claim, from the arrays that the launch leaves and the reference's expressions. -/
module

public import proofs.«01_k».proof.Defs
public import proofs.«01_k».proof.Proof.Gen.InprojRefIdeal.Run
public import proofs.«01_k».proof.Proof.Gen.InprojRefIdeal.Read
public import proofs.«01_k».proof.Proof.Inproj.Value
public import proofs.«01_k».proof.Proof.Gen.InprojIdeal.Value

@[expose] public section

noncomputable section

namespace Cert.InprojVal

open Idealize.ShloMosaic Idealize.ShloMosaic.TcCoe Idealize.SL.Sem

theorem algebraic : Cert.algebraic_InprojIdeal_InprojRefIdeal := fun m g m' g' _ hargs =>
  ⟨fun c => Cert.InprojRefIdeal.Read.val_main_v9 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v10 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v4 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v11 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v6 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v12 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    fun c => Cert.InprojRefIdeal.Read.val_main_v13 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)),
    (θ_run _ _ _).mono (fun r h c => by
      obtain ⟨h0, h1, h2, h3, h4, h5, h6, k⟩ := h c
      exact ⟨h0.trans (Cert.Inproj.Val.arr8 m c), h1.trans (Cert.Inproj.Val.arr9 m c), h2.trans (Cert.Inproj.Val.arr10 m c), h3.trans (Cert.Inproj.Val.arr11 m c), h4.trans (Cert.Inproj.Val.arr12 m c), h5.trans (Cert.Inproj.Val.arr13 m c), h6.trans (Cert.Inproj.Val.arr14 m c), k⟩) (Cert.InprojIdeal.Value.run_blocks m g),
    (θ_run _ _ _).mono (fun r h c => by
      obtain ⟨a0, a1⟩ := hargs c
      obtain ⟨h0, h1, h2, h3, h4, h5, h6, k⟩ := h c
      refine ⟨?_, ?_, ?_, ?_, ?_, ?_, ?_, k⟩
      · refine h0.trans ?_
        simp only [a0, a1]
        exact Cert.InprojRefIdeal.Read.val_main_v9_eq _ _
      · refine h1.trans ?_
        simp only [a0, a1]
        exact Cert.InprojRefIdeal.Read.val_main_v10_eq _ _
      · refine h2.trans ?_
        simp only [a0, a1]
        exact Cert.InprojRefIdeal.Read.val_main_v4_eq _ _
      · refine h3.trans ?_
        simp only [a0, a1]
        exact Cert.InprojRefIdeal.Read.val_main_v11_eq _ _
      · refine h4.trans ?_
        simp only [a0, a1]
        exact Cert.InprojRefIdeal.Read.val_main_v6_eq _ _
      · refine h5.trans ?_
        simp only [a0, a1]
        exact Cert.InprojRefIdeal.Read.val_main_v12_eq _ _
      · refine h6.trans ?_
        simp only [a0, a1]
        exact Cert.InprojRefIdeal.Read.val_main_v13_eq _ _ ) (Cert.InprojRefIdeal.Value.run m' g')⟩

end Cert.InprojVal
end
-- ==== Proof.Ffn.Point.lean ====
/- One grid step of the dense feed-forward block, its last step, and the reference, each at one entry. -/
module

public import proofs.«01_k».proof.Proof.Gen.FfnIdeal.Skeleton
public import proofs.«01_k».proof.Proof.Gen.FfnRefIdeal.Read
public import Idealize.ShloMosaic.Lib.Pipeline.ValueKit
public import Idealize.ShloMosaic.Lib.ValueIdxCore
public import proofs.«01_k».proof.Proof.Norm

@[expose] public section

set_option maxRecDepth 16384

noncomputable section

namespace Cert.FfnVal

open Cert.FfnIdeal Cert.FfnIdeal.Gen Idealize.ShloMosaic Idealize.ShloMosaic.TcCoe Idealize.SL.Sem

/-- The gated product of two numbers: `g · 1 / (1 + exp (−g)) · u`. -/
def gated (g u : EReal) : EReal := g * Ideal.div 1 (1 + Ideal.exp (0 - g)) * u

/-- What one grid step adds to the sum at row `r` and column `n`. -/
def part (x : Vec Ideal S1024x1024 .bf16) (g u : Vec Ideal S1x1024x256 .bf16) (d : Vec Ideal S1x256x1024 .bf16)
    (j : S1024x1024.Idx) : EReal :=
  ∑ l : Fin 256, gated (∑ k : Fin 1024, x (ValueIdx.ix2 (j 0) k) * g (ValueIdx.ix3 0 k l))
      (∑ k : Fin 1024, x (ValueIdx.ix2 (j 0) k) * u (ValueIdx.ix3 0 k l)) * d (ValueIdx.ix3 0 l (j 1))

theorem pay3 (j : S1024x1024.Idx) : k0_pay3 (F := Ideal) j = (0 : EReal) := by
  unfold k0_pay3
  pointwise

theorem pay4 (x : Vec Ideal S1024x1024 .bf16) (g u : Vec Ideal S1x1024x256 .bf16) (s : Vec Ideal S1024x1024 .f32)
    (d : Vec Ideal S1x256x1024 .bf16) (j : S1024x1024.Idx) : k0_pay4 x g u s d j = (s j : EReal) + part x g u d j := by
  unfold k0_pay4
  pointwise
  rfl

theorem pay1 (h s : Vec Ideal S1024x1024 .f32) (g b : Vec Ideal S1x1024 .f32) (j : S1024x1024.Idx) :
    k0_pay1 h s g b j = NormVal.norm (fun k => NormVal.resid (h (ValueIdx.ix2 (j 0) k)) (s (ValueIdx.ix2 (j 0) k)))
      (g (ValueIdx.ix2 0 (j 1))) (b (ValueIdx.ix2 0 (j 1))) (j 1) := by
  obtain ⟨r, n, rfl⟩ : ∃ r n, j = ValueIdx.ix2 r n := ⟨_, _, ValueIdx.eq_ix2 j⟩
  unfold k0_pay1
  pointwise
  rfl

/-- The rounded result is the same number. -/
theorem pay2 (h s : Vec Ideal S1024x1024 .f32) (g b : Vec Ideal S1x1024 .f32) (j : S1024x1024.Idx) :
    k0_pay2 h s g b j = (k0_pay1 h s g b j : EReal) := by
  unfold k0_pay2
  pointwise

/-- Lane `l` of the block at token `r`, times the down weight to column `n`. -/
def lane (x0 : S32768x1024.Idx → EReal) (x1 x2 : S1024x2816.Idx → EReal) (x3 : S2816x1024.Idx → EReal)
    (r : Fin 32768) (n : Fin 1024) (l : Fin 2816) : EReal :=
  gated (∑ k : Fin 1024, x0 (ValueIdx.ix2 r k) * x1 (ValueIdx.ix2 k l))
    (∑ k : Fin 1024, x0 (ValueIdx.ix2 r k) * x2 (ValueIdx.ix2 k l)) * x3 (ValueIdx.ix2 l n)

open Cert.FfnRefIdeal.Read in
theorem ref (x0 : (⟨S32768x1024, .f32⟩ : BufTy).Contents (Elt Ideal)) (x1 x2 : (⟨S1024x2816, .f32⟩ : BufTy).Contents (Elt Ideal))
    (x3 : (⟨S2816x1024, .f32⟩ : BufTy).Contents (Elt Ideal)) (x4 x5 : (⟨S1024, .f32⟩ : BufTy).Contents (Elt Ideal))
    (r : Fin 32768) (n : Fin 1024) : val_main_v31 (F := Ideal) x0 x1 x2 x3 x4 x5 (ValueIdx.ix2 r n)
      = NormVal.norm (fun k => NormVal.resid (x0 (ValueIdx.ix2 r k)) (∑ l, lane x0 x1 x2 x3 r k l))
          (x4 (ValueIdx.ix1 n)) (x5 (ValueIdx.ix1 n)) n := by
  have hx : ∀ k, val_main_v4 (F := Ideal) x0 x1 x2 x3 (ValueIdx.ix2 r k) = ∑ l, lane x0 x1 x2 x3 r k l := fun k => by
    simp only [val_main_v0_apply, val_main_call0_v0_apply, val_main_call0_v1_apply, val_main_call0_cst_apply, val_main_call0_v2_apply, val_main_call0_v3_apply, val_main_call0_cst_0_apply, val_main_call0_v4_apply, val_main_call0_v5_apply, val_main_v1_apply, val_main_v2_apply, val_main_v3_apply, val_main_v4_apply]
    refine Finset.sum_congr rfl fun l _ => ?_
    have e0 (q : Fin 1024) : lidx_main_v0 (lidx_main_v4 (ValueIdx.ix2 r k) l) q = ValueIdx.ix2 r q := by
      funext a; match a with | ⟨0, _⟩ => rfl | ⟨1, _⟩ => rfl
    have f0 (q : Fin 1024) : ridx_main_v0 (lidx_main_v4 (ValueIdx.ix2 r k) l) q = ValueIdx.ix2 q l := by
      funext a; match a with | ⟨0, _⟩ => rfl | ⟨1, _⟩ => rfl
    have e2 (q : Fin 1024) : lidx_main_v2 (lidx_main_v4 (ValueIdx.ix2 r k) l) q = ValueIdx.ix2 r q := by
      funext a; match a with | ⟨0, _⟩ => rfl | ⟨1, _⟩ => rfl
    have f2 (q : Fin 1024) : ridx_main_v2 (lidx_main_v4 (ValueIdx.ix2 r k) l) q = ValueIdx.ix2 q l := by
      funext a; match a with | ⟨0, _⟩ => rfl | ⟨1, _⟩ => rfl
    have f4 : ridx_main_v4 (ValueIdx.ix2 r k) l = ValueIdx.ix2 l k := by
      funext a; match a with | ⟨0, _⟩ => rfl | ⟨1, _⟩ => rfl
    pointwise
    simp only [lane, e0, f0, e2, f2, f4, gated, zero_sub]
  simp only [val_main_cst_apply, val_main_v5_apply, val_main_v6_apply, val_main_v7_apply, val_main_cst_0_apply, val_main_v8_apply, val_main_v9_apply, val_main_cst_1_apply, val_main_v10_apply, val_main_v11_apply, val_main_v12_apply, val_main_v13_apply, val_main_v14_apply, val_main_cst_2_apply, val_main_v15_apply, val_main_v16_apply, val_main_cst_3_apply, val_main_v17_apply, val_main_v18_apply, val_main_v19_apply, val_main_v20_apply, val_main_cst_4_apply, val_main_v21_apply, val_main_v22_apply, val_main_v23_apply, val_main_v24_apply, val_main_v25_apply, val_main_v26_apply, val_main_v27_apply, val_main_v28_apply, val_main_v29_apply, val_main_v30_apply, val_main_v31_apply]
  pointwise
  have a8 : ∀ k, idx_main_v8 (idx_main_v9 (idx_main_v19 (ValueIdx.ix2 r n))) k = ValueIdx.ix2 r k := fun k => by
    funext a; match a with | ⟨0, _⟩ => rfl | ⟨1, _⟩ => rfl
  have a15 : ∀ k, idx_main_v15 (idx_main_v16 (idx_main_v24 (ValueIdx.ix2 r n))) k = ValueIdx.ix2 r k := fun k => by
    funext a; match a with | ⟨0, _⟩ => rfl | ⟨1, _⟩ => rfl
  have a12 : ∀ k l, idx_main_v8 (idx_main_v9 (idx_main_v12 (ValueIdx.ix2 r k))) l = ValueIdx.ix2 r l := fun k l => by
    funext a; match a with | ⟨0, _⟩ => rfl | ⟨1, _⟩ => rfl
  have a26 : idx_main_v26 (idx_main_v27 (ValueIdx.ix2 r n)) = ValueIdx.ix1 n := by
    funext a; match a with | ⟨0, _⟩ => rfl
  have a29 : idx_main_v29 (idx_main_v30 (ValueIdx.ix2 r n)) = ValueIdx.ix1 n := by
    funext a; match a with | ⟨0, _⟩ => rfl
  simp only [a8, a15, a12, a26, a29, hx]
  rfl

open Cert.FfnRefIdeal.Read in
/-- The reference's rounded result is the same number. -/
theorem refRounded (x0 : (⟨S32768x1024, .f32⟩ : BufTy).Contents (Elt Ideal)) (x1 x2 : (⟨S1024x2816, .f32⟩ : BufTy).Contents (Elt Ideal))
    (x3 : (⟨S2816x1024, .f32⟩ : BufTy).Contents (Elt Ideal)) (x4 x5 : (⟨S1024, .f32⟩ : BufTy).Contents (Elt Ideal))
    (i : S32768x1024.Idx) :
    val_main_v32 (F := Ideal) x0 x1 x2 x3 x4 x5 i = (val_main_v31 (F := Ideal) x0 x1 x2 x3 x4 x5 i : EReal) := by
  rw [val_main_v32_apply]
  rfl

end Cert.FfnVal
end
-- ==== Proof.Ffn.Value.lean ====
/- The value of the dense feed-forward block: the arrays the launch leaves are the reference's. -/
module

public import proofs.«01_k».proof.Proof.Ffn.Point
public import proofs.«01_k».proof.Proof.Gen.FfnIdeal.Value
public import Idealize.ShloMosaic.Lib.Pipeline.Covers

@[expose] public section

set_option maxRecDepth 16384

noncomputable section

namespace Cert.FfnVal

open Cert.FfnIdeal Cert.FfnIdeal.Gen Idealize.ShloMosaic Idealize.ShloMosaic.TcCoe Idealize.SL.Sem

variable (m : (ℓ : Loc nD τ sig) → Buf (Elt Ideal) ℓ)

/-- What the grid has carried at a point that writes back. -/
theorem acc (c : Dev nD) (t : Fin cfg0.N) (hf : t.val % 11 = 10) (j : S1024x1024.Idx) :
    (outsAt0 m c t.val t.isLt).2.2 j
      = ∑ s : Fin 11, part (iblk m c 0 ⟨11 * (t.val / 11) + s.val, by have := t.isLt; omega⟩)
         (iblk m c 2 ⟨11 * (t.val / 11) + s.val, by have := t.isLt; omega⟩)
         (iblk m c 3 ⟨11 * (t.val / 11) + s.val, by have := t.isLt; omega⟩)
         (iblk m c 4 ⟨11 * (t.val / 11) + s.val, by have := t.isLt; omega⟩) j := by
  rw [Pipeline.eq_sum_fin_of_reset_step_apply_of_flush (fun n h => (outsAt0 m c n h).2.2) 11 (fun _ => (0 : EReal)) _
    (fun t h j => by
      rw [outsAt0_A m c t h (by omega)]
      frame_out
      rw [pay4, pay3])
    (fun t h j => by
      by_cases h6 : t.val % 11 = 10
      · rw [outsAt0_C m c t h h6]
        frame_out
        rw [pay4]
        exact congrArg (· + _) (congrFun (Memref.IsWhole.read_unread (Memref.isWhole_whole cc0_scratch0) _) j)
      · rw [outsAt0_B m c t h h6]
        frame_out
        rw [pay4]
        exact congrArg (· + _) (congrFun (Memref.IsWhole.read_unread (Memref.isWhole_whole cc0_scratch0) _) j)) t hf j]
  rw [zero_add]

/-- What the last step of a row block writes: the layer norm of the carried sum added to the stream. -/
theorem out (c : Dev nD) (t : Fin cfg0.N) (hf : t.val % 11 = 10) (j : S1024x1024.Idx) :
    (outsAt0 m c t.val t.isLt).1 j
      = k0_pay1 (iblk m c 1 t) (outsAt0 m c t.val t.isLt).2.2 (iblk m c 5 t) (iblk m c 6 t) j := by
  rw [outsAt0_C m c t (by omega) hf]
  frame_out

/-- Its rounded copy. -/
theorem out' (c : Dev nD) (t : Fin cfg0.N) (hf : t.val % 11 = 10) (j : S1024x1024.Idx) :
    (outsAt0 m c t.val t.isLt).2.1 j
      = k0_pay2 (iblk m c 1 t) (outsAt0 m c t.val t.isLt).2.2 (iblk m c 5 t) (iblk m c 6 t) j := by
  rw [outsAt0_C m c t (by omega) hf]
  frame_out

theorem idx : ∀ t : Fin cfg0.N, win0_0.index t = ![t.val / 11, 0]
    ∧ win0_1.index t = ![t.val / 11, 0]
    ∧ win0_2.index t = ![0, 0, t.val % 11]
    ∧ win0_3.index t = ![0, 0, t.val % 11]
    ∧ win0_4.index t = ![0, t.val % 11, 0]
    ∧ win0_5.index t = ![0, 0]
    ∧ win0_6.index t = ![0, 0]
    ∧ win0_7.index t = ![t.val / 11, 0]
    ∧ win0_8.index t = ![t.val / 11, 0] := by decide +kernel

/-- The hidden states as the launch reads them: rounded, which changes no number. -/
theorem V0 (c : Dev nD) (i : S32768x1024.Idx) : V m c main_v0 i = (m ((c : Thread nD τ).loc main_arg0) i : EReal) := by
  entry_read
  pointwise

theorem VW1 (c : Dev nD) (i : S1x1024x2816.Idx) (p : Fin 1024) (q : Fin 2816) (hp : p.val = (i 1).val) (hq : q.val = (i 2).val) :
    V m c main_v2 i = (m ((c : Thread nD τ).loc main_arg1) (ValueIdx.ix2 p q) : EReal) := by
  entry_read
  pointwise
  refine congrArg _ (funext fun a => Fin.ext ?_)
  match a with
  | ⟨0, _⟩ => exact hp.symm
  | ⟨1, _⟩ => exact hq.symm

theorem VW2 (c : Dev nD) (i : S1x1024x2816.Idx) (p : Fin 1024) (q : Fin 2816) (hp : p.val = (i 1).val) (hq : q.val = (i 2).val) :
    V m c main_v4 i = (m ((c : Thread nD τ).loc main_arg2) (ValueIdx.ix2 p q) : EReal) := by
  entry_read
  pointwise
  refine congrArg _ (funext fun a => Fin.ext ?_)
  match a with
  | ⟨0, _⟩ => exact hp.symm
  | ⟨1, _⟩ => exact hq.symm

theorem VW3 (c : Dev nD) (i : S1x2816x1024.Idx) (p : Fin 2816) (q : Fin 1024) (hp : p.val = (i 1).val) (hq : q.val = (i 2).val) :
    V m c main_v6 i = (m ((c : Thread nD τ).loc main_arg3) (ValueIdx.ix2 p q) : EReal) := by
  entry_read
  pointwise
  refine congrArg _ (funext fun a => Fin.ext ?_)
  match a with
  | ⟨0, _⟩ => exact hp.symm
  | ⟨1, _⟩ => exact hq.symm

theorem Vg (c : Dev nD) (i : S1x1024.Idx) :
    V m c main_v7 i = (m ((c : Thread nD τ).loc main_arg4) (ValueIdx.ix1 (i 1)) : EReal) := by
  entry_read
  pointwise
  rfl

theorem Vb (c : Dev nD) (i : S1x1024.Idx) :
    V m c main_v8 i = (m ((c : Thread nD τ).loc main_arg5) (ValueIdx.ix1 (i 1)) : EReal) := by
  entry_read
  pointwise
  rfl

theorem blk0 (c : Dev nD) (t : Fin cfg0.N) (y : S1024x1024.Idx) (r : Fin 32768) (k : Fin 1024)
    (hr : r.val = t.val / 11 * 1024 + (y 0).val) (hk : k.val = (y 1).val) :
    iblk m c 0 t y = (m ((c : Thread nD τ).loc main_arg0) (ValueIdx.ix2 r k) : EReal) := by
  have hi := (idx t).1
  refine (V0 m c _).trans (congrArg (m ((c : Thread nD τ).loc main_arg0)) (funext fun a => Fin.ext ?_))
  match a with
  | ⟨0, _⟩ =>
    show win0_0.index t 0 * 1024 + 1 * (y 0).val = r.val
    rw [hi, hr]
    show t.val / 11 * 1024 + 1 * (y 0).val = _
    omega
  | ⟨1, _⟩ =>
    show win0_0.index t 1 * 1024 + 1 * (y 1).val = k.val
    rw [hi, hk]
    show 0 * 1024 + 1 * (y 1).val = _
    omega

theorem blk1 (c : Dev nD) (t : Fin cfg0.N) (y : S1024x1024.Idx) (r : Fin 32768) (k : Fin 1024)
    (hr : r.val = t.val / 11 * 1024 + (y 0).val) (hk : k.val = (y 1).val) :
    iblk m c 1 t y = (m ((c : Thread nD τ).loc main_arg0) (ValueIdx.ix2 r k) : EReal) := by
  have hi := (idx t).2.1
  refine congrArg (m ((c : Thread nD τ).loc main_arg0)) (funext fun a => Fin.ext ?_)
  match a with
  | ⟨0, _⟩ =>
    show win0_1.index t 0 * 1024 + 1 * (y 0).val = r.val
    rw [hi, hr]
    show t.val / 11 * 1024 + 1 * (y 0).val = _
    omega
  | ⟨1, _⟩ =>
    show win0_1.index t 1 * 1024 + 1 * (y 1).val = k.val
    rw [hi, hk]
    show 0 * 1024 + 1 * (y 1).val = _
    omega

theorem blk2 (c : Dev nD) (t : Fin cfg0.N) (y : S1x1024x256.Idx) (p : Fin 1024) (q : Fin 2816)
    (hp : p.val = (y 1).val) (hq : q.val = t.val % 11 * 256 + (y 2).val) :
    iblk m c 2 t y = (m ((c : Thread nD τ).loc main_arg1) (ValueIdx.ix2 p q) : EReal) := by
  have hi := (idx t).2.2.1
  refine VW1 m c _ p q ?_ ?_
  · show _ = win0_2.index t 1 * 1024 + 1 * (y 1).val
    rw [hi, hp]
    show _ = 0 * 1024 + 1 * (y 1).val
    omega
  · show _ = win0_2.index t 2 * 256 + 1 * (y 2).val
    rw [hi, hq]
    show _ = t.val % 11 * 256 + 1 * (y 2).val
    omega

theorem blk3 (c : Dev nD) (t : Fin cfg0.N) (y : S1x1024x256.Idx) (p : Fin 1024) (q : Fin 2816)
    (hp : p.val = (y 1).val) (hq : q.val = t.val % 11 * 256 + (y 2).val) :
    iblk m c 3 t y = (m ((c : Thread nD τ).loc main_arg2) (ValueIdx.ix2 p q) : EReal) := by
  have hi := (idx t).2.2.2.1
  refine VW2 m c _ p q ?_ ?_
  · show _ = win0_3.index t 1 * 1024 + 1 * (y 1).val
    rw [hi, hp]
    show _ = 0 * 1024 + 1 * (y 1).val
    omega
  · show _ = win0_3.index t 2 * 256 + 1 * (y 2).val
    rw [hi, hq]
    show _ = t.val % 11 * 256 + 1 * (y 2).val
    omega

theorem blk4 (c : Dev nD) (t : Fin cfg0.N) (y : S1x256x1024.Idx) (p : Fin 2816) (q : Fin 1024)
    (hp : p.val = t.val % 11 * 256 + (y 1).val) (hq : q.val = (y 2).val) :
    iblk m c 4 t y = (m ((c : Thread nD τ).loc main_arg3) (ValueIdx.ix2 p q) : EReal) := by
  have hi := (idx t).2.2.2.2.1
  refine VW3 m c _ p q ?_ ?_
  · show _ = win0_4.index t 1 * 256 + 1 * (y 1).val
    rw [hi, hp]
    show _ = t.val % 11 * 256 + 1 * (y 1).val
    omega
  · show _ = win0_4.index t 2 * 1024 + 1 * (y 2).val
    rw [hi, hq]
    show _ = 0 * 1024 + 1 * (y 2).val
    omega

theorem blk5 (c : Dev nD) (t : Fin cfg0.N) (n : Fin 1024) :
    iblk m c 5 t (ValueIdx.ix2 0 n) = (m ((c : Thread nD τ).loc main_arg4) (ValueIdx.ix1 n) : EReal) := by
  have hi := (idx t).2.2.2.2.2.1
  refine (Vg m c _).trans (congrArg _ (funext fun a => Fin.ext ?_))
  match a with
  | ⟨0, _⟩ =>
    show win0_5.index t 1 * 1024 + 1 * n.val = n.val
    rw [hi]
    show 0 * 1024 + 1 * n.val = _
    omega

theorem blk6 (c : Dev nD) (t : Fin cfg0.N) (n : Fin 1024) :
    iblk m c 6 t (ValueIdx.ix2 0 n) = (m ((c : Thread nD τ).loc main_arg5) (ValueIdx.ix1 n) : EReal) := by
  have hi := (idx t).2.2.2.2.2.2.1
  refine (Vb m c _).trans (congrArg _ (funext fun a => Fin.ext ?_))
  match a with
  | ⟨0, _⟩ =>
    show win0_6.index t 1 * 1024 + 1 * n.val = n.val
    rw [hi]
    show 0 * 1024 + 1 * n.val = _
    omega

/-- What the grid step at `t` adds, from the arguments. -/
theorem partAt (c : Dev nD) (t : Fin cfg0.N) (y : S1024x1024.Idx) (r : Fin 32768) (n : Fin 1024)
    (hr : r.val = t.val / 11 * 1024 + (y 0).val) (hn : n.val = (y 1).val)
    (at256 : Fin 256 → Fin 2816) (hl : ∀ l, (at256 l).val = t.val % 11 * 256 + l.val) :
    part (iblk m c 0 t) (iblk m c 2 t) (iblk m c 3 t) (iblk m c 4 t) y
      = ∑ l : Fin 256, lane (m ((c : Thread nD τ).loc main_arg0)) (m ((c : Thread nD τ).loc main_arg1)) (m ((c : Thread nD τ).loc main_arg2)) (m ((c : Thread nD τ).loc main_arg3)) r n (at256 l) := by
  unfold part
  refine Finset.sum_congr rfl fun l _ => ?_
  have h0 (k : Fin 1024) := blk0 m c t (ValueIdx.ix2 (y 0) k) r k hr rfl
  have h1 (k : Fin 1024) := blk2 m c t (ValueIdx.ix3 0 k l) k (at256 l) rfl (hl l)
  have h2 (k : Fin 1024) := blk3 m c t (ValueIdx.ix3 0 k l) k (at256 l) rfl (hl l)
  have h3 := blk4 m c t (ValueIdx.ix3 0 l (y 1)) (at256 l) n (hl l) hn
  exact congrArg₂ (fun a b : EReal => a * b) (congrArg₂ gated
    (Finset.sum_congr rfl fun k _ => congrArg₂ (fun a b : EReal => a * b) (h0 k) (h1 k))
    (Finset.sum_congr rfl fun k _ => congrArg₂ (fun a b : EReal => a * b) (h0 k) (h2 k))) h3

/-- The carried sum is the block's output for the row's token. -/
theorem accAt (c : Dev nD) (t : Fin cfg0.N) (hf : t.val % 11 = 10) (j : S1024x1024.Idx) (r : Fin 32768) (n : Fin 1024)
    (hr : r.val = t.val / 11 * 1024 + (j 0).val) (hn : n.val = (j 1).val) :
    (outsAt0 m c t.val t.isLt).2.2 j = ∑ l, lane (m ((c : Thread nD τ).loc main_arg0)) (m ((c : Thread nD τ).loc main_arg1)) (m ((c : Thread nD τ).loc main_arg2)) (m ((c : Thread nD τ).loc main_arg3)) r n l := by
  have ht : t.val < 352 := t.isLt
  refine (acc m c t hf j).trans ?_
  refine Eq.trans (Finset.sum_congr rfl fun s _ => partAt m c ⟨11 * (t.val / 11) + s.val, by have := s.isLt; show _ < 352; omega⟩ j r n
    (by have := s.isLt; show _ = (11 * (t.val / 11) + s.val) / 11 * 1024 + (j 0).val; dsimp only; omega) hn
    (fun l => ⟨s.val * 256 + l.val, by have := s.isLt; have := l.isLt; omega⟩)
    (fun l => by have := s.isLt; show _ = (11 * (t.val / 11) + s.val) % 11 * 256 + l.val; dsimp only; omega)) ?_
  exact Fin.sum_mul_add_fin 11 256 (lane (m ((c : Thread nD τ).loc main_arg0)) (m ((c : Thread nD τ).loc main_arg1)) (m ((c : Thread nD τ).loc main_arg2)) (m ((c : Thread nD τ).loc main_arg3)) r n)

/-- The last step's entry, from the arguments. -/
theorem last (c : Dev nD) (t : Fin cfg0.N) (hf : t.val % 11 = 10) (y : S1024x1024.Idx) (r : Fin 32768) (n : Fin 1024)
    (hr : r.val = t.val / 11 * 1024 + (y 0).val) (hn : n.val = (y 1).val) :
    k0_pay1 (iblk m c 1 t) (outsAt0 m c t.val t.isLt).2.2 (iblk m c 5 t) (iblk m c 6 t) y
      = Cert.FfnRefIdeal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (ValueIdx.ix2 r n) := by
  obtain ⟨p, q, rfl⟩ : ∃ p q, y = ValueIdx.ix2 p q := ⟨_, _, ValueIdx.eq_ix2 y⟩
  obtain rfl : n = q := Fin.ext hn
  refine (pay1 _ _ _ _ _).trans (Eq.trans ?_ (ref _ _ _ _ _ _ r n).symm)
  refine congr (congr (congr (congrArg NormVal.norm (funext fun k => ?_)) (blk5 m c t _)) (blk6 m c t _)) rfl
  exact congrArg₂ NormVal.resid (blk1 m c t _ r k hr rfl) (accAt m c t hf _ r k hr rfl)

open Cert.FfnRefIdeal.Read in
/-- Result 0 of the launch is the reference's. -/
theorem arr7 (c : Dev nD) : (dats m 0 c).arrAt 7 cfg0.N
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h7 : t.val % 11 = 10 := (flush0_7 t).mp hf
  have ht : t.val < 352 := t.isLt
  have hi := (idx t).2.2.2.2.2.2.2.1
  blk_simp
  rw [after0_7]
  have y0 : (y (0 : Fin 2)).val < 1024 := (y (0 : Fin 2)).isLt
  have y1 : (y (1 : Fin 2)).val < 1024 := (y (1 : Fin 2)).isLt
  refine (out m c t h7 y).trans (((last m c t h7 y ⟨t.val / 11 * 1024 + (y (0 : Fin 2)).val, by omega⟩ ⟨(y (1 : Fin 2)).val, y1⟩ rfl rfl).trans ?_))
  refine congrArg (val_main_v31 (F := Ideal) _ _ _ _ _ _) (funext fun a => Fin.ext ?_)
  match a with
  | ⟨0, _⟩ =>
    show t.val / 11 * 1024 + (y (0 : Fin 2)).val = win0_7.index t 0 * 1024 + 1 * (y (0 : Fin 2)).val
    rw [hi]
    show _ = t.val / 11 * 1024 + 1 * (y (0 : Fin 2)).val
    omega
  | ⟨1, _⟩ =>
    show (y (1 : Fin 2)).val = win0_7.index t 1 * 1024 + 1 * (y (1 : Fin 2)).val
    rw [hi]
    show _ = 0 * 1024 + 1 * (y (1 : Fin 2)).val
    omega

open Cert.FfnRefIdeal.Read in
/-- Result 1 of the launch is the reference's. -/
theorem arr8 (c : Dev nD) : (dats m 0 c).arrAt 8 cfg0.N
    = val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have h7 : t.val % 11 = 10 := (flush0_8 t).mp hf
  have ht : t.val < 352 := t.isLt
  have hi := (idx t).2.2.2.2.2.2.2.2
  blk_simp
  rw [after0_8]
  have y0 : (y (0 : Fin 2)).val < 1024 := (y (0 : Fin 2)).isLt
  have y1 : (y (1 : Fin 2)).val < 1024 := (y (1 : Fin 2)).isLt
  refine (out' m c t h7 y).trans ((pay2 _ _ _ _ y).trans ((last m c t h7 y ⟨t.val / 11 * 1024 + (y (0 : Fin 2)).val, by omega⟩ ⟨(y (1 : Fin 2)).val, y1⟩ rfl rfl).trans ?_))
  refine Eq.trans ?_ (refRounded _ _ _ _ _ _ _).symm
  refine congrArg (val_main_v31 (F := Ideal) _ _ _ _ _ _) (funext fun a => Fin.ext ?_)
  match a with
  | ⟨0, _⟩ =>
    show t.val / 11 * 1024 + (y (0 : Fin 2)).val = win0_8.index t 0 * 1024 + 1 * (y (0 : Fin 2)).val
    rw [hi]
    show _ = t.val / 11 * 1024 + 1 * (y (0 : Fin 2)).val
    omega
  | ⟨1, _⟩ =>
    show (y (1 : Fin 2)).val = win0_8.index t 1 * 1024 + 1 * (y (1 : Fin 2)).val
    rw [hi]
    show _ = 0 * 1024 + 1 * (y (1 : Fin 2)).val
    omega

end Cert.FfnVal
end
-- ==== Proof.Ffn.Claim.lean ====
/- The value claim, from the arrays that the launch leaves and the reference's expressions. -/
module

public import proofs.«01_k».proof.Defs
public import proofs.«01_k».proof.Proof.Gen.FfnRefIdeal.Run
public import proofs.«01_k».proof.Proof.Gen.FfnRefIdeal.Read
public import proofs.«01_k».proof.Proof.Ffn.Value
public import proofs.«01_k».proof.Proof.Gen.FfnIdeal.Value

@[expose] public section

noncomputable section

namespace Cert.FfnVal

open Idealize.ShloMosaic Idealize.ShloMosaic.TcCoe Idealize.SL.Sem

theorem algebraic : Cert.algebraic_FfnIdeal_FfnRefIdeal := fun m g m' g' _ hargs =>
  ⟨fun c => Cert.FfnRefIdeal.Read.val_main_v31 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)),
    fun c => Cert.FfnRefIdeal.Read.val_main_v32 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)),
    (θ_run _ _ _).mono (fun r h c => by
      obtain ⟨h0, h1, k⟩ := h c
      exact ⟨h0.trans (arr7 m c), h1.trans (arr8 m c), k⟩) (Cert.FfnIdeal.Value.run_blocks m g),
    (θ_run _ _ _).mono (fun r h c => by
      obtain ⟨a0, a1, a2, a3, a4, a5⟩ := hargs c
      obtain ⟨h0, h1, k⟩ := h c
      refine ⟨?_, ?_, k⟩
      · refine h0.trans ?_
        simp only [← a0, ← a1, ← a2, ← a3, ← a4, ← a5]
        exact Cert.FfnRefIdeal.Read.val_main_v31_eq m' c
      · refine h1.trans ?_
        simp only [← a0, ← a1, ← a2, ← a3, ← a4, ← a5]
        exact Cert.FfnRefIdeal.Read.val_main_v32_eq m' c) (Cert.FfnRefIdeal.Value.run m' g')⟩

end Cert.FfnVal
end
-- ==== Proof.Router.Sort.lean ====
/- The two greatest of eight numbers: by two maxima and the first position that attains each, and by a stable sort. -/
module

public import Idealize.ShloMosaic.PureOps
public import Idealize.ShloMosaic.PureOps.Ideal.Laws
public import Idealize.ShloMosaic.Lib.SortFacts
public import Idealize.ShloMosaic.Lib.SortPrefix
public import Idealize.ShloMosaic.PureOps.Reduce
public import Idealize.ShloMosaic.Lib.ValueIdxCore

@[expose] public section

set_option maxRecDepth 16384

noncomputable section

namespace Cert.RouterVal

open Idealize.ShloMosaic

/-- `i` is the first position of the greatest, `k` the first position of the greatest among the rest. -/
structure Top2 (x : Fin 8 → EReal) (i k : Fin 8) : Prop where
  le1 : ∀ p, x p ≤ x i
  lt1 : ∀ p, p < i → x p < x i
  ne : k ≠ i
  le2 : ∀ p, p ≠ i → x p ≤ x k
  lt2 : ∀ p, p ≠ i → p < k → x p < x k

/-- Sorting an increasing list stably by the key alone sorts it by the key and then the position. -/
theorem stableSort_key {n : Nat} (x : Fin n → EReal) (l : List (Fin n)) (h : l.Pairwise (· < ·)) :
    stableSort (fun a b => decide (x b < x a)) l
      = stableSort (fun a b => decide (x b < x a) || (decide (x a = x b) && decide (a < b))) l := by
  induction l with
  | nil => rfl
  | cons a l ih =>
    rw [List.pairwise_cons] at h
    unfold stableSort
    rw [ih h.2]
    refine insertBefore_congr _ _ a _ fun b hb => ?_
    have hb' : b ∈ l := (perm_stableSort _ l).mem_iff.mp hb
    have hab : ¬ b < a := not_lt.mpr (h.1 b hb').le
    simp [hab]

theorem sortedFrom_key {n : Nat} (x : Fin n → EReal) :
    sortedFrom (fun a b : Fin n => decide (x b < x a))
      = sortedFrom (fun a b => decide (x b < x a) || (decide (x a = x b) && decide (a < b))) := by
  funext k
  unfold sortedFrom
  have h : sortPositions n (fun a b => decide (x b < x a))
      = sortPositions n (fun a b => decide (x b < x a) || (decide (x a = x b) && decide (a < b))) :=
    stableSort_key x _ (List.pairwise_lt_finRange n)
  rw [List.get_of_eq h]
  rfl

theorem sorted2 (x : Fin 8 → EReal) (i k : Fin 8) (h : Top2 x i k) (r : Fin 2) :
    sortedFrom (fun a b : Fin 8 => decide (x b < x a)) (r.castLE (by decide)) = ![i, k] r := by
  rw [sortedFrom_key]
  have hB := StrictTotalBefore.of_key_then_position (n := 8) (fun a b : EReal => decide (b < a)) x (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have no (p q : Fin 8) (hle : x p ≤ x q) (hlt : p < q → x p < x q) :
      (decide (x q < x p) || (decide (x p = x q) && decide (p < q))) = false := by
    simp only [Bool.or_eq_false_iff, decide_eq_false_iff_not, Bool.and_eq_false_imp, decide_eq_true_eq]
    exact ⟨not_lt.mpr hle, fun e hpq => absurd (hlt hpq) (by rw [e]; exact lt_irrefl _)⟩
  refine hB.sortedFrom_eq_of_prefix (by decide) ![i, k] ?_ ?_ ?_ r
  · intro a b hab
    match a, b with
    | ⟨0, _⟩, ⟨0, _⟩ => rfl
    | ⟨1, _⟩, ⟨1, _⟩ => rfl
    | ⟨0, _⟩, ⟨1, _⟩ => exact absurd hab.symm h.ne
    | ⟨1, _⟩, ⟨0, _⟩ => exact absurd hab h.ne
  · intro a b hab
    match a, b with
    | ⟨0, _⟩, ⟨0, _⟩ => exact absurd hab (lt_irrefl _)
    | ⟨1, _⟩, ⟨1, _⟩ => exact absurd hab (lt_irrefl _)
    | ⟨0, _⟩, ⟨1, _⟩ => exact no k i (h.le1 k) (h.lt1 k)
    | ⟨1, _⟩, ⟨0, _⟩ => exact (Nat.not_lt_zero 1 (Fin.lt_def.mp hab)).elim
  · intro a p hp
    have hi : p ≠ i := fun e => hp 0 e.symm
    match a with
    | ⟨0, _⟩ => exact no p i (h.le1 p) (h.lt1 p)
    | ⟨1, _⟩ => exact no p k (h.le2 p hi) (h.lt2 p hi)

/-- The minimum of the positions at which `p` holds (eight elsewhere) is the first of them. -/
theorem first_of : ∀ p : Fin 8 → Bool, (∃ k, p k = true) → ∃ i : Fin 8, p i = true ∧ (∀ k, k < i → p k = false)
    ∧ Finset.univ.fold IntOp.minsi 2147483647#32 (fun k : Fin 8 => if p k = true then BitVec.ofNat 32 k.val else 8#32)
      = BitVec.ofNat 32 i.val := by
  decide +kernel

/-- A maximum folded from `−∞` is attained, and bounds every number. -/
theorem fold_max (x : Fin 8 → EReal) : ∃ i, Finset.univ.fold max ⊥ x = x i ∧ ∀ k, x k ≤ x i := by
  obtain ⟨i, -, hi⟩ := Finset.exists_max_image Finset.univ x ⟨0, Finset.mem_univ _⟩
  have hle : ∀ k, x k ≤ x i := fun k => hi k (Finset.mem_univ k)
  refine ⟨i, le_antisymm ?_ ?_, hle⟩
  · exact Finset.fold_max_le _ |>.mpr ⟨bot_le, fun k _ => hle k⟩
  · exact Finset.le_fold_max _ |>.mpr (Or.inr ⟨i, Finset.mem_univ i, le_rfl⟩)

/-- The first position of the maximum, as the fold of minima finds it. -/
theorem argmax (x : Fin 8 → EReal) (m : EReal) (hm : m = Finset.univ.fold max ⊥ x) :
    ∃ i : Fin 8, m = x i ∧ (∀ k, x k ≤ x i) ∧ (∀ k, k < i → x k < x i)
      ∧ Finset.univ.fold IntOp.minsi 2147483647#32 (fun k : Fin 8 => if x k = m then BitVec.ofNat 32 k.val else 8#32)
        = BitVec.ofNat 32 i.val := by
  subst hm
  obtain ⟨j, hj, hle⟩ := fold_max x
  obtain ⟨i, hi, hk, hf⟩ := first_of (fun k => decide (x k = Finset.univ.fold max ⊥ x)) ⟨j, by simp [hj]⟩
  simp only [decide_eq_true_eq, decide_eq_false_iff_not] at hi hk hf
  refine ⟨i, hi.symm, fun k => ?_, fun k h => ?_, hf⟩
  · rw [hi, hj]; exact hle k
  · refine lt_of_le_of_ne ?_ ?_
    · rw [hi, hj]; exact hle k
    · rw [hi]; exact hk k h

/-- Both maxima and both positions, of numbers none of which is `−∞`. -/
theorem top2 (x : Fin 8 → EReal) (hx : ∀ k, x k ≠ ⊥) : ∃ i k : Fin 8, Top2 x i k
    ∧ Finset.univ.fold max ⊥ x = x i
    ∧ Finset.univ.fold IntOp.minsi 2147483647#32 (fun p : Fin 8 => if x p = x i then BitVec.ofNat 32 p.val else 8#32)
        = BitVec.ofNat 32 i.val
    ∧ Finset.univ.fold max ⊥ (fun p => if p = i then ⊥ else x p) = x k
    ∧ Finset.univ.fold IntOp.minsi 2147483647#32
        (fun p : Fin 8 => if (if p = i then ⊥ else x p) = x k then BitVec.ofNat 32 p.val else 8#32)
        = BitVec.ofNat 32 k.val := by
  obtain ⟨i, mi, li, lti, fi⟩ := argmax x _ rfl
  obtain ⟨k, mk, lk, ltk, fk⟩ := argmax (fun p => if p = i then ⊥ else x p) _ rfl
  rw [mi] at fi
  rw [mk] at fk
  have hki : k ≠ i := by
    rintro rfl
    obtain ⟨p, hp⟩ : ∃ p : Fin 8, p ≠ k := exists_ne k
    have := lk p
    simp only [if_neg hp, if_true] at this
    exact hx p (le_bot_iff.mp this)
  simp only [if_neg hki] at mk lk ltk fk
  refine ⟨i, k, ⟨li, lti, hki, fun p hp => ?_, fun p hp h => ?_⟩, mi, fi, mk, fk⟩
  · have := lk p; rwa [if_neg hp] at this
  · have := ltk p h; rwa [if_neg hp] at this

end Cert.RouterVal
end
-- ==== Proof.Router.Point.lean ====
/- One block of the router, and the reference, each at one entry. -/
module

public import proofs.«01_k».proof.Proof.Gen.RouterIdeal.Skeleton
public import proofs.«01_k».proof.Proof.Gen.RouterRefIdeal.Read
public import proofs.«01_k».proof.Proof.Router.Sort
public import proofs.«01_k».proof.Proof.Finite
public import Idealize.ShloMosaic.Lib.Pipeline.ValueKit
public import Idealize.ShloMosaic.Lib.ValueIdxCore

@[expose] public section

set_option maxRecDepth 16384

noncomputable section

namespace Cert.RouterVal

open Cert.RouterIdeal Cert.RouterIdeal.Gen Idealize.ShloMosaic Idealize.ShloMosaic.TcCoe Idealize.SL.Sem

/-- The weight of expert `n`: of the two greatest logits, the softmax of the two. -/
def weight (x : Fin 8 → EReal) (i k n : Fin 8) : EReal :=
  (if n = i then Ideal.div 1 (1 + Ideal.exp (x k - x i)) else 0)
    + (if n = k then Ideal.div (Ideal.exp (x k - x i)) (1 + Ideal.exp (x k - x i)) else 0)

/-- The logits of row `r` of a block. -/
def logit (v0 : Vec Ideal S512x1024 .f32) (v1 : Vec Ideal S1024x8 .f32) (r : Fin 512) (n : Fin 8) : EReal :=
  ∑ d : Fin 1024, v0 (ValueIdx.ix2 r d) * v1 (ValueIdx.ix2 d n)

theorem bot : (FloatOps.ofBits (F := Ideal) .f32 0xFF800000#32 : EReal) = ⊥ := by
  show Ideal.ofBits .f32 0xFF800000#32 = ⊥
  simp [Ideal.ofBits, Ideal.ieee]

theorem pay2 (v0 : Vec Ideal S512x1024 .f32) (v1 : Vec Ideal S1024x8 .f32) (r : Fin 512) (n : Fin 8) :
    k0_pay2 v0 v1 (ValueIdx.ix2 r n) = logit v0 v1 r n := by
  unfold k0_pay2
  pointwise
  rfl

theorem pay3 (v0 : Vec Ideal S512x1024 .f32) (v1 : Vec Ideal S1024x8 .f32) (r : Fin 512) :
    k0_pay3 v0 v1 (ValueIdx.ix2 r 0) = Finset.univ.fold max ⊥ (logit v0 v1 r) := by
  unfold k0_pay3
  pointwise
  exact congrArg₂ (fun b f => Finset.fold max b f Finset.univ) bot (funext fun n => pay2 v0 v1 r n)

theorem pay4 (v0 : Vec Ideal S512x1024 .f32) (v1 : Vec Ideal S1024x8 .f32) (r : Fin 512) :
    k0_pay4 v0 v1 (ValueIdx.ix2 r 0) = Finset.univ.fold IntOp.minsi 2147483647#32
      (fun p : Fin 8 => if logit v0 v1 r p = Finset.univ.fold max ⊥ (logit v0 v1 r) then BitVec.ofNat 32 p.val else 8#32) := by
  unfold k0_pay4
  pointwise
  refine congrArg (fun f => Finset.fold IntOp.minsi 2147483647#32 f Finset.univ) (funext fun p => ?_)
  have e : (k0_pay2 v0 v1 (ValueIdx.ix2 r p) = k0_pay3 v0 v1 (ValueIdx.ix2 r 0))
      = (logit v0 v1 r p = Finset.univ.fold max ⊥ (logit v0 v1 r)) :=
    congrArg₂ (fun a b : EReal => a = b) (pay2 v0 v1 r p) (pay3 v0 v1 r)
  exact if_congr (iff_of_eq e) rfl rfl

/-- A select by the equality of two lanes. -/
theorem select_lane {α : Type} (n i : Fin 8) (a b : α) :
    Scalar.select (IntOp.cmpi CmpIPredicate.eq (BitVec.ofNat 32 n.val) (BitVec.ofNat 32 i.val)) a b
      = if n = i then a else b := by
  have h : ∀ n i : Fin 8, IntOp.cmpi CmpIPredicate.eq (BitVec.ofNat 32 n.val) (BitVec.ofNat 32 i.val)
      = if n = i then 1#1 else 0#1 := by decide
  rw [h]
  by_cases e : n = i
  · simp [e, Scalar.select]
  · simp [e, Scalar.select]

theorem pay5 (v0 : Vec Ideal S512x1024 .f32) (v1 : Vec Ideal S1024x8 .f32) (r : Fin 512) (n i : Fin 8)
    (hi : k0_pay4 v0 v1 (ValueIdx.ix2 r 0) = BitVec.ofNat 32 i.val) :
    k0_pay5 v0 v1 (ValueIdx.ix2 r n) = if n = i then (⊥ : EReal) else logit v0 v1 r n := by
  unfold k0_pay5
  pointwise
  rw [show k0_pay4 v0 v1 (ix2 (ValueIdx.ix2 r n 0) 0) = _ from hi]
  refine (select_lane n i _ _).trans ?_
  rw [← pay2]
  exact if_congr Iff.rfl bot rfl

theorem pay6 (v0 : Vec Ideal S512x1024 .f32) (v1 : Vec Ideal S1024x8 .f32) (r : Fin 512) (i : Fin 8)
    (hi : k0_pay4 v0 v1 (ValueIdx.ix2 r 0) = BitVec.ofNat 32 i.val) :
    k0_pay6 v0 v1 (ValueIdx.ix2 r 0) = Finset.univ.fold max ⊥ (fun p => if p = i then ⊥ else logit v0 v1 r p) := by
  unfold k0_pay6
  pointwise
  exact congrArg₂ (fun b f => Finset.fold max b f Finset.univ) bot (funext fun n => pay5 v0 v1 r n i hi)

/-- The block's entry, from the two positions. -/
theorem pay1 (v0 : Vec Ideal S512x1024 .f32) (v1 : Vec Ideal S1024x8 .f32) (r : Fin 512) (n i k : Fin 8)
    (m1 : Finset.univ.fold max ⊥ (logit v0 v1 r) = logit v0 v1 r i)
    (f1 : Finset.univ.fold IntOp.minsi 2147483647#32
        (fun p : Fin 8 => if logit v0 v1 r p = logit v0 v1 r i then BitVec.ofNat 32 p.val else 8#32) = BitVec.ofNat 32 i.val)
    (m2 : Finset.univ.fold max ⊥ (fun p => if p = i then ⊥ else logit v0 v1 r p) = logit v0 v1 r k)
    (f2 : Finset.univ.fold IntOp.minsi 2147483647#32
        (fun p : Fin 8 => if (if p = i then ⊥ else logit v0 v1 r p) = logit v0 v1 r k then BitVec.ofNat 32 p.val else 8#32)
        = BitVec.ofNat 32 k.val) :
    k0_pay1 (k0_pay8 v0 v1) (k0_pay9 v0 v1) (Scalar.ofBits .f32 0x00000000#32) (k0_pay10 v0 v1) (ValueIdx.ix2 r n)
      = weight (logit v0 v1 r) i k n := by
  have h4 : k0_pay4 v0 v1 (ValueIdx.ix2 r 0) = BitVec.ofNat 32 i.val := by rw [pay4, m1, f1]
  have h3 : k0_pay3 v0 v1 (ValueIdx.ix2 r 0) = logit v0 v1 r i := (pay3 v0 v1 r).trans m1
  have h6 : k0_pay6 v0 v1 (ValueIdx.ix2 r 0) = logit v0 v1 r k := (pay6 v0 v1 r i h4).trans m2
  have h7 : k0_pay7 v0 v1 (ValueIdx.ix2 r 0) = Ideal.exp (logit v0 v1 r k - logit v0 v1 r i) := by
    unfold k0_pay7
    pointwise
    rw [← h3, ← h6]
  have h9 : k0_pay9 v0 v1 (ValueIdx.ix2 r n)
      = IntOp.cmpi CmpIPredicate.eq (BitVec.ofNat 32 n.val) (BitVec.ofNat 32 k.val) := by
    unfold k0_pay9
    pointwise
    rw [← f2]
    refine congrArg (IntOp.cmpi CmpIPredicate.eq _) ?_
    refine congrArg (fun f => Finset.fold IntOp.minsi 2147483647#32 f Finset.univ) (funext fun p => ?_)
    exact if_congr (iff_of_eq (congrArg₂ (fun a b : EReal => a = b) (pay5 v0 v1 r p i h4) h6)) rfl rfl
  have h10 : k0_pay10 v0 v1 (ValueIdx.ix2 r 0)
      = Ideal.div (Ideal.exp (logit v0 v1 r k - logit v0 v1 r i)) (1 + Ideal.exp (logit v0 v1 r k - logit v0 v1 r i)) := by
    unfold k0_pay10
    pointwise
    rw [← h7]
  have h8 : k0_pay8 v0 v1 (ValueIdx.ix2 r n)
      = if n = i then Ideal.div 1 (1 + Ideal.exp (logit v0 v1 r k - logit v0 v1 r i)) else (0 : EReal) := by
    unfold k0_pay8
    pointwise
    rw [← h7, show k0_pay4 v0 v1 (ix2 (ValueIdx.ix2 r n 0) 0) = _ from h4]
    exact select_lane n i _ _
  unfold k0_pay1
  pointwise
  rw [h8, h9, select_lane]
  refine congrArg (_ + ·) (if_congr Iff.rfl h10 rfl)

open Cert.RouterRefIdeal.Read

/-- The logits of token `r`. -/
def logits (x0 : S32768x1024.Idx → EReal) (x1 : S1024x8.Idx → EReal) (r : Fin 32768) (n : Fin 8) : EReal :=
  ∑ d : Fin 1024, x0 (ValueIdx.ix2 r d) * x1 (ValueIdx.ix2 d n)

theorem v0 (x0 : (⟨S32768x1024, .f32⟩ : BufTy).Contents (Elt Ideal)) (x1 : (⟨S1024x8, .f32⟩ : BufTy).Contents (Elt Ideal))
    (r : Fin 32768) (n : Fin 8) : val_main_v0 (F := Ideal) x0 x1 (ValueIdx.ix2 r n) = logits x0 x1 r n := by
  rw [val_main_v0_apply]
  refine Finset.sum_congr rfl fun d _ => congrArg₂ (fun a b : EReal => a * b) (congrArg x0 ?_) (congrArg x1 ?_)
  · funext a; match a with
    | ⟨0, _⟩ => rfl
    | ⟨1, _⟩ => rfl
  · funext a; match a with
    | ⟨0, _⟩ => rfl
    | ⟨1, _⟩ => rfl

theorem along (r : Fin 32768) (j : Fin 2) (p : Fin 8) (J : Cert.RouterRefIdeal.S32768x8.Idx) (hJ : (J 0).val = r.val) :
    J.along (1 : Fin 2) p = ValueIdx.ix2 r p := by
  funext a; match a with
  | ⟨0, _⟩ => exact Fin.ext hJ
  | ⟨1, _⟩ => rfl

theorem sorted (x0 : (⟨S32768x1024, .f32⟩ : BufTy).Contents (Elt Ideal)) (x1 : (⟨S1024x8, .f32⟩ : BufTy).Contents (Elt Ideal))
    (r : Fin 32768) (i k : Fin 8) (h : Top2 (logits x0 x1 r) i k) (j : Fin 2) :
    val_main_values (F := Ideal) x0 x1 (ValueIdx.ix2 r j) = logits x0 x1 r (![i, k] j)
    ∧ val_main_indices (F := Ideal) x0 x1 (ValueIdx.ix2 r j) = BitVec.ofNat 32 (![i, k] j).val := by
  rw [← sorted2 _ i k h j]
  unfold val_main_values val_main_indices Host.topK Host.sort2
  simp only [extractStridedSlice]
  have hlt : 1 < 2 := by decide
  rw [dif_pos hlt]
  have key : ∀ J : Cert.RouterRefIdeal.S32768x8.Idx, (J 0).val = r.val → J 1 = Fin.castLE (by decide) j →
      (sortedFrom (fun k k' : Fin 8 => FloatOps.cmpfTotal (F := Ideal) (φ := .f32) CmpDirection.gt
          (val_main_v0 (F := Ideal) x0 x1 (J.along (1 : Fin 2) k)) (val_main_v0 (F := Ideal) x0 x1 (J.along (1 : Fin 2) k')) == 1#1) (J 1))
        = sortedFrom (fun a b : Fin 8 => decide (logits x0 x1 r b < logits x0 x1 r a)) (Fin.castLE (by decide) j) := by
    intro J h0 h1
    rw [h1]
    refine congrArg (fun f => sortedFrom f _) (funext fun a => funext fun b => ?_)
    rw [along r j a J h0, along r j b J h0, v0, v0]
    show (Ideal.cmp .ogt _ _ == 1#1) = _
    simp only [Ideal.cmp]
    by_cases e : logits x0 x1 r b < logits x0 x1 r a <;> simp [e]
  have kj := key (fun a => ⟨0 + (ValueIdx.ix2 r j (Fin.cast rfl a)).val, by
    match a with
    | ⟨0, _⟩ => show 0 + r.val < 32768; omega
    | ⟨1, _⟩ => show 0 + j.val < 8; omega⟩) (Nat.zero_add _) (Fin.ext (Nat.zero_add _))
  constructor
  · rw [← kj]
    refine Eq.trans ?_ (v0 x0 x1 r _)
    refine congrArg (val_main_v0 (F := Ideal) x0 x1) ?_
    exact along r j _ _ (Nat.zero_add _)
  · rw [← kj]
    rfl

theorem exp_zero : Ideal.exp (0 : EReal) = 1 := by
  rw [show (0 : EReal) = ((0 : ℝ) : EReal) from rfl, Ideal.exp_coe, Real.exp_zero]; rfl

section
variable (x0 : (⟨S32768x1024, .f32⟩ : BufTy).Contents (Elt Ideal)) (x1 : (⟨S1024x8, .f32⟩ : BufTy).Contents (Elt Ideal))
  (r : Fin 32768) (i k : Fin 8)

theorem v1 (h : Top2 (logits x0 x1 r) i k) (hle : logits x0 x1 r k ≤ logits x0 x1 r i) :
    val_main_v1 (F := Ideal) x0 x1 (ValueIdx.ix1 r) = logits x0 x1 r i := by
  have e : val_main_v1 (F := Ideal) x0 x1 (ValueIdx.ix1 r)
      = Finset.univ.fold max (⊥ : EReal) (fun j : Fin 2 => val_main_values (F := Ideal) x0 x1 (ValueIdx.ix2 r j)) := by
    unfold val_main_v1
    pointwise
    exact congrArg (fun b => Finset.fold max b _ Finset.univ) bot
  rw [e]
  have : (fun j : Fin 2 => val_main_values (F := Ideal) x0 x1 (ValueIdx.ix2 r j))
      = fun j => logits x0 x1 r (![i, k] j) := funext fun j => (sorted x0 x1 r i k h j).1
  rw [this, show (Finset.univ : Finset (Fin 2)) = {0, 1} from rfl, Finset.fold_insert (by decide), Finset.fold_singleton]
  show max (logits x0 x1 r i) (max (logits x0 x1 r k) ⊥) = _
  rw [max_eq_left (bot_le), max_eq_left hle]

theorem v7 (h : Top2 (logits x0 x1 r) i k) (hle : logits x0 x1 r k ≤ logits x0 x1 r i) (j : Fin 2) :
    val_main_v7 (F := Ideal) x0 x1 (ValueIdx.ix2 r j) = Ideal.exp (logits x0 x1 r (![i, k] j) - logits x0 x1 r i) := by
  rw [val_main_v7_apply, val_main_v6_apply, val_main_v5_apply, val_main_v4_apply, val_main_v3_apply, val_main_v2_apply,
    val_main_cst_0_apply, (sorted x0 x1 r i k h j).1]
  have e1 : val_main_v1 (F := Ideal) x0 x1 (idx_main_v4 (idx_main_v5 (ValueIdx.ix2 r j))) = logits x0 x1 r i := by
    rw [← v1 x0 x1 r i k h hle]
    refine congrArg (val_main_v1 (F := Ideal) x0 x1) (funext fun a => ?_)
    match a with
    | ⟨0, _⟩ => rfl
  rw [e1]
  show Ideal.exp (_ - max (Ideal.ofBits .f32 4286578688#32) _) = _
  rw [show Ideal.ofBits .f32 4286578688#32 = ⊥ from bot, max_eq_right bot_le]

theorem v11 (h : Top2 (logits x0 x1 r) i k) (hle : logits x0 x1 r k ≤ logits x0 x1 r i)
    (hr : Cert.FiniteVal.IsReal (logits x0 x1 r i)) (j : Fin 2) :
    val_main_v11 (F := Ideal) x0 x1 (ValueIdx.ix2 r j)
      = Ideal.div (![1, Ideal.exp (logits x0 x1 r k - logits x0 x1 r i)] j) (1 + Ideal.exp (logits x0 x1 r k - logits x0 x1 r i)) := by
  have hs : logits x0 x1 r i - logits x0 x1 r i = 0 := EReal.sub_self hr.ne_top hr.ne_bot
  have hv : ∀ j : Fin 2, val_main_v7 (F := Ideal) x0 x1 (ValueIdx.ix2 r j)
      = (![1, Ideal.exp (logits x0 x1 r k - logits x0 x1 r i)] : Fin 2 → EReal) j := by
    intro j
    rw [v7 x0 x1 r i k h hle j]
    match j with
    | ⟨0, _⟩ => show Ideal.exp (logits x0 x1 r i - _) = 1; rw [hs, exp_zero]
    | ⟨1, _⟩ => rfl
  rw [val_main_v11_apply, val_main_v10_apply, val_main_v9_apply, val_main_v8_apply, val_main_cst_1_apply, hv]
  have e8 : ∀ j : Fin 2, idx_main_v8 (idx_main_v9 (idx_main_v10 (ValueIdx.ix2 r j))) = fun q => ValueIdx.ix2 r q := by
    intro j; funext q a; match a with
    | ⟨0, _⟩ => rfl
    | ⟨1, _⟩ => rfl
  simp only [e8, hv, Fin.sum_univ_two]
  refine congrArg (Ideal.div _) ?_
  show Ideal.ofBits .f32 0#32 + (1 + _) = _
  rw [Ideal.ofBits_zero, zero_add]
  rfl

theorem onehot (h : Top2 (logits x0 x1 r) i k) (j : Fin 2) (n : Fin 8) :
    val_main_v12 (F := Ideal) x0 x1 (ValueIdx.ix3 r j n) = if n = ![i, k] j then (1 : EReal) else 0 := by
  rw [val_main_v12_apply, val_main_call0_v4_apply, val_main_call0_v2_apply, val_main_call0_v0_apply,
    val_main_call0_v3_apply]
  have e : idx_main_call0_v0 (idx_main_call0_v2 (ValueIdx.ix3 r j n)) = ValueIdx.ix2 r j := by
    funext a; match a with
    | ⟨0, _⟩ => rfl
    | ⟨1, _⟩ => rfl
  rw [e, (sorted x0 x1 r i k h j).2]
  show FloatOps.uitofp (F := Ideal) .f32 (IntOp.cmpi .eq (BitVec.ofNat 32 (![i, k] j).val) (BitVec.ofNat 32 n.val)) = _
  generalize ![i, k] j = q
  have h : ∀ q n : Fin 8, IntOp.cmpi CmpIPredicate.eq (BitVec.ofNat 32 q.val) (BitVec.ofNat 32 n.val)
      = if n = q then 1#1 else 0#1 := by decide
  rw [h]
  show (((if n = q then 1#1 else 0#1 : BitVec 1).toNat : ℝ) : EReal) = _
  by_cases e : n = q <;> simp [e]

/-- The reference's entry. -/
theorem ref (n : Fin 8) (h : Top2 (logits x0 x1 r) i k) (hle : logits x0 x1 r k ≤ logits x0 x1 r i)
    (hr : Cert.FiniteVal.IsReal (logits x0 x1 r i)) :
    val_main_v16 (F := Ideal) x0 x1 (ValueIdx.ix2 r n) = weight (logits x0 x1 r) i k n := by
  rw [val_main_v16_apply, val_main_cst_2_apply]
  have e : ∀ j : Fin 2, val_main_v15 (F := Ideal) x0 x1 (idx_main_v16 (ValueIdx.ix2 r n) j)
      = (if n = ![i, k] j then (1 : EReal) else 0) * Ideal.div (![1, Ideal.exp (logits x0 x1 r k - logits x0 x1 r i)] j)
        (1 + Ideal.exp (logits x0 x1 r k - logits x0 x1 r i)) := by
    intro j
    have e1 : idx_main_v16 (ValueIdx.ix2 r n) j = ValueIdx.ix3 r j n := by
      funext a; match a with
      | ⟨0, _⟩ => rfl
      | ⟨1, _⟩ => rfl
      | ⟨2, _⟩ => rfl
    have e2 : idx_main_v13 (idx_main_v14 (ValueIdx.ix3 r j n)) = ValueIdx.ix2 r j := by
      funext a; match a with
      | ⟨0, _⟩ => rfl
      | ⟨1, _⟩ => rfl
    rw [e1, val_main_v15_apply, val_main_v14_apply, val_main_v13_apply, e2, onehot x0 x1 r i k h, v11 x0 x1 r i k h hle hr]
    rfl
  simp only [e, Fin.sum_univ_two]
  show Ideal.ofBits .f32 0#32 + _ = _
  rw [Ideal.ofBits_zero, zero_add]
  simp only [ite_mul, one_mul, zero_mul, weight]
  rfl
end
end Cert.RouterVal
-- ==== Proof.Router.Value.lean ====
/- The array the router's launch leaves is the reference's, on finite arguments. -/
module

public import proofs.«01_k».proof.Proof.Gen.RouterIdeal.Value
public import proofs.«01_k».proof.Proof.Router.Point

@[expose] public section

set_option maxRecDepth 16384

noncomputable section

namespace Cert.RouterVal

open Cert.RouterIdeal Cert.RouterIdeal.Gen Idealize.ShloMosaic Idealize.ShloMosaic.TcCoe Idealize.SL.Sem
open Cert.RouterRefIdeal.Read Cert.FiniteVal

variable (m : (ℓ : Loc nD τ sig) → Buf (Elt Ideal) ℓ) (c : Dev nD)

/-- The rows move with the grid point; the router's weights stay whole. -/
theorem idx : ∀ t : Fin cfg0.N, win0_0.index t = ![(grid0.coords t 0).val, 0]
    ∧ win0_1.index t = ![0, 0]
    ∧ win0_2.index t = ![(grid0.coords t 0).val, 0] := by decide +kernel

theorem lt (t : Fin cfg0.N) : (grid0.coords t 0).val < 64 := (grid0.coords t 0).isLt

/-- The row of the whole array that row `r` of block `t` is. -/
def row (t : Fin cfg0.N) (r : Fin 512) : Fin 32768 :=
  ⟨(grid0.coords t 0).val * 512 + r.val, by have := lt t; omega⟩

theorem blk0 (t : Fin cfg0.N) (r : Fin 512) (d : Fin 1024) :
    iblk m c 0 t (ValueIdx.ix2 r d) = m ((c : Thread nD τ).loc main_arg0) (ValueIdx.ix2 (row t r) d) := by
  obtain ⟨h0, -, -⟩ := idx t
  refine congrArg (m ((c : Thread nD τ).loc main_arg0)) (funext fun a => Fin.ext ?_)
  match a with
  | ⟨0, _⟩ =>
    show win0_0.index t 0 * 512 + 1 * r.val = (grid0.coords t 0).val * 512 + r.val
    rw [h0]; show (grid0.coords t 0).val * 512 + 1 * r.val = _; omega
  | ⟨1, _⟩ =>
    show win0_0.index t 1 * 1024 + 1 * d.val = d.val
    rw [h0]; show 0 * 1024 + 1 * d.val = _; omega

theorem blk1 (t : Fin cfg0.N) (d : Fin 1024) (n : Fin 8) :
    iblk m c 1 t (ValueIdx.ix2 d n) = m ((c : Thread nD τ).loc main_arg1) (ValueIdx.ix2 d n) := by
  obtain ⟨-, h1, -⟩ := idx t
  refine congrArg (m ((c : Thread nD τ).loc main_arg1)) (funext fun a => Fin.ext ?_)
  match a with
  | ⟨0, _⟩ =>
    show win0_1.index t 0 * 1024 + 1 * d.val = d.val
    rw [h1]; show 0 * 1024 + 1 * d.val = _; omega
  | ⟨1, _⟩ =>
    show win0_1.index t 1 * 8 + 1 * n.val = n.val
    rw [h1]; show 0 * 8 + 1 * n.val = _; omega

theorem logit_blk (t : Fin cfg0.N) (r : Fin 512) :
    logit (iblk m c 0 t) (iblk m c 1 t) r
      = logits (m ((c : Thread nD τ).loc main_arg0)) (m ((c : Thread nD τ).loc main_arg1)) (row t r) :=
  funext fun n => Finset.sum_congr rfl fun d _ => congrArg₂ (fun a b : EReal => a * b) (blk0 m c t r d) (blk1 m c t d n)

/-- The array that the launch leaves. -/
theorem arr (h : ∀ r n, IsReal (logits (m ((c : Thread nD τ).loc main_arg0)) (m ((c : Thread nD τ).loc main_arg1)) r n)) : (dats m 0 c).arrAt 2 cfg0.N
    = val_main_v16 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have y0 : (y (0 : Fin 2)).val < 512 := (y (0 : Fin 2)).isLt
  have y1 : (y (1 : Fin 2)).val < 8 := (y (1 : Fin 2)).isLt
  have hy : y = ValueIdx.ix2 (⟨(y (0 : Fin 2)).val, y0⟩ : Fin 512) (⟨(y (1 : Fin 2)).val, y1⟩ : Fin 8) := by
    funext a; match a with
    | ⟨0, _⟩ => rfl
    | ⟨1, _⟩ => rfl
  have hl := logit_blk m c t ⟨(y (0 : Fin 2)).val, y0⟩
  obtain ⟨i, k, ht, m1, f1, m2, f2⟩ := top2 _ fun n => (h (row t ⟨(y (0 : Fin 2)).val, y0⟩) n).ne_bot
  have hle := (Finset.univ.le_fold_max (logits _ _ _ k)).mpr (Or.inr ⟨k, Finset.mem_univ k, le_refl _⟩) |>.trans m1.le
  refine (congrArg _ hy).trans ((pay1 _ _ _ ⟨(y (1 : Fin 2)).val, y1⟩ i k ?_ ?_ ?_ ?_).trans ?_)
  · rw [hl]; exact m1
  · rw [hl]; exact f1
  · rw [hl]; exact m2
  · rw [hl]; exact f2
  rw [hl]
  refine (ref _ _ _ i k _ ht hle (h _ i)).symm.trans (congrArg (val_main_v16 (F := Ideal) _ _) (funext fun a => Fin.ext ?_))
  obtain ⟨-, -, hi⟩ := idx t
  match a with
  | ⟨0, _⟩ =>
    show (grid0.coords t 0).val * 512 + (y (0 : Fin 2)).val = win0_2.index t 0 * 512 + 1 * (y (0 : Fin 2)).val
    rw [hi]
    show _ = (grid0.coords t 0).val * 512 + 1 * (y (0 : Fin 2)).val
    omega
  | ⟨1, _⟩ =>
    show (y (1 : Fin 2)).val = win0_2.index t 1 * 8 + 1 * (y (1 : Fin 2)).val
    rw [hi]
    show _ = 0 * 8 + 1 * (y (1 : Fin 2)).val
    omega

end Cert.RouterVal

end
-- ==== Proof.Router.Claim.lean ====
/- The value claim, from the arrays that the launch leaves and the reference's expressions. -/
module

public import proofs.«01_k».proof.Defs
public import proofs.«01_k».proof.Proof.Gen.RouterRefIdeal.Run
public import proofs.«01_k».proof.Proof.Gen.RouterRefIdeal.Read
public import proofs.«01_k».proof.Proof.Router.Value
public import proofs.«01_k».proof.Proof.Gen.Pre_router_finite
public import proofs.«01_k».proof.Proof.Gen.RouterIdeal.Value

@[expose] public section

noncomputable section

namespace Cert.RouterVal

open Cert.FiniteVal Idealize.ShloMosaic Idealize.ShloMosaic.TcCoe Idealize.SL.Sem

/-- Every logit is a real number where every argument's entry is one. -/
theorem finite (m : (ℓ : Loc Cert.RouterIdeal.nD Cert.RouterIdeal.τ Cert.RouterIdeal.sig) → Buf (Elt Ideal) ℓ) (c : Dev Cert.RouterIdeal.nD)
    (h : Cert.Pre_RouterIdeal_router_finite m) (r : Fin 32768) (n : Fin 8) :
    IsReal (logits (m ((c : Thread Cert.RouterIdeal.nD Cert.RouterIdeal.τ).loc Cert.RouterIdeal.main_arg0)) (m ((c : Thread Cert.RouterIdeal.nD Cert.RouterIdeal.τ).loc Cert.RouterIdeal.main_arg1)) r n) := by
  obtain ⟨h0, h1⟩ := h c
  refine IsReal.sum _ _ fun d _ => IsReal.mul ?_ ?_
  · exact of_abs_lt (congrFun h0 (ValueIdx.ix2 r d))
  · exact of_abs_lt (congrFun h1 (ValueIdx.ix2 d n))

theorem algebraic : Cert.algebraic_RouterIdeal_RouterRefIdeal_pre_router_finite := fun m g m' g' hp hargs =>
  ⟨fun c => Cert.RouterRefIdeal.Read.val_main_v16 (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)),
    (θ_run _ _ _).mono (fun r h c => by
      obtain ⟨h0, k⟩ := h c
      exact ⟨h0.trans (arr m c (finite m c hp)), k⟩) (Cert.RouterIdeal.Value.run_blocks m g),
    (θ_run _ _ _).mono (fun r h c => by
      obtain ⟨a0, a1⟩ := hargs c
      obtain ⟨h0, k⟩ := h c
      refine ⟨?_, k⟩
      · refine h0.trans ?_
        simp only [← a0, ← a1]
        exact Cert.RouterRefIdeal.Read.val_main_v16_eq _ _) (Cert.RouterRefIdeal.Value.run m' g')⟩

end Cert.RouterVal
end
-- ==== Proof.Merge.Ref.lean ====
/- The reference of the merge at one entry. -/
module

public import proofs.«01_k».proof.Proof.Gen.MergeRefIdeal.Read
public import proofs.«01_k».proof.Proof.Merge.Row
public import Idealize.ShloMosaic.Lib.ValueIdxCore

@[expose] public section

set_option maxRecDepth 16384

noncomputable section

namespace Cert.MergeVal

open Cert.MergeRefIdeal Cert.MergeRefIdeal.Gen Idealize.ShloMosaic Idealize.ShloMosaic.TcCoe Idealize.SL.Sem
open Cert.MergeRefIdeal.Read

/-- The two directions' sum. -/
def odRow (x1 : S2x32768x512.Idx → EReal) (r : Fin 32768) (k : Fin 512) : EReal :=
  x1 (ValueIdx.ix3 0 r k) + x1 (ValueIdx.ix3 1 r k)

section
variable (x0 x2 x3 : (⟨S32768x512, .bf16⟩ : BufTy).Contents (Elt Ideal)) (x1 : (⟨S2x32768x512, .f32⟩ : BufTy).Contents (Elt Ideal))
  (x4 : (⟨S32768x3072, .bf16⟩ : BufTy).Contents (Elt Ideal)) (x5 : (⟨S32768x1024, .f32⟩ : BufTy).Contents (Elt Ideal))
  (x6 : (⟨S64, .f32⟩ : BufTy).Contents (Elt Ideal)) (x7 : (⟨S3x512x1024, .f32⟩ : BufTy).Contents (Elt Ideal))
  (x8 : (⟨S1024x1024, .f32⟩ : BufTy).Contents (Elt Ideal)) (x9 x10 : (⟨S1024, .f32⟩ : BufTy).Contents (Elt Ideal))
  (r : Fin 32768)

theorem v4 (k : Fin 512) : val_main_v4 (F := Ideal) x1 (ValueIdx.ix2 r k) = odRow x1 r k := by
  rw [val_main_v4_apply, val_main_v3_apply, val_main_v2_apply, val_main_v1_apply, val_main_v0_apply]
  have h0 : idx_main_v0 (idx_main_v1 (ValueIdx.ix2 r k)) = ValueIdx.ix3 0 r k := by
    funext a; refine Fin.ext ?_
    match a with
    | ⟨0, _⟩ => rfl
    | ⟨1, _⟩ => show (r.val * 512 + k.val) / 512 % 32768 = r.val; omega
    | ⟨2, _⟩ => show (r.val * 512 + k.val) % 512 = k.val; omega
  have h1 : idx_main_v2 (idx_main_v3 (ValueIdx.ix2 r k)) = ValueIdx.ix3 1 r k := by
    funext a; refine Fin.ext ?_
    match a with
    | ⟨0, _⟩ => rfl
    | ⟨1, _⟩ => show (r.val * 512 + k.val) / 512 % 32768 = r.val; omega
    | ⟨2, _⟩ => show (r.val * 512 + k.val) % 512 = k.val; omega
  rw [h0, h1]
  rfl

theorem split (h : Fin 8) (d : Fin 64) : idx_main_v5 (ValueIdx.ix3 r h d)
    = ValueIdx.ix2 r (⟨h.val * 64 + d.val, by omega⟩ : Fin 512) := by
  funext a; refine Fin.ext ?_
  match a with
  | ⟨0, _⟩ => show ((r.val * 8 + h.val) * 64 + d.val) / 512 = r.val; omega
  | ⟨1, _⟩ => show ((r.val * 8 + h.val) * 64 + d.val) % 512 = h.val * 64 + d.val; omega

theorem v24 (k : Fin 512) : val_main_v24 (F := Ideal) x1 x2 x6 (ValueIdx.ix2 r k)
    = delta (odRow x1 r) (fun k => x2 (ValueIdx.ix2 r k)) (fun d => x6 (ValueIdx.ix1 d)) k := by
  have hi : idx_main_v24 (ValueIdx.ix2 r k) = ValueIdx.ix3 r (⟨k.val / 64, by omega⟩ : Fin 8) (pos k) := by
    funext a; refine Fin.ext ?_
    match a with
    | ⟨0, _⟩ => show (r.val * 512 + k.val) / 512 = r.val; omega
    | ⟨1, _⟩ => show (r.val * 512 + k.val) / 64 % 8 = k.val / 64; omega
    | ⟨2, _⟩ => show (r.val * 512 + k.val) % 64 = k.val % 64; omega
  have hk : ValueIdx.ix2 r (⟨k.val / 64 * 64 + (pos k).val, by have := (pos k).isLt; omega⟩ : Fin 512) = ValueIdx.ix2 r k := by
    congr 1; refine Fin.ext ?_
    show k.val / 64 * 64 + k.val % 64 = k.val; omega
  have h5 : ∀ d : Fin 64, val_main_v5 (F := Ideal) x1 (ValueIdx.ix3 r (⟨k.val / 64, by omega⟩ : Fin 8) d) = odRow x1 r (headLane k d) := by
    intro d
    rw [val_main_v5_apply, split, v4]
    rfl
  have h7 : idx_main_v7 (ValueIdx.ix3 r (⟨k.val / 64, by omega⟩ : Fin 8) (pos k)) = ValueIdx.ix2 r k := (split r _ _).trans hk
  have h5k : val_main_v5 (F := Ideal) x1 (ValueIdx.ix3 r (⟨k.val / 64, by omega⟩ : Fin 8) (pos k)) = odRow x1 r k := by
    rw [val_main_v5_apply, split, hk, v4]
  have h9 : ∀ d, idx_main_v9 (idx_main_v10 (idx_main_v16 (ValueIdx.ix3 r (⟨k.val / 64, by omega⟩ : Fin 8) (pos k)))) d
      = ValueIdx.ix3 r (⟨k.val / 64, by omega⟩ : Fin 8) d := by
    intro d; funext a; match a with
    | ⟨0, _⟩ => rfl
    | ⟨1, _⟩ => rfl
    | ⟨2, _⟩ => rfl
  have h18 : idx_main_v18 (idx_main_v19 (ValueIdx.ix3 r (⟨k.val / 64, by omega⟩ : Fin 8) (pos k))) = ValueIdx.ix1 (pos k) := by
    funext a; match a with
    | ⟨0, _⟩ => rfl
  rw [val_main_v24_apply, hi]
  simp only [val_main_v22_apply, val_main_v21_apply, val_main_call0_v0_apply, val_main_call0_v1_apply, val_main_call0_cst_apply,
    val_main_call0_v2_apply, val_main_call0_v3_apply, val_main_call0_cst_0_apply, val_main_call0_v4_apply, val_main_call0_v5_apply,
    val_main_v7_apply, val_main_v6_apply, val_main_v20_apply, val_main_v19_apply, val_main_v18_apply, val_main_v17_apply,
    val_main_v16_apply, val_main_v15_apply, val_main_v14_apply, val_main_v13_apply, val_main_cst_1_apply, val_main_v12_apply,
    val_main_v11_apply, val_main_cst_0_apply, val_main_v10_apply, val_main_v9_apply, val_main_cst_apply, val_main_v8_apply,
    h9, h5, h5k, h7, h18]
  pointwise
  have hkk : headLane k (pos k) = k := Fin.ext (by show k.val / 64 * 64 + k.val % 64 = k.val; omega)
  simp only [delta, gate, headSum, zero_sub, hkk]

theorem merged_ref (c : Fin 1024) : val_main_v65 (F := Ideal) x0 x1 x2 x3 x4 x6 x7 (ValueIdx.ix2 r c)
    = merged (fun k => x0 (ValueIdx.ix2 r k)) (delta (odRow x1 r) (fun k => x2 (ValueIdx.ix2 r k)) (fun d => x6 (ValueIdx.ix1 d)))
        (fun k => x3 (ValueIdx.ix2 r k)) (fun b => x4 (ValueIdx.ix2 r (gcol b c))) (fun b k => x7 (ValueIdx.ix3 b k c)) := by
  have g0 : idx_main_v27 (ValueIdx.ix2 r c) = ValueIdx.ix2 r (gcol 0 c) := by
    funext a; refine Fin.ext ?_
    match a with
    | ⟨0, _⟩ => rfl
    | ⟨1, _⟩ => show c.val = 0 * 1024 + c.val; omega
  have g1 : idx_main_v40 (ValueIdx.ix2 r c) = ValueIdx.ix2 r (gcol 1 c) := by
    funext a; refine Fin.ext ?_
    match a with
    | ⟨0, _⟩ => rfl
    | ⟨1, _⟩ => show 1024 + c.val = 1 * 1024 + c.val; omega
  have g2 : idx_main_v53 (ValueIdx.ix2 r c) = ValueIdx.ix2 r (gcol 2 c) := by
    funext a; refine Fin.ext ?_
    match a with
    | ⟨0, _⟩ => rfl
    | ⟨1, _⟩ => show 2048 + c.val = 2 * 1024 + c.val; omega
  have w0 : ∀ k, idx_main_v35 (idx_main_v36 (ridx_main_v37 (ValueIdx.ix2 r c) k)) = ValueIdx.ix3 0 k c := by
    intro k; funext a; refine Fin.ext ?_
    match a with
    | ⟨0, _⟩ => rfl
    | ⟨1, _⟩ => show (k.val * 1024 + c.val) / 1024 % 512 = k.val; omega
    | ⟨2, _⟩ => show (k.val * 1024 + c.val) % 1024 = c.val; omega
  have w1 : ∀ k, idx_main_v48 (idx_main_v49 (ridx_main_v50 (ValueIdx.ix2 r c) k)) = ValueIdx.ix3 1 k c := by
    intro k; funext a; refine Fin.ext ?_
    match a with
    | ⟨0, _⟩ => rfl
    | ⟨1, _⟩ => show (k.val * 1024 + c.val) / 1024 % 512 = k.val; omega
    | ⟨2, _⟩ => show (k.val * 1024 + c.val) % 1024 = c.val; omega
  have w2 : ∀ k, idx_main_v61 (idx_main_v62 (ridx_main_v63 (ValueIdx.ix2 r c) k)) = ValueIdx.ix3 2 k c := by
    intro k; funext a; refine Fin.ext ?_
    match a with
    | ⟨0, _⟩ => rfl
    | ⟨1, _⟩ => show (k.val * 1024 + c.val) / 1024 % 512 = k.val; omega
    | ⟨2, _⟩ => show (k.val * 1024 + c.val) % 1024 = c.val; omega
  have l0 : ∀ k, lidx_main_v37 (ValueIdx.ix2 r c) k = ValueIdx.ix2 r k := by
    intro k; funext a; match a with | ⟨0, _⟩ => rfl | ⟨1, _⟩ => rfl
  have l1 : ∀ k, lidx_main_v50 (ValueIdx.ix2 r c) k = ValueIdx.ix2 r k := by
    intro k; funext a; match a with | ⟨0, _⟩ => rfl | ⟨1, _⟩ => rfl
  have l2 : ∀ k, lidx_main_v63 (ValueIdx.ix2 r c) k = ValueIdx.ix2 r k := by
    intro k; funext a; match a with | ⟨0, _⟩ => rfl | ⟨1, _⟩ => rfl
  simp only [val_main_v65_apply, val_main_v64_apply, val_main_v63_apply, val_main_v62_apply, val_main_v61_apply,
    val_main_v60_apply, val_main_v59_apply, val_main_cst_8_apply, val_main_v58_apply, val_main_v57_apply, val_main_cst_7_apply,
    val_main_v56_apply, val_main_v55_apply, val_main_v54_apply, val_main_v53_apply, val_main_v52_apply, val_main_v51_apply,
    val_main_v50_apply, val_main_v49_apply, val_main_v48_apply, val_main_v47_apply, val_main_v46_apply, val_main_cst_6_apply,
    val_main_v45_apply, val_main_v44_apply, val_main_cst_5_apply, val_main_v43_apply, val_main_v42_apply, val_main_v41_apply,
    val_main_v40_apply, val_main_v39_apply, val_main_v38_apply, val_main_v37_apply, val_main_v36_apply, val_main_v35_apply,
    val_main_v34_apply, val_main_v33_apply, val_main_cst_4_apply, val_main_v32_apply, val_main_v31_apply, val_main_cst_3_apply,
    val_main_v30_apply, val_main_v29_apply, val_main_v28_apply, val_main_v27_apply, val_main_v26_apply, val_main_cst_2_apply,
    val_main_v25_apply, val_main_v23_apply, g0, g1, g2, w0, w1, w2, l0, l1, l2, v24]
  pointwise
  simp only [merged, gate, zero_sub]

/-- The reference's entry. -/
theorem ref (n : Fin 1024) : val_main_v93 (F := Ideal) x0 x1 x2 x3 x4 x5 x6 x7 x8 x9 x10 (ValueIdx.ix2 r n)
    = NormVal.norm (fun j => NormVal.resid (x5 (ValueIdx.ix2 r j)) (∑ c : Fin 1024,
        merged (fun k => x0 (ValueIdx.ix2 r k)) (delta (odRow x1 r) (fun k => x2 (ValueIdx.ix2 r k)) (fun d => x6 (ValueIdx.ix1 d)))
          (fun k => x3 (ValueIdx.ix2 r k)) (fun b => x4 (ValueIdx.ix2 r (gcol b c))) (fun b k => x7 (ValueIdx.ix3 b k c))
        * x8 (ValueIdx.ix2 c j)))
        (x9 (ValueIdx.ix1 n)) (x10 (ValueIdx.ix1 n)) n := by
  have hx : ∀ j, val_main_v68 (F := Ideal) x0 x1 x2 x3 x4 x6 x7 x8 (ValueIdx.ix2 r j) = ∑ c : Fin 1024,
        merged (fun k => x0 (ValueIdx.ix2 r k)) (delta (odRow x1 r) (fun k => x2 (ValueIdx.ix2 r k)) (fun d => x6 (ValueIdx.ix1 d)))
          (fun k => x3 (ValueIdx.ix2 r k)) (fun b => x4 (ValueIdx.ix2 r (gcol b c))) (fun b k => x7 (ValueIdx.ix3 b k c))
        * x8 (ValueIdx.ix2 c j) := fun j => by
    rw [val_main_v68_apply]
    refine Finset.sum_congr rfl fun c _ => ?_
    have l : lidx_main_v68 (ValueIdx.ix2 r j) c = ValueIdx.ix2 r c := by
      funext a; match a with | ⟨0, _⟩ => rfl | ⟨1, _⟩ => rfl
    have rr : ridx_main_v68 (ValueIdx.ix2 r j) c = ValueIdx.ix2 c j := by
      funext a; match a with | ⟨0, _⟩ => rfl | ⟨1, _⟩ => rfl
    rw [l, rr, merged_ref]
  simp only [val_main_cst_9_apply, val_main_v66_apply, val_main_v67_apply, val_main_v69_apply, val_main_cst_10_apply, val_main_v70_apply, val_main_v71_apply, val_main_cst_11_apply, val_main_v72_apply, val_main_v73_apply, val_main_v74_apply, val_main_v75_apply, val_main_v76_apply, val_main_cst_12_apply, val_main_v77_apply, val_main_v78_apply, val_main_cst_13_apply, val_main_v79_apply, val_main_v80_apply, val_main_v81_apply, val_main_v82_apply, val_main_cst_14_apply, val_main_v83_apply, val_main_v84_apply, val_main_v85_apply, val_main_v86_apply, val_main_v87_apply, val_main_v88_apply, val_main_v89_apply, val_main_v90_apply, val_main_v91_apply, val_main_v92_apply, val_main_v93_apply]
  pointwise
  have a70 : ∀ k, idx_main_v70 (idx_main_v71 (idx_main_v81 (ValueIdx.ix2 r n))) k = ValueIdx.ix2 r k := fun k => by
    funext a; match a with | ⟨0, _⟩ => rfl | ⟨1, _⟩ => rfl
  have a77 : ∀ k, idx_main_v77 (idx_main_v78 (idx_main_v86 (ValueIdx.ix2 r n))) k = ValueIdx.ix2 r k := fun k => by
    funext a; match a with | ⟨0, _⟩ => rfl | ⟨1, _⟩ => rfl
  have a74 : ∀ k l, idx_main_v70 (idx_main_v71 (idx_main_v74 (ValueIdx.ix2 r k))) l = ValueIdx.ix2 r l := fun k l => by
    funext a; match a with | ⟨0, _⟩ => rfl | ⟨1, _⟩ => rfl
  have a88 : idx_main_v88 (idx_main_v89 (ValueIdx.ix2 r n)) = ValueIdx.ix1 n := by
    funext a; match a with | ⟨0, _⟩ => rfl
  have a91 : idx_main_v91 (idx_main_v92 (ValueIdx.ix2 r n)) = ValueIdx.ix1 n := by
    funext a; match a with | ⟨0, _⟩ => rfl
  simp only [a70, a77, a74, a88, a91, hx]
  rfl

/-- The reference's rounded result is the same number. -/
theorem refRounded (i : S32768x1024.Idx) : val_main_v94 (F := Ideal) x0 x1 x2 x3 x4 x5 x6 x7 x8 x9 x10 i
    = (val_main_v93 (F := Ideal) x0 x1 x2 x3 x4 x5 x6 x7 x8 x9 x10 i : EReal) := by
  rw [val_main_v94_apply]
  rfl
end

end Cert.MergeVal
end
-- ==== Proof.Merge.Table.lean ====
/- The table of the head that each of the 512 lanes belongs to. -/
module

public import proofs.«01_k».proof.MergeIdeal

@[expose] public section

set_option maxRecDepth 65536
set_option maxHeartbeats 4000000

noncomputable section

namespace Cert.MergeVal

open Cert.MergeIdeal

/-- Lane `k` belongs to head `k / 64`. -/
theorem head_of (k : Fin 512) : lit0 k = BitVec.ofNat 32 (k.val / 64) := by
  have h : ∀ j : Fin 512, lit0 j = BitVec.ofNat 32 (j.val / 64) := by decide +kernel
  exact h k

/-- Two lanes carry the same entry when they are of one head. -/
theorem same_head (q k : Fin 512) : lit0 q = lit0 k ↔ q.val / 64 = k.val / 64 := by
  rw [head_of, head_of]
  refine ⟨fun h => ?_, fun h => by rw [h]⟩
  have := congrArg BitVec.toNat h
  simp only [BitVec.toNat_ofNat] at this
  omega

end Cert.MergeVal
-- ==== Proof.Merge.Value.lean ====
/- The arrays the merge's launch leaves are the reference's, on a finite delta branch. -/
module

public import proofs.«01_k».proof.Proof.Gen.MergeIdeal.Value
public import proofs.«01_k».proof.Proof.Merge.Point
public import proofs.«01_k».proof.Proof.Merge.Ref
public import proofs.«01_k».proof.Proof.Merge.Table
public import Idealize.ShloMosaic.Lib.Pipeline.Covers
public import Idealize.ShloMosaic.Lib.IdealHost

@[expose] public section

set_option maxRecDepth 16384

noncomputable section

namespace Cert.MergeVal

open Cert.MergeIdeal Cert.MergeIdeal.Gen Idealize.ShloMosaic Idealize.ShloMosaic.TcCoe Idealize.SL.Sem
open Cert.MergeRefIdeal.Read Cert.FiniteVal

variable (m : (ℓ : Loc nD τ sig) → Buf (Elt Ideal) ℓ) (c : Dev nD)

/-- The rows move with the grid point; every weight stays whole. -/
theorem idx : ∀ t : Fin cfg0.N, win0_0.index t = ![(grid0.coords t 0).val, 0]
    ∧ win0_1.index t = ![0, (grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0]
    ∧ win0_12.index t = ![(grid0.coords t 0).val, 0]
    ∧ win0_13.index t = ![(grid0.coords t 0).val, 0] := by decide +kernel

theorem lt (t : Fin cfg0.N) : (grid0.coords t 0).val < 128 := (grid0.coords t 0).isLt

/-- The row of the whole array that row `r` of block `t` is. -/
def row (t : Fin cfg0.N) (r : Fin 256) : Fin 32768 :=
  ⟨(grid0.coords t 0).val * 256 + r.val, by have := lt t; omega⟩

theorem Vones (q k : Fin 512) : V m c main_v9 (ValueIdx.ix2 q k) = (if q.val / 64 = k.val / 64 then (1 : EReal) else 0) := by
  have hq : ∀ f : Fin 512, S512.rowMajor (ValueIdx.ix1 f) = f := fun f => Fin.ext (Shape.rowMajor_val_one _)
  entry_read
  pointwise
  show FloatOps.uitofp (F := Ideal) FTy.bf16
    (BitVec.ofBool (lit0 (S512.rowMajor (ValueIdx.ix1 q)) == lit0 (S512.rowMajor (ValueIdx.ix1 k)))) = _
  rw [hq, hq]
  by_cases h : q.val / 64 = k.val / 64
  · rw [if_pos h, (same_head q k).mpr h, beq_self_eq_true]
    show (((1 : ℕ) : ℝ) : EReal) = 1
    norm_num
  · rw [if_neg h, beq_eq_false_iff_ne.mpr fun e => h ((same_head q k).mp e)]
    show (((0 : ℕ) : ℝ) : EReal) = 0
    norm_num

theorem Vw (k : Fin 512) : V m c main_v3 (ValueIdx.ix2 0 k) = (m ((c : Thread nD τ).loc main_arg6) (ValueIdx.ix1 (pos k)) : EReal) := by
  entry_read
  pointwise
  rfl

theorem Vwb (b : Fin 3) (k : Fin 512) (n : Fin 1024) : V m c main_v10 (ValueIdx.ix3 b k n) = (m ((c : Thread nD τ).loc main_arg7) (ValueIdx.ix3 b k n) : EReal) := by
  entry_read
  pointwise

theorem Vwo (k n : Fin 1024) : V m c main_v11 (ValueIdx.ix2 k n) = (m ((c : Thread nD τ).loc main_arg8) (ValueIdx.ix2 k n) : EReal) := by
  entry_read
  pointwise

theorem Vg (n : Fin 1024) : V m c main_v12 (ValueIdx.ix2 0 n) = (m ((c : Thread nD τ).loc main_arg9) (ValueIdx.ix1 n) : EReal) := by
  entry_read
  pointwise
  rfl

theorem Vb (n : Fin 1024) : V m c main_v13 (ValueIdx.ix2 0 n) = (m ((c : Thread nD τ).loc main_arg10) (ValueIdx.ix1 n) : EReal) := by
  entry_read
  pointwise
  rfl

theorem blk0 (t : Fin cfg0.N) (r : Fin 256) (k : Fin 512) : iblk m c 0 t (ValueIdx.ix2 r k) = (m ((c : Thread nD τ).loc main_arg0) (ValueIdx.ix2 (row t r) k) : EReal) := by
  obtain ⟨hi, -, -, -, -, -, -, -, -, -, -, -, -, -⟩ := idx t
  refine congrArg (m ((c : Thread nD τ).loc main_arg0)) (funext fun a => Fin.ext ?_)
  match a with
  | ⟨0, _⟩ =>
    show win0_0.index t 0 * 256 + 1 * r.val = (grid0.coords t 0).val * 256 + r.val
    rw [hi]; show (grid0.coords t 0).val * 256 + 1 * r.val = (grid0.coords t 0).val * 256 + r.val; omega
  | ⟨1, _⟩ =>
    show win0_0.index t 1 * 512 + 1 * k.val = k.val
    rw [hi]; show 0 * 512 + 1 * k.val = k.val; omega

theorem blk2 (t : Fin cfg0.N) (r : Fin 256) (k : Fin 512) : iblk m c 2 t (ValueIdx.ix2 r k) = (m ((c : Thread nD τ).loc main_arg2) (ValueIdx.ix2 (row t r) k) : EReal) := by
  obtain ⟨-, -, hi, -, -, -, -, -, -, -, -, -, -, -⟩ := idx t
  refine congrArg (m ((c : Thread nD τ).loc main_arg2)) (funext fun a => Fin.ext ?_)
  match a with
  | ⟨0, _⟩ =>
    show win0_2.index t 0 * 256 + 1 * r.val = (grid0.coords t 0).val * 256 + r.val
    rw [hi]; show (grid0.coords t 0).val * 256 + 1 * r.val = (grid0.coords t 0).val * 256 + r.val; omega
  | ⟨1, _⟩ =>
    show win0_2.index t 1 * 512 + 1 * k.val = k.val
    rw [hi]; show 0 * 512 + 1 * k.val = k.val; omega

theorem blk3 (t : Fin cfg0.N) (r : Fin 256) (k : Fin 512) : iblk m c 3 t (ValueIdx.ix2 r k) = (m ((c : Thread nD τ).loc main_arg3) (ValueIdx.ix2 (row t r) k) : EReal) := by
  obtain ⟨-, -, -, hi, -, -, -, -, -, -, -, -, -, -⟩ := idx t
  refine congrArg (m ((c : Thread nD τ).loc main_arg3)) (funext fun a => Fin.ext ?_)
  match a with
  | ⟨0, _⟩ =>
    show win0_3.index t 0 * 256 + 1 * r.val = (grid0.coords t 0).val * 256 + r.val
    rw [hi]; show (grid0.coords t 0).val * 256 + 1 * r.val = (grid0.coords t 0).val * 256 + r.val; omega
  | ⟨1, _⟩ =>
    show win0_3.index t 1 * 512 + 1 * k.val = k.val
    rw [hi]; show 0 * 512 + 1 * k.val = k.val; omega

theorem blk5 (t : Fin cfg0.N) (r : Fin 256) (k : Fin 1024) : iblk m c 5 t (ValueIdx.ix2 r k) = (m ((c : Thread nD τ).loc main_arg5) (ValueIdx.ix2 (row t r) k) : EReal) := by
  obtain ⟨-, -, -, -, -, hi, -, -, -, -, -, -, -, -⟩ := idx t
  refine congrArg (m ((c : Thread nD τ).loc main_arg5)) (funext fun a => Fin.ext ?_)
  match a with
  | ⟨0, _⟩ =>
    show win0_5.index t 0 * 256 + 1 * r.val = (grid0.coords t 0).val * 256 + r.val
    rw [hi]; show (grid0.coords t 0).val * 256 + 1 * r.val = (grid0.coords t 0).val * 256 + r.val; omega
  | ⟨1, _⟩ =>
    show win0_5.index t 1 * 1024 + 1 * k.val = k.val
    rw [hi]; show 0 * 1024 + 1 * k.val = k.val; omega

theorem blk1_0 (t : Fin cfg0.N) (r : Fin 256) (k : Fin 512) : View.ld (iblk m c 1 t) r0_0 (ValueIdx.ix3 0 r k) = (m ((c : Thread nD τ).loc main_arg1) (ValueIdx.ix3 0 (row t r) k) : EReal) := by
  obtain ⟨-, hi, -, -, -, -, -, -, -, -, -, -, -, -⟩ := idx t
  refine congrArg (m ((c : Thread nD τ).loc main_arg1)) (funext fun a => Fin.ext ?_)
  match a with
  | ⟨0, _⟩ =>
    show win0_1.index t 0 * 2 + 1 * (0 + 1 * 0) = 0
    rw [hi]; show 0 * 2 + 1 * (0 + 1 * 0) = 0; omega
  | ⟨1, _⟩ =>
    show win0_1.index t 1 * 256 + 1 * (0 + 1 * r.val) = (grid0.coords t 0).val * 256 + r.val
    rw [hi]; show (grid0.coords t 0).val * 256 + 1 * (0 + 1 * r.val) = (grid0.coords t 0).val * 256 + r.val; omega
  | ⟨2, _⟩ =>
    show win0_1.index t 2 * 512 + 1 * (0 + 1 * k.val) = k.val
    rw [hi]; show 0 * 512 + 1 * (0 + 1 * k.val) = k.val; omega

theorem blk1_1 (t : Fin cfg0.N) (r : Fin 256) (k : Fin 512) : View.ld (iblk m c 1 t) r0_1 (ValueIdx.ix3 0 r k) = (m ((c : Thread nD τ).loc main_arg1) (ValueIdx.ix3 1 (row t r) k) : EReal) := by
  obtain ⟨-, hi, -, -, -, -, -, -, -, -, -, -, -, -⟩ := idx t
  refine congrArg (m ((c : Thread nD τ).loc main_arg1)) (funext fun a => Fin.ext ?_)
  match a with
  | ⟨0, _⟩ =>
    show win0_1.index t 0 * 2 + 1 * (1 + 1 * 0) = 1
    rw [hi]; show 0 * 2 + 1 * (1 + 1 * 0) = 1; omega
  | ⟨1, _⟩ =>
    show win0_1.index t 1 * 256 + 1 * (0 + 1 * r.val) = (grid0.coords t 0).val * 256 + r.val
    rw [hi]; show (grid0.coords t 0).val * 256 + 1 * (0 + 1 * r.val) = (grid0.coords t 0).val * 256 + r.val; omega
  | ⟨2, _⟩ =>
    show win0_1.index t 2 * 512 + 1 * (0 + 1 * k.val) = k.val
    rw [hi]; show 0 * 512 + 1 * (0 + 1 * k.val) = k.val; omega

theorem blk4_0 (t : Fin cfg0.N) (r : Fin 256) (n : Fin 1024) : View.ld (iblk m c 4 t) r0_6 (ValueIdx.ix2 r n) = (m ((c : Thread nD τ).loc main_arg4) (ValueIdx.ix2 (row t r) (gcol 0 n)) : EReal) := by
  obtain ⟨-, -, -, -, hi, -, -, -, -, -, -, -, -, -⟩ := idx t
  refine congrArg (m ((c : Thread nD τ).loc main_arg4)) (funext fun a => Fin.ext ?_)
  match a with
  | ⟨0, _⟩ =>
    show win0_4.index t 0 * 256 + 1 * (0 + 1 * r.val) = (grid0.coords t 0).val * 256 + r.val
    rw [hi]; show (grid0.coords t 0).val * 256 + 1 * (0 + 1 * r.val) = (grid0.coords t 0).val * 256 + r.val; omega
  | ⟨1, _⟩ =>
    show win0_4.index t 1 * 3072 + 1 * (0 + 1 * n.val) = 0 * 1024 + n.val
    rw [hi]; show 0 * 3072 + 1 * (0 + 1 * n.val) = 0 * 1024 + n.val; omega

theorem blk4_1 (t : Fin cfg0.N) (r : Fin 256) (n : Fin 1024) : View.ld (iblk m c 4 t) r0_8 (ValueIdx.ix2 r n) = (m ((c : Thread nD τ).loc main_arg4) (ValueIdx.ix2 (row t r) (gcol 1 n)) : EReal) := by
  obtain ⟨-, -, -, -, hi, -, -, -, -, -, -, -, -, -⟩ := idx t
  refine congrArg (m ((c : Thread nD τ).loc main_arg4)) (funext fun a => Fin.ext ?_)
  match a with
  | ⟨0, _⟩ =>
    show win0_4.index t 0 * 256 + 1 * (0 + 1 * r.val) = (grid0.coords t 0).val * 256 + r.val
    rw [hi]; show (grid0.coords t 0).val * 256 + 1 * (0 + 1 * r.val) = (grid0.coords t 0).val * 256 + r.val; omega
  | ⟨1, _⟩ =>
    show win0_4.index t 1 * 3072 + 1 * (1024 + 1 * n.val) = 1 * 1024 + n.val
    rw [hi]; show 0 * 3072 + 1 * (1024 + 1 * n.val) = 1 * 1024 + n.val; omega

theorem blk4_2 (t : Fin cfg0.N) (r : Fin 256) (n : Fin 1024) : View.ld (iblk m c 4 t) r0_10 (ValueIdx.ix2 r n) = (m ((c : Thread nD τ).loc main_arg4) (ValueIdx.ix2 (row t r) (gcol 2 n)) : EReal) := by
  obtain ⟨-, -, -, -, hi, -, -, -, -, -, -, -, -, -⟩ := idx t
  refine congrArg (m ((c : Thread nD τ).loc main_arg4)) (funext fun a => Fin.ext ?_)
  match a with
  | ⟨0, _⟩ =>
    show win0_4.index t 0 * 256 + 1 * (0 + 1 * r.val) = (grid0.coords t 0).val * 256 + r.val
    rw [hi]; show (grid0.coords t 0).val * 256 + 1 * (0 + 1 * r.val) = (grid0.coords t 0).val * 256 + r.val; omega
  | ⟨1, _⟩ =>
    show win0_4.index t 1 * 3072 + 1 * (2048 + 1 * n.val) = 2 * 1024 + n.val
    rw [hi]; show 0 * 3072 + 1 * (2048 + 1 * n.val) = 2 * 1024 + n.val; omega

theorem blk6 (t : Fin cfg0.N) (q k : Fin 512) : iblk m c 6 t (ValueIdx.ix2 q k) = (if q.val / 64 = k.val / 64 then (1 : EReal) else 0) := by
  obtain ⟨-, -, -, -, -, -, hi, -, -, -, -, -, -, -⟩ := idx t
  refine Eq.trans (congrArg (V m c main_v9) (funext fun a => Fin.ext ?_)) (Vones m c q k)
  match a with
  | ⟨0, _⟩ =>
    show win0_6.index t 0 * 512 + 1 * q.val = q.val
    rw [hi]; show 0 * 512 + 1 * q.val = q.val; omega
  | ⟨1, _⟩ =>
    show win0_6.index t 1 * 512 + 1 * k.val = k.val
    rw [hi]; show 0 * 512 + 1 * k.val = k.val; omega

theorem blk7 (t : Fin cfg0.N) (k : Fin 512) : iblk m c 7 t (ValueIdx.ix2 0 k) = (m ((c : Thread nD τ).loc main_arg6) (ValueIdx.ix1 (pos k)) : EReal) := by
  obtain ⟨-, -, -, -, -, -, -, hi, -, -, -, -, -, -⟩ := idx t
  refine Eq.trans (congrArg (V m c main_v3) (funext fun a => Fin.ext ?_)) (Vw m c k)
  match a with
  | ⟨0, _⟩ =>
    show win0_7.index t 0 * 1 + 1 * 0 = 0
    rw [hi]; show 0 * 1 + 1 * 0 = 0; omega
  | ⟨1, _⟩ =>
    show win0_7.index t 1 * 512 + 1 * k.val = k.val
    rw [hi]; show 0 * 512 + 1 * k.val = k.val; omega

theorem blk8_0 (t : Fin cfg0.N) (k : Fin 512) (n : Fin 1024) : View.ld (iblk m c 8 t) r0_5 (ValueIdx.ix3 0 k n) = (m ((c : Thread nD τ).loc main_arg7) (ValueIdx.ix3 0 k n) : EReal) := by
  obtain ⟨-, -, -, -, -, -, -, -, hi, -, -, -, -, -⟩ := idx t
  refine Eq.trans (congrArg (V m c main_v10) (funext fun a => Fin.ext ?_)) (Vwb m c 0 k n)
  match a with
  | ⟨0, _⟩ =>
    show win0_8.index t 0 * 3 + 1 * (0 + 1 * 0) = 0
    rw [hi]; show 0 * 3 + 1 * (0 + 1 * 0) = 0; omega
  | ⟨1, _⟩ =>
    show win0_8.index t 1 * 512 + 1 * (0 + 1 * k.val) = k.val
    rw [hi]; show 0 * 512 + 1 * (0 + 1 * k.val) = k.val; omega
  | ⟨2, _⟩ =>
    show win0_8.index t 2 * 1024 + 1 * (0 + 1 * n.val) = n.val
    rw [hi]; show 0 * 1024 + 1 * (0 + 1 * n.val) = n.val; omega

theorem blk8_1 (t : Fin cfg0.N) (k : Fin 512) (n : Fin 1024) : View.ld (iblk m c 8 t) r0_7 (ValueIdx.ix3 0 k n) = (m ((c : Thread nD τ).loc main_arg7) (ValueIdx.ix3 1 k n) : EReal) := by
  obtain ⟨-, -, -, -, -, -, -, -, hi, -, -, -, -, -⟩ := idx t
  refine Eq.trans (congrArg (V m c main_v10) (funext fun a => Fin.ext ?_)) (Vwb m c 1 k n)
  match a with
  | ⟨0, _⟩ =>
    show win0_8.index t 0 * 3 + 1 * (1 + 1 * 0) = 1
    rw [hi]; show 0 * 3 + 1 * (1 + 1 * 0) = 1; omega
  | ⟨1, _⟩ =>
    show win0_8.index t 1 * 512 + 1 * (0 + 1 * k.val) = k.val
    rw [hi]; show 0 * 512 + 1 * (0 + 1 * k.val) = k.val; omega
  | ⟨2, _⟩ =>
    show win0_8.index t 2 * 1024 + 1 * (0 + 1 * n.val) = n.val
    rw [hi]; show 0 * 1024 + 1 * (0 + 1 * n.val) = n.val; omega

theorem blk8_2 (t : Fin cfg0.N) (k : Fin 512) (n : Fin 1024) : View.ld (iblk m c 8 t) r0_9 (ValueIdx.ix3 0 k n) = (m ((c : Thread nD τ).loc main_arg7) (ValueIdx.ix3 2 k n) : EReal) := by
  obtain ⟨-, -, -, -, -, -, -, -, hi, -, -, -, -, -⟩ := idx t
  refine Eq.trans (congrArg (V m c main_v10) (funext fun a => Fin.ext ?_)) (Vwb m c 2 k n)
  match a with
  | ⟨0, _⟩ =>
    show win0_8.index t 0 * 3 + 1 * (2 + 1 * 0) = 2
    rw [hi]; show 0 * 3 + 1 * (2 + 1 * 0) = 2; omega
  | ⟨1, _⟩ =>
    show win0_8.index t 1 * 512 + 1 * (0 + 1 * k.val) = k.val
    rw [hi]; show 0 * 512 + 1 * (0 + 1 * k.val) = k.val; omega
  | ⟨2, _⟩ =>
    show win0_8.index t 2 * 1024 + 1 * (0 + 1 * n.val) = n.val
    rw [hi]; show 0 * 1024 + 1 * (0 + 1 * n.val) = n.val; omega

theorem blk9 (t : Fin cfg0.N) (k n : Fin 1024) : iblk m c 9 t (ValueIdx.ix2 k n) = (m ((c : Thread nD τ).loc main_arg8) (ValueIdx.ix2 k n) : EReal) := by
  obtain ⟨-, -, -, -, -, -, -, -, -, hi, -, -, -, -⟩ := idx t
  refine Eq.trans (congrArg (V m c main_v11) (funext fun a => Fin.ext ?_)) (Vwo m c k n)
  match a with
  | ⟨0, _⟩ =>
    show win0_9.index t 0 * 1024 + 1 * k.val = k.val
    rw [hi]; show 0 * 1024 + 1 * k.val = k.val; omega
  | ⟨1, _⟩ =>
    show win0_9.index t 1 * 1024 + 1 * n.val = n.val
    rw [hi]; show 0 * 1024 + 1 * n.val = n.val; omega

theorem blk10 (t : Fin cfg0.N) (n : Fin 1024) : iblk m c 10 t (ValueIdx.ix2 0 n) = (m ((c : Thread nD τ).loc main_arg9) (ValueIdx.ix1 n) : EReal) := by
  obtain ⟨-, -, -, -, -, -, -, -, -, -, hi, -, -, -⟩ := idx t
  refine Eq.trans (congrArg (V m c main_v12) (funext fun a => Fin.ext ?_)) (Vg m c n)
  match a with
  | ⟨0, _⟩ =>
    show win0_10.index t 0 * 1 + 1 * 0 = 0
    rw [hi]; show 0 * 1 + 1 * 0 = 0; omega
  | ⟨1, _⟩ =>
    show win0_10.index t 1 * 1024 + 1 * n.val = n.val
    rw [hi]; show 0 * 1024 + 1 * n.val = n.val; omega

theorem blk11 (t : Fin cfg0.N) (n : Fin 1024) : iblk m c 11 t (ValueIdx.ix2 0 n) = (m ((c : Thread nD τ).loc main_arg10) (ValueIdx.ix1 n) : EReal) := by
  obtain ⟨-, -, -, -, -, -, -, -, -, -, -, hi, -, -⟩ := idx t
  refine Eq.trans (congrArg (V m c main_v13) (funext fun a => Fin.ext ?_)) (Vb m c n)
  match a with
  | ⟨0, _⟩ =>
    show win0_11.index t 0 * 1 + 1 * 0 = 0
    rw [hi]; show 0 * 1 + 1 * 0 = 0; omega
  | ⟨1, _⟩ =>
    show win0_11.index t 1 * 1024 + 1 * n.val = n.val
    rw [hi]; show 0 * 1024 + 1 * n.val = n.val; omega

/-- Whole blocks are read as they are. -/
theorem whole13 (t : Fin cfg0.N) : k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    = k0_pay10 (iblk m c 3 t) (k0_pay6 (k0_pay3 (View.ld (iblk m c 1 t) r0_0) (View.ld (iblk m c 1 t) r0_1) (iblk m c 6 t) (iblk m c 7 t)) (k0_pay4 (iblk m c 2 t)) (k0_pay5 (iblk m c 2 t)) (iblk m c 0 t)
        (View.ld (iblk m c 8 t) r0_5) (View.ld (iblk m c 4 t) r0_6) (View.ld (iblk m c 8 t) r0_7) (View.ld (iblk m c 4 t) r0_8))
      (k0_pay7 (View.ld (iblk m c 8 t) r0_9)) (constant S256x1024 .f32 0x00000000#32) (View.ld (iblk m c 4 t) r0_10) (iblk m c 9 t) (iblk m c 5 t) := by
  unfold k0_pay13
  frame_out
  rfl

/-- What one grid point writes. -/
theorem point (h : ∀ r k, IsReal (odRow (m ((c : Thread nD τ).loc main_arg1)) r k)) (t : Fin cfg0.N) (r : Fin 256) (n : Fin 1024) :
    k0_pay1 (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ValueIdx.ix2 r n)
      = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ValueIdx.ix2 (row t r) n) := by
  have e11 : k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay8 (iblk m c 10 t) := by
    unfold k0_pay11; frame_out
  have e12 : k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay9 (iblk m c 11 t) := by
    unfold k0_pay12; frame_out
  rw [e11, e12, whole13, ref]
  refine (pay1 _ _ _ _ _ _ _ _ r n).trans ?_
  have hd : ∀ k, ((k0_pay3 (View.ld (iblk m c 1 t) r0_0) (View.ld (iblk m c 1 t) r0_1) (iblk m c 6 t) (iblk m c 7 t)) (ValueIdx.ix2 r k)
      * (k0_pay4 (iblk m c 2 t) (ValueIdx.ix2 r k) * k0_pay5 (iblk m c 2 t) (ValueIdx.ix2 r k)) : EReal)
      = delta (odRow (m ((c : Thread nD τ).loc main_arg1)) (row t r)) (fun k => m ((c : Thread nD τ).loc main_arg2) (ValueIdx.ix2 (row t r) k)) (fun d => m ((c : Thread nD τ).loc main_arg6) (ValueIdx.ix1 d)) k := fun k => by
    rw [pay3 _ _ _ _ (odRow (m ((c : Thread nD τ).loc main_arg1)) (row t r)) r k (fun q => congrArg₂ (fun a b : EReal => a + b) (blk1_0 m c t r q) (blk1_1 m c t r q))
      (fun q => blk6 m c t q k) (h _), pay4, pay5, blk7, blk2]
    rfl
  have hm : ∀ j, (k0_pay6 (k0_pay3 (View.ld (iblk m c 1 t) r0_0) (View.ld (iblk m c 1 t) r0_1) (iblk m c 6 t) (iblk m c 7 t)) (k0_pay4 (iblk m c 2 t)) (k0_pay5 (iblk m c 2 t)) (iblk m c 0 t)
        (View.ld (iblk m c 8 t) r0_5) (View.ld (iblk m c 4 t) r0_6) (View.ld (iblk m c 8 t) r0_7) (View.ld (iblk m c 4 t) r0_8) (ValueIdx.ix2 r j)
      + gate (View.ld (iblk m c 4 t) r0_10 (ValueIdx.ix2 r j)) * (∑ k : Fin 512, @HMul.hMul EReal EReal EReal instHMul (iblk m c 3 t (ValueIdx.ix2 r k)) (View.ld (iblk m c 8 t) r0_9 (ValueIdx.ix3 0 k j))) : EReal)
      = merged (fun k => m ((c : Thread nD τ).loc main_arg0) (ValueIdx.ix2 (row t r) k))
        (delta (odRow (m ((c : Thread nD τ).loc main_arg1)) (row t r)) (fun k => m ((c : Thread nD τ).loc main_arg2) (ValueIdx.ix2 (row t r) k)) (fun d => m ((c : Thread nD τ).loc main_arg6) (ValueIdx.ix1 d)))
        (fun k => m ((c : Thread nD τ).loc main_arg3) (ValueIdx.ix2 (row t r) k)) (fun b => m ((c : Thread nD τ).loc main_arg4) (ValueIdx.ix2 (row t r) (gcol b j)))
        (fun b k => m ((c : Thread nD τ).loc main_arg7) (ValueIdx.ix3 b k j)) := fun j => by
    rw [pay6]
    simp only [hd, blk0, blk3, blk4_0, blk4_1, blk4_2, blk8_0, blk8_1, blk8_2]
    rfl
  simp only [hm, blk5, blk9, blk10, blk11]

/-- The array that the launch leaves. -/
theorem arr12 (h : ∀ r k, IsReal (odRow (m ((c : Thread nD τ).loc main_arg1)) r k)) : (dats m 0 c).arrAt 12 cfg0.N
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12]
  frame_out
  obtain ⟨r, n, rfl⟩ : ∃ (r : Fin 256) (n : Fin 1024), y = ValueIdx.ix2 r n := ⟨_, _, ValueIdx.eq_ix2 y⟩
  refine (point m c h t r n).trans (congrArg (val_main_v93 (F := Ideal) _ _ _ _ _ _ _ _ _ _ _) (funext fun a => Fin.ext ?_))
  obtain ⟨-, -, -, -, -, -, -, -, -, -, -, -, hi, -⟩ := idx t
  match a with
  | ⟨0, _⟩ =>
    show (grid0.coords t 0).val * 256 + r.val = win0_12.index t 0 * 256 + 1 * r.val
    rw [hi]; show _ = (grid0.coords t 0).val * 256 + 1 * r.val; omega
  | ⟨1, _⟩ =>
    show n.val = win0_12.index t 1 * 1024 + 1 * n.val
    rw [hi]; show _ = 0 * 1024 + 1 * n.val; omega

/-- Its rounded copy. -/
theorem arr13 (h : ∀ r k, IsReal (odRow (m ((c : Thread nD τ).loc main_arg1)) r k)) : (dats m 0 c).arrAt 13 cfg0.N
    = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp
  rw [after0_13]
  frame_out
  obtain ⟨r, n, rfl⟩ : ∃ (r : Fin 256) (n : Fin 1024), y = ValueIdx.ix2 r n := ⟨_, _, ValueIdx.eq_ix2 y⟩
  refine (pay2 _ _ _ _).trans ((point m c h t r n).trans ((congrArg (val_main_v93 (F := Ideal) _ _ _ _ _ _ _ _ _ _ _) (funext fun a => Fin.ext ?_)).trans
    (refRounded _ _ _ _ _ _ _ _ _ _ _ _).symm))
  obtain ⟨-, -, -, -, -, -, -, -, -, -, -, -, -, hi⟩ := idx t
  match a with
  | ⟨0, _⟩ =>
    show (grid0.coords t 0).val * 256 + r.val = win0_13.index t 0 * 256 + 1 * r.val
    rw [hi]; show _ = (grid0.coords t 0).val * 256 + 1 * r.val; omega
  | ⟨1, _⟩ =>
    show n.val = win0_13.index t 1 * 1024 + 1 * n.val
    rw [hi]; show _ = 0 * 1024 + 1 * n.val; omega

end Cert.MergeVal

end
-- ==== Proof.Merge.Claim.lean ====
/- The value claim, from the arrays that the launch leaves and the reference's expressions. -/
module

public import proofs.«01_k».proof.Defs
public import proofs.«01_k».proof.Proof.Gen.MergeRefIdeal.Run
public import proofs.«01_k».proof.Proof.Gen.MergeRefIdeal.Read
public import proofs.«01_k».proof.Proof.Merge.Value
public import proofs.«01_k».proof.Proof.Gen.Pre_merge_finite
public import proofs.«01_k».proof.Proof.Gen.MergeIdeal.Value

@[expose] public section

noncomputable section

namespace Cert.MergeVal

open Cert.FiniteVal Idealize.ShloMosaic Idealize.ShloMosaic.TcCoe Idealize.SL.Sem

/-- The two directions' sum is a real number where each direction's entry is one. -/
theorem finite (m : (ℓ : Loc Cert.MergeIdeal.nD Cert.MergeIdeal.τ Cert.MergeIdeal.sig) → Buf (Elt Ideal) ℓ) (c : Dev Cert.MergeIdeal.nD)
    (h : Cert.Pre_MergeIdeal_merge_finite m) (r : Fin 32768) (k : Fin 512) :
    IsReal (odRow (m ((c : Thread Cert.MergeIdeal.nD Cert.MergeIdeal.τ).loc Cert.MergeIdeal.main_arg1)) r k) :=
  IsReal.add (of_abs_lt (congrFun (h c) (ValueIdx.ix3 0 r k))) (of_abs_lt (congrFun (h c) (ValueIdx.ix3 1 r k)))

theorem algebraic : Cert.algebraic_MergeIdeal_MergeRefIdeal_pre_merge_finite := fun m g m' g' hp hargs =>
  ⟨fun c => Cert.MergeRefIdeal.Read.val_main_v93 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)),
    fun c => Cert.MergeRefIdeal.Read.val_main_v94 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)),
    (θ_run _ _ _).mono (fun r h c => by
      obtain ⟨h0, h1, k⟩ := h c
      exact ⟨h0.trans (arr12 m c (finite m c hp)), h1.trans (arr13 m c (finite m c hp)), k⟩) (Cert.MergeIdeal.Value.run_blocks m g),
    (θ_run _ _ _).mono (fun r h c => by
      obtain ⟨a0, a1, a2, a3, a4, a5, a6, a7, a8, a9, a10⟩ := hargs c
      obtain ⟨h0, h1, k⟩ := h c
      refine ⟨?_, ?_, k⟩
      · refine h0.trans ?_
        simp only [← a0, ← a1, ← a2, ← a3, ← a4, ← a5, ← a6, ← a7, ← a8, ← a9, ← a10]
        exact Cert.MergeRefIdeal.Read.val_main_v93_eq m' c
      · refine h1.trans ?_
        simp only [← a0, ← a1, ← a2, ← a3, ← a4, ← a5, ← a6, ← a7, ← a8, ← a9, ← a10]
        exact Cert.MergeRefIdeal.Read.val_main_v94_eq m' c) (Cert.MergeRefIdeal.Value.run m' g')⟩

end Cert.MergeVal
end
-- ==== Proof.lean ====
/- The claims, each from its own module: the frames are the programs' runs, the value claims the theorems named
   `algebraic`. -/
module

public import proofs.«01_k».proof.Defs
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Run
public import proofs.«01_k».proof.Proof.Gen.Pre_prep_finite
public import proofs.«01_k».proof.Proof.Prep.Claim
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Pool.Claim
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Pre_attn_finite
public import proofs.«01_k».proof.Proof.Attn.Claim
public import proofs.«01_k».proof.Proof.Gen.Gmm
public import proofs.«01_k».proof.Proof.Gen.Gmm.Frame
public import proofs.«01_k».proof.Proof.Gen.GmmIdeal
public import proofs.«01_k».proof.Proof.Gen.GmmIdeal.Frame
public import proofs.«01_k».proof.Proof.Gen.GmmRefIdeal
public import proofs.«01_k».proof.Proof.Gen.GmmRefIdeal.Run
public import proofs.«01_k».proof.Proof.Gmm.Claim
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineRefIdeal
public import proofs.«01_k».proof.Proof.Gen.CombineRefIdeal.Run
public import proofs.«01_k».proof.Proof.Combine.Claim
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Inproj.Claim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Ffn.Claim
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterRefIdeal
public import proofs.«01_k».proof.Proof.Gen.RouterRefIdeal.Run
public import proofs.«01_k».proof.Proof.Gen.Pre_router_finite
public import proofs.«01_k».proof.Proof.Router.Claim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Pre_merge_finite
public import proofs.«01_k».proof.Proof.Merge.Claim
public import Idealize.ShloMosaic.Adequacy
public import Idealize.ShloMosaic.Init

@[expose] public section

noncomputable section

namespace Cert.Proof

open Idealize.ShloMosaic Idealize.SL.Sem

theorem claim : Cert.Claim :=
  ⟨Cert.Prep.Gen.facts,
   Cert.PrepIdeal.Gen.facts,
   Cert.PrepRefIdeal.Gen.facts,
   Cert.Pool.Gen.facts,
   Cert.PoolIdeal.Gen.facts,
   Cert.PoolRefIdeal.Gen.facts,
   Cert.Attn.Gen.facts,
   Cert.AttnIdeal.Gen.facts,
   Cert.AttnRefIdeal.Gen.facts,
   Cert.Gmm.Gen.facts,
   Cert.GmmIdeal.Gen.facts,
   Cert.GmmRefIdeal.Gen.facts,
   Cert.Combine.Gen.facts,
   Cert.CombineIdeal.Gen.facts,
   Cert.CombineRefIdeal.Gen.facts,
   Cert.Inproj.Gen.facts,
   Cert.InprojIdeal.Gen.facts,
   Cert.InprojRefIdeal.Gen.facts,
   Cert.Ffn.Gen.facts,
   Cert.FfnIdeal.Gen.facts,
   Cert.FfnRefIdeal.Gen.facts,
   Cert.Router.Gen.facts,
   Cert.RouterIdeal.Gen.facts,
   Cert.RouterRefIdeal.Gen.facts,
   Cert.Merge.Gen.facts,
   Cert.MergeIdeal.Gen.facts,
   Cert.MergeRefIdeal.Gen.facts,
   Cert.Pre_prep_finite.Gen.facts,
   Cert.Pre_attn_finite.Gen.facts,
   Cert.Pre_router_finite.Gen.facts,
   Cert.Pre_merge_finite.Gen.facts,
   fun m ρ _ => Cert.Prep.Gen.frame m ρ,
   fun m ρ _ => Cert.PrepIdeal.Gen.frame m ρ,
   fun m ρ _ => Cert.PrepIdeal.Gen.frame m ρ,
   fun m ρ _ => (θ_run _ _ _).mono (fun r h => ⟨fun c => (h c).2, sem_eq_zero_of_no_sems rfl r.2⟩) (Cert.PrepRefIdeal.Value.run m ρ),
   fun m ρ _ => (θ_run _ _ _).mono (fun r h => ⟨fun c => (h c).2, sem_eq_zero_of_no_sems rfl r.2⟩) (Cert.PrepRefIdeal.Value.run m ρ),
   fun m ρ _ => Cert.Pool.Gen.frame m ρ,
   fun m ρ _ => Cert.PoolIdeal.Gen.frame m ρ,
   fun m ρ _ => (θ_run _ _ _).mono (fun r h => ⟨fun c => (h c).2, sem_eq_zero_of_no_sems rfl r.2⟩) (Cert.PoolRefIdeal.Value.run m ρ),
   fun m ρ _ => Cert.Attn.Gen.frame m ρ,
   fun m ρ _ => Cert.AttnIdeal.Gen.frame m ρ,
   fun m ρ _ => Cert.AttnIdeal.Gen.frame m ρ,
   fun m ρ _ => (θ_run _ _ _).mono (fun r h => ⟨fun c => (h c).2, sem_eq_zero_of_no_sems rfl r.2⟩) (Cert.AttnRefIdeal.Value.run m ρ),
   fun m ρ _ => (θ_run _ _ _).mono (fun r h => ⟨fun c => (h c).2, sem_eq_zero_of_no_sems rfl r.2⟩) (Cert.AttnRefIdeal.Value.run m ρ),
   fun m ρ _ => Cert.Gmm.Gen.frame m ρ (Cert.GmmVal.Bit.ok m),
   fun m ρ _ => Cert.GmmIdeal.Gen.frame m ρ (Cert.GmmVal.ok m),
   fun m ρ _ => (θ_run _ _ _).mono (fun r h => ⟨fun c => (h c).2, sem_eq_zero_of_no_sems rfl r.2⟩) (Cert.GmmRefIdeal.Value.run m ρ),
   fun m ρ _ => Cert.Combine.Gen.frame m ρ,
   fun m ρ _ => Cert.CombineIdeal.Gen.frame m ρ,
   fun m ρ _ => (θ_run _ _ _).mono (fun r h => ⟨fun c => (h c).2, sem_eq_zero_of_no_sems rfl r.2⟩) (Cert.CombineRefIdeal.Value.run m ρ),
   fun m ρ _ => Cert.Inproj.Gen.frame m ρ,
   fun m ρ _ => Cert.InprojIdeal.Gen.frame m ρ,
   fun m ρ _ => (θ_run _ _ _).mono (fun r h => ⟨fun c => (h c).2.2.2.2.2.2.2, sem_eq_zero_of_no_sems rfl r.2⟩) (Cert.InprojRefIdeal.Value.run m ρ),
   fun m ρ _ => Cert.Ffn.Gen.frame m ρ,
   fun m ρ _ => Cert.FfnIdeal.Gen.frame m ρ,
   fun m ρ _ => (θ_run _ _ _).mono (fun r h => ⟨fun c => (h c).2.2, sem_eq_zero_of_no_sems rfl r.2⟩) (Cert.FfnRefIdeal.Value.run m ρ),
   fun m ρ _ => Cert.Router.Gen.frame m ρ,
   fun m ρ _ => Cert.RouterIdeal.Gen.frame m ρ,
   fun m ρ _ => Cert.RouterIdeal.Gen.frame m ρ,
   fun m ρ _ => (θ_run _ _ _).mono (fun r h => ⟨fun c => (h c).2, sem_eq_zero_of_no_sems rfl r.2⟩) (Cert.RouterRefIdeal.Value.run m ρ),
   fun m ρ _ => (θ_run _ _ _).mono (fun r h => ⟨fun c => (h c).2, sem_eq_zero_of_no_sems rfl r.2⟩) (Cert.RouterRefIdeal.Value.run m ρ),
   fun m ρ _ => Cert.Merge.Gen.frame m ρ,
   fun m ρ _ => Cert.MergeIdeal.Gen.frame m ρ,
   fun m ρ _ => Cert.MergeIdeal.Gen.frame m ρ,
   fun m ρ _ => (θ_run _ _ _).mono (fun r h => ⟨fun c => (h c).2.2, sem_eq_zero_of_no_sems rfl r.2⟩) (Cert.MergeRefIdeal.Value.run m ρ),
   fun m ρ _ => (θ_run _ _ _).mono (fun r h => ⟨fun c => (h c).2.2, sem_eq_zero_of_no_sems rfl r.2⟩) (Cert.MergeRefIdeal.Value.run m ρ),
   trivial,
   Cert.PrepVal.algebraic,
   trivial,
   Cert.PoolVal.algebraic,
   trivial,
   Cert.AttnVal.algebraic,
   trivial,
   Cert.GmmVal.algebraic,
   trivial,
   Cert.CombineVal.algebraic,
   trivial,
   Cert.InprojVal.algebraic,
   trivial,
   Cert.FfnVal.algebraic,
   trivial,
   Cert.RouterVal.algebraic,
   trivial,
   Cert.MergeVal.algebraic⟩

end Cert.Proof

end
